-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_drawn [hPre_drawn : Cert.Pre_drawn.Facts] (m : (ℓ : Loc Cert.KernelIdeal.nD Cert.KernelIdeal.τ Cert.KernelIdeal.sig) → Buf (Elt Ideal) ℓ) : Prop :=
  ∀ c : Dev Cert.KernelIdeal.nD,
    (Cert.Pre_drawn.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_drawn [hPre_drawn : Cert.Pre_drawn.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_drawn.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_drawn [hKernelIdeal : Cert.KernelIdeal.Facts] [hPre_drawn : Cert.Pre_drawn.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_drawn m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_drawn [hReferenceIdeal : Cert.ReferenceIdeal.Facts] [hPre_drawn : Cert.Pre_drawn.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_drawn m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_drawn [hKernelIdeal : Cert.KernelIdeal.Facts] [hReferenceIdeal : Cert.ReferenceIdeal.Facts] [hPre_drawn : Cert.Pre_drawn.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_drawn m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v26)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v26) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v381) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_drawn : Cert.Pre_drawn.Facts),
    quiescent_Kernel (hKernel := hKernel)
    ∧ quiescent_KernelIdeal (hKernelIdeal := hKernelIdeal)
    ∧ quiescent_KernelIdeal_pre_drawn (hKernelIdeal := hKernelIdeal) (hPre_drawn := hPre_drawn)
    ∧ quiescent_ReferenceIdeal (hReferenceIdeal := hReferenceIdeal)
    ∧ quiescent_ReferenceIdeal_pre_drawn (hReferenceIdeal := hReferenceIdeal) (hPre_drawn := hPre_drawn)
    ∧ preserves_Kernel_KernelIdeal
    ∧ algebraic_KernelIdeal_ReferenceIdeal_pre_drawn (hKernelIdeal := hKernelIdeal) (hReferenceIdeal := hReferenceIdeal) (hPre_drawn := hPre_drawn)
-- ==== Pre_drawn.lean ====
abbrev S16x425x64x64 : Shape := ⟨4, ![16, 425, 64, 64]⟩
abbrev S16x250 : Shape := ⟨2, ![16, 250]⟩
abbrev S_ : Shape := ⟨0, ![]⟩
abbrev S16x1 : Shape := ⟨2, ![16, 1]⟩
abbrev S16 : Shape := ⟨1, ![16]⟩

class Facts : Prop where
  bcast_S_S16x425x64x64 : S_.BroadcastsInDim S16x425x64x64 (![] : Fin 0 → Fin S16x425x64x64.rank)
  reducesTo_S16x425x64x64_S_d0_1_2_3 : S16x425x64x64.ReducesTo [0, 1, 2, 3] S_
  h_S_ : 0 < S_.numel
  bcast_S_S16x250 : S_.BroadcastsInDim S16x250 (![] : Fin 0 → Fin S16x250.rank)
  reducesTo_S16x250_S_d0_1 : S16x250.ReducesTo [0, 1] S_
  slices_S16x250_S16x1_0_1 : S16x250.Slices ![0, 1] S16x1
  shapeCasts_S16x1_S16 : S16x1.ShapeCasts S16
  bcast_S_S16 : S_.BroadcastsInDim S16 (![] : Fin 0 → Fin S16.rank)
  reducesTo_S16_S_d0 : S16.ReducesTo [0] S_

variable [Facts]

def fn_part1 {F : FTy → Type} [FloatOps F] (main_v10 : IVec S_ 1) (main_v16 : IVec S_ 1) : IVec S_ 1 :=
  let main_v17 : IVec S_ 1 := andi main_v10 main_v16
  main_v17

def fn {F : FTy → Type} [FloatOps F] (main_arg0 : FVec F S16x425x64x64 .f32) (main_arg1 : FVec F S16x250 .f32) : IVec S_ 1 :=
  let main_v0 : FVec F S16x425x64x64 .f32 := Host.absf main_arg0
  let main_cst : FVec F S_ .f32 := constant S_ .f32 0x7F800000#32
  let main_v1 : FVec F S16x425x64x64 .f32 := broadcastInDim S16x425x64x64 ![] bcast_S_S16x425x64x64 main_cst
  let main_v2 : IVec S16x425x64x64 1 := cmpf .olt main_v0 main_v1
  let main_c : IVec S_ 1 := constantI S_ 1 1#1
  let main_v3 : IVec S_ 1 := (fun x v => Host.reduce IntOp.andi x v reducesTo_S16x425x64x64_S_d0_1_2_3 h_S_) main_v2 main_c
  let main_cst_0 : FVec F S_ .f32 := constant S_ .f32 0x00000000#32
  let main_v4 : FVec F S16x250 .f32 := broadcastInDim S16x250 ![] bcast_S_S16x250 main_cst_0
  let main_v5 : IVec S16x250 1 := cmpf .oge main_arg1 main_v4
  let main_cst_1 : FVec F S_ .f32 := constant S_ .f32 0x3F800000#32
  let main_v6 : FVec F S16x250 .f32 := broadcastInDim S16x250 ![] bcast_S_S16x250 main_cst_1
  let main_v7 : IVec S16x250 1 := cmpf .olt main_arg1 main_v6
  let main_v8 : IVec S16x250 1 := andi main_v5 main_v7
  let main_c_2 : IVec S_ 1 := constantI S_ 1 1#1
  let main_v9 : IVec S_ 1 := (fun x v => Host.reduce IntOp.andi x v reducesTo_S16x250_S_d0_1 h_S_) main_v8 main_c_2
  let main_v10 : IVec S_ 1 := andi main_v3 main_v9
  let main_v11 : FVec F S16x1 .f32 := (extractStridedSlice S16x1 ![0, 1] · slices_S16x250_S16x1_0_1) main_arg1
  let main_v12 : FVec F S16 .f32 := shapeCast S16 main_v11 shapeCasts_S16x1_S16
  let main_cst_3 : FVec F S_ .f32 := constant S_ .f32 0x00000000#32
  let main_v13 : FVec F S16 .f32 := broadcastInDim S16 ![] bcast_S_S16 main_cst_3
  let main_v14 : IVec S16 1 := cmpf .oeq main_v12 main_v13
  let main_c_4 : IVec S_ 1 := constantI S_ 1 1#1
  let main_v15 : IVec S_ 1 := (fun x v => Host.reduce IntOp.andi x v reducesTo_S16_S_d0 h_S_) main_v14 main_c_4
  let main_v16 : IVec S_ 1 := noti main_v15
  fn_part1 (F := F) main_v10 main_v16
-- ==== Kernel.lean ====
abbrev S16x425x64x64 : Shape := ⟨4, ![16, 425, 64, 64]⟩
abbrev S16x250 : Shape := ⟨2, ![16, 250]⟩
abbrev S16x425x32x128 : Shape := ⟨4, ![16, 425, 32, 128]⟩
abbrev S16x50x5 : Shape := ⟨3, ![16, 50, 5]⟩
abbrev S16x5x50 : Shape := ⟨3, ![16, 5, 50]⟩
abbrev S_ : Shape := ⟨0, ![]⟩
abbrev S16x5x128 : Shape := ⟨3, ![16, 5, 128]⟩
abbrev S16x640 : Shape := ⟨2, ![16, 640]⟩
abbrev S16x8x128 : Shape := ⟨3, ![16, 8, 128]⟩
abbrev S1x5x128 : Shape := ⟨3, ![1, 5, 128]⟩
abbrev S1x85x32x128 : Shape := ⟨4, ![1, 85, 32, 128]⟩
abbrev S1x8x128 : Shape := ⟨3, ![1, 8, 128]⟩
abbrev S14x128 : Shape := ⟨2, ![14, 128]⟩
abbrev S1x1 : Shape := ⟨2, ![1, 1]⟩
abbrev S32x128 : Shape := ⟨2, ![32, 128]⟩
abbrev S1x1x32x128 : Shape := ⟨4, ![1, 1, 32, 128]⟩
abbrev S128 : Shape := ⟨1, ![128]⟩
abbrev S1x128 : Shape := ⟨2, ![1, 128]⟩
abbrev S1x1x128 : Shape := ⟨3, ![1, 1, 128]⟩
abbrev S1 : Shape := ⟨1, ![1]⟩
abbrev S8x128 : Shape := ⟨2, ![8, 128]⟩
abbrev S8 : Shape := ⟨1, ![8]⟩

abbrev nBuf : Space → Nat
  | .hbm => 32
  | .vmem => 6
  | .smem => 2
  | _ => 0

abbrev bufTy : (tb : Table) → Fin (tcTables nBuf tb) → BufTy
  | .hbm, ⟨0, _⟩ => ⟨S16x425x64x64, .f32⟩
  | .hbm, ⟨1, _⟩ => ⟨S16x250, .f32⟩
  | .hbm, ⟨2, _⟩ => ⟨S16x425x32x128, .f32⟩
  | .hbm, ⟨3, _⟩ => ⟨S16x50x5, .f32⟩
  | .hbm, ⟨4, _⟩ => ⟨S16x5x50, .f32⟩
  | .hbm, ⟨5, _⟩ => ⟨S_, .i32⟩
  | .hbm, ⟨6, _⟩ => ⟨S_, .f32⟩
  | .hbm, ⟨7, _⟩ => ⟨S16x5x128, .f32⟩
  | .hbm, ⟨8, _⟩ => ⟨S16x640, .f32⟩
  | .hbm, ⟨9, _⟩ => ⟨S16x8x128, .f32⟩
  | .hbm, ⟨10, _⟩ => ⟨S_, .f32⟩
  | .hbm, ⟨11, _⟩ => ⟨S8, .f32⟩
  | .hbm, ⟨12, _⟩ => ⟨S1, .f32⟩
  | .hbm, ⟨13, _⟩ => ⟨S_, .f32⟩
  | .hbm, ⟨14, _⟩ => ⟨S1, .f32⟩
  | .hbm, ⟨15, _⟩ => ⟨S_, .f32⟩
  | .hbm, ⟨16, _⟩ => ⟨S1, .f32⟩
  | .hbm, ⟨17, _⟩ => ⟨S_, .f32⟩
  | .hbm, ⟨18, _⟩ => ⟨S_, .f32⟩
  | .hbm, ⟨19, _⟩ => ⟨S1, .f32⟩
  | .hbm, ⟨20, _⟩ => ⟨S_, .f32⟩
  | .hbm, ⟨21, _⟩ => ⟨S_, .f32⟩
  | .hbm, ⟨22, _⟩ => ⟨S1, .f32⟩
  | .hbm, ⟨23, _⟩ => ⟨S_, .f32⟩
  | .hbm, ⟨24, _⟩ => ⟨S_, .f32⟩
  | .hbm, ⟨25, _⟩ => ⟨S1, .f32⟩
  | .hbm, ⟨26, _⟩ => ⟨S_, .f32⟩
  | .hbm, ⟨27, _⟩ => ⟨S_, .f32⟩
  | .hbm, ⟨28, _⟩ => ⟨S1, .f32⟩
  | .hbm, ⟨29, _⟩ => ⟨S_, .f32⟩
  | .hbm, ⟨30, _⟩ => ⟨S_, .f32⟩
  | .hbm, ⟨31, _⟩ => ⟨S_, .f32⟩
  | .local _ .vmem, ⟨0, _⟩ => ⟨S1x5x128, .f32⟩
  | .local _ .vmem, ⟨1, _⟩ => ⟨S1x5x128, .f32⟩
  | .local _ .vmem, ⟨2, _⟩ => ⟨S1x85x32x128, .f32⟩
  | .local _ .vmem, ⟨3, _⟩ => ⟨S1x85x32x128, .f32⟩
  | .local _ .vmem, ⟨4, _⟩ => ⟨S1x8x128, .f32⟩
  | .local _ .vmem, ⟨5, _⟩ => ⟨S1x8x128, .f32⟩
  | .local _ .smem, ⟨0, _⟩ => ⟨S16x640, .f32⟩
  | .local _ .smem, ⟨1, _⟩ => ⟨S14x128, .f32⟩
  | _, _ => ⟨S16x425x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_c : Ref sig .tc := ⟨.hbm, 5, rfl⟩
abbrev main_call0_v0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg0_0 : Ref sig .tc := ⟨.smem, 0, rfl⟩
abbrev cc0_scratch0 : Ref sig .tc := ⟨.smem, 1, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![16, 5], ![false, false]⟩

def k0_cond1 (i : grid0.Coords) : BitVec 1 :=
  let arg1 : BitVec 32 := BitVec.ofNat 32 (i 1).val
  let c0_i32 : BitVec 32 := 0#32
  let v1 : BitVec 1 := Scalar.cmpi .eq arg1 c0_i32
  let v2 : BitVec 32 := Scalar.extui v1
  let c0_i32_0 : BitVec 32 := 0#32
  let v3 : BitVec 1 := Scalar.cmpi .ne v2 c0_i32_0
  v3

@[reducible] def k0_t1_loop : Scf.Loop 32 :=
  let c0_i32_1947 : BitVec 32 := 0#32
  let c50_i32 : BitVec 32 := 50#32
  let v3381 : BitVec 32 := Scalar.addi c0_i32_1947 c50_i32
  let c1_i32_1948 : BitVec 32 := 1#32
  ⟨c0_i32_1947, v3381, c1_i32_1948⟩
def k0_off1 (i : grid0.Coords) (k0_t1 : Fin k0_t1_loop.trips) (c0_i32_1950 : BitVec 32) : Fin 2 → Nat :=
  let arg0 : BitVec 32 := BitVec.ofNat 32 (i 0).val
  let v3384 : Index := Scalar.indexCast arg0
  let c0_i32_1947 : BitVec 32 := 0#32
  let c1_i32_1948 : BitVec 32 := 1#32
  let arg7 : BitVec 32 := Scf.iv c0_i32_1947 c1_i32_1948 k0_t1
  let v3383 : BitVec 32 := Scalar.addi c0_i32_1950 arg7
  let v3385 : Index := Scalar.indexCast v3383
  ![v3384.toNat, v3385.toNat]
def k0_off2 (k0_t1 : Fin k0_t1_loop.trips) : Fin 2 → Nat :=
  let c0_2052 : Index := 0#32
  let c0_i32_1947 : BitVec 32 := 0#32
  let c1_i32_1948 : BitVec 32 := 1#32
  let arg7 : BitVec 32 := Scf.iv c0_i32_1947 c1_i32_1948 k0_t1
  let v3557 : Index := Scalar.indexCast arg7
  ![0, v3557.toNat]
def k0_off3 (k0_t1 : Fin k0_t1_loop.trips) : Fin 2 → Nat :=
  let c1_2054 : Index := 1#32
  let c0_i32_1947 : BitVec 32 := 0#32
  let c1_i32_1948 : BitVec 32 := 1#32
  let arg7 : BitVec 32 := Scf.iv c0_i32_1947 c1_i32_1948 k0_t1
  let v3561 : Index := Scalar.indexCast arg7
  ![1, v3561.toNat]
def k0_off4 (k0_t1 : Fin k0_t1_loop.trips) : Fin 2 → Nat :=
  let c2_2056 : Index := 2#32
  let c0_i32_1947 : BitVec 32 := 0#32
  let c1_i32_1948 : BitVec 32 := 1#32
  let arg7 : BitVec 32 := Scf.iv c0_i32_1947 c1_i32_1948 k0_t1
  let v3565 : Index := Scalar.indexCast arg7
  ![2, v3565.toNat]
def k0_off5 (k0_t1 : Fin k0_t1_loop.trips) : Fin 2 → Nat :=
  let c3_2058 : Index := 3#32
  let c0_i32_1947 : BitVec 32 := 0#32
  let c1_i32_1948 : BitVec 32 := 1#32
  let arg7 : BitVec 32 := Scf.iv c0_i32_1947 c1_i32_1948 k0_t1
  let v3569 : Index := Scalar.indexCast arg7
  ![3, v3569.toNat]
def k0_off6 (k0_t1 : Fin k0_t1_loop.trips) : Fin 2 → Nat :=
  let c4_2062 : Index := 4#32
  let c0_i32_1947 : BitVec 32 := 0#32
  let c1_i32_1948 : BitVec 32 := 1#32
  let arg7 : BitVec 32 := Scf.iv c0_i32_1947 c1_i32_1948 k0_t1
  let v3575 : Index := Scalar.indexCast arg7
  ![4, v3575.toNat]
def k0_off7 (k0_t1 : Fin k0_t1_loop.trips) : Fin 2 → Nat :=
  let c5_2063 : Index := 5#32
  let c0_i32_1947 : BitVec 32 := 0#32
  let c1_i32_1948 : BitVec 32 := 1#32
  let arg7 : BitVec 32 := Scf.iv c0_i32_1947 c1_i32_1948 k0_t1
  let v3577 : Index := Scalar.indexCast arg7
  ![5, v3577.toNat]
def k0_off8 (k0_t1 : Fin k0_t1_loop.trips) : Fin 2 → Nat :=
  let c6_2066 : Index := 6#32
  let c0_i32_1947 : BitVec 32 := 0#32
  let c1_i32_1948 : BitVec 32 := 1#32
  let arg7 : BitVec 32 := Scf.iv c0_i32_1947 c1_i32_1948 k0_t1
  let v3581 : Index := Scalar.indexCast arg7
  ![6, v3581.toNat]
def k0_off9 (k0_t1 : Fin k0_t1_loop.trips) : Fin 2 → Nat :=
  let c7_2067 : Index := 7#32
  let c0_i32_1947 : BitVec 32 := 0#32
  let c1_i32_1948 : BitVec 32 := 1#32
  let arg7 : BitVec 32 := Scf.iv c0_i32_1947 c1_i32_1948 k0_t1
  let v3583 : Index := Scalar.indexCast arg7
  ![7, v3583.toNat]
def k0_off10 (k0_t1 : Fin k0_t1_loop.trips) : Fin 2 → Nat :=
  let c8_2068 : Index := 8#32
  let c0_i32_1947 : BitVec 32 := 0#32
  let c1_i32_1948 : BitVec 32 := 1#32
  let arg7 : BitVec 32 := Scf.iv c0_i32_1947 c1_i32_1948 k0_t1
  let v3586 : Index := Scalar.indexCast arg7
  ![8, v3586.toNat]
def k0_off11 (k0_t1 : Fin k0_t1_loop.trips) : Fin 2 → Nat :=
  let c9_2069 : Index := 9#32
  let c0_i32_1947 : BitVec 32 := 0#32
  let c1_i32_1948 : BitVec 32 := 1#32
  let arg7 : BitVec 32 := Scf.iv c0_i32_1947 c1_i32_1948 k0_t1
  let v3589 : Index := Scalar.indexCast arg7
  ![9, v3589.toNat]
def k0_off12 (k0_t1 : Fin k0_t1_loop.trips) : Fin 2 → Nat :=
  let c10_2070 : Index := 10#32
  let c0_i32_1947 : BitVec 32 := 0#32
  let c1_i32_1948 : BitVec 32 := 1#32
  let arg7 : BitVec 32 := Scf.iv c0_i32_1947 c1_i32_1948 k0_t1
  let v3593 : Index := Scalar.indexCast arg7
  ![10, v3593.toNat]
def k0_off13 (k0_t1 : Fin k0_t1_loop.trips) : Fin 2 → Nat :=
  let c11_2071 : Index := 11#32
  let c0_i32_1947 : BitVec 32 := 0#32
  let c1_i32_1948 : BitVec 32 := 1#32
  let arg7 : BitVec 32 := Scf.iv c0_i32_1947 c1_i32_1948 k0_t1
  let v3597 : Index := Scalar.indexCast arg7
  ![11, v3597.toNat]
def k0_off14 (k0_t1 : Fin k0_t1_loop.trips) : Fin 2 → Nat :=
  let c12_2072 : Index := 12#32
  let c0_i32_1947 : BitVec 32 := 0#32
  let c1_i32_1948 : BitVec 32 := 1#32
  let arg7 : BitVec 32 := Scf.iv c0_i32_1947 c1_i32_1948 k0_t1
  let v3599 : Index := Scalar.indexCast arg7
  ![12, v3599.toNat]
def k0_off15 (k0_t1 : Fin k0_t1_loop.trips) : Fin 2 → Nat :=
  let c13_2073 : Index := 13#32
  let c0_i32_1947 : BitVec 32 := 0#32
  let c1_i32_1948 : BitVec 32 := 1#32
  let arg7 : BitVec 32 := Scf.iv c0_i32_1947 c1_i32_1948 k0_t1
  let v3602 : Index := Scalar.indexCast arg7
  ![13, v3602.toNat]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .smem S16x640 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x5x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x85x32x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]
-- ==== ReferenceIdeal.lean ====
abbrev S16x425x64x64 : Shape := ⟨4, ![16, 425, 64, 64]⟩
abbrev S16x250 : Shape := ⟨2, ![16, 250]⟩
abbrev S_ : Shape := ⟨0, ![]⟩
abbrev S1 : Shape := ⟨1, ![1]⟩
abbrev S5 : Shape := ⟨1, ![5]⟩
abbrev S16x5x85x64x64 : Shape := ⟨5, ![16, 5, 85, 64, 64]⟩
abbrev S16x5x1x64x64 : Shape := ⟨5, ![16, 5, 1, 64, 64]⟩
abbrev S16x5x64x64 : Shape := ⟨4, ![16, 5, 64, 64]⟩
abbrev S64 : Shape := ⟨1, ![64]⟩
abbrev S1x1x1x64 : Shape := ⟨4, ![1, 1, 1, 64]⟩
abbrev S64x1 : Shape := ⟨2, ![64, 1]⟩
abbrev S1x1x64x1 : Shape := ⟨4, ![1, 1, 64, 1]⟩
abbrev S5x1x1 : Shape := ⟨3, ![5, 1, 1]⟩
abbrev S1x5x1x1 : Shape := ⟨4, ![1, 5, 1, 1]⟩
abbrev S16x50x5 : Shape := ⟨3, ![16, 50, 5]⟩
abbrev S16x50x1 : Shape := ⟨3, ![16, 50, 1]⟩
abbrev S16x50 : Shape := ⟨2, ![16, 50]⟩
abbrev S16x5x64x64x1 : Shape := ⟨5, ![16, 5, 64, 64, 1]⟩
abbrev S16x1x1x1x50 : Shape := ⟨5, ![16, 1, 1, 1, 50]⟩
abbrev S16x5x64x64x50 : Shape := ⟨5, ![16, 5, 64, 64, 50]⟩
abbrev S1x1x5 : Shape := ⟨3, ![1, 1, 5]⟩
abbrev S16 : Shape := ⟨1, ![16]⟩
abbrev S16x1 : Shape := ⟨2, ![16, 1]⟩
abbrev S16x50x4 : Shape := ⟨3, ![16, 50, 4]⟩
abbrev S16x5x80x64x64 : Shape := ⟨5, ![16, 5, 80, 64, 64]⟩
abbrev S80 : Shape := ⟨1, ![80]⟩
abbrev S80x1x1 : Shape := ⟨3, ![80, 1, 1]⟩
abbrev S1x1x80x1x1 : Shape := ⟨5, ![1, 1, 80, 1, 1]⟩

abbrev nBuf : Space → Nat
  | .hbm => 494
  | .vmem => 0
  | .smem => 0
  | _ => 0

abbrev hbmTy0_0 (i : Nat) : BufTy := match i % 128 with
  | 0 => ⟨S16x425x64x64, .f32⟩
  | 1 => ⟨S16x250, .f32⟩
  | 2 => ⟨S_, .f32⟩
  | 3 => ⟨S_, .f32⟩
  | 4 => ⟨S_, .f32⟩
  | 5 => ⟨S_, .f32⟩
  | 6 => ⟨S_, .f32⟩
  | 7 => ⟨S1, .f32⟩
  | 8 => ⟨S1, .f32⟩
  | 9 => ⟨S1, .f32⟩
  | 10 => ⟨S1, .f32⟩
  | 11 => ⟨S1, .f32⟩
  | 12 => ⟨S5, .f32⟩
  | 13 => ⟨S_, .f32⟩
  | 14 => ⟨S_, .f32⟩
  | 15 => ⟨S_, .f32⟩
  | 16 => ⟨S_, .f32⟩
  | 17 => ⟨S_, .f32⟩
  | 18 => ⟨S1, .f32⟩
  | 19 => ⟨S1, .f32⟩
  | 20 => ⟨S1, .f32⟩
  | 21 => ⟨S1, .f32⟩
  | 22 => ⟨S1, .f32⟩
  | 23 => ⟨S5, .f32⟩
  | 24 => ⟨S_, .f32⟩
  | 25 => ⟨S_, .f32⟩
  | 26 => ⟨S_, .f32⟩
  | 27 => ⟨S_, .f32⟩
  | 28 => ⟨S_, .f32⟩
  | 29 => ⟨S1, .f32⟩
  | 30 => ⟨S1, .f32⟩
  | 31 => ⟨S1, .f32⟩
  | 32 => ⟨S1, .f32⟩
  | 33 => ⟨S1, .f32⟩
  | 34 => ⟨S5, .f32⟩
  | 35 => ⟨S16x5x85x64x64, .f32⟩
  | 36 => ⟨S16x5x1x64x64, .f32⟩
  | 37 => ⟨S16x5x64x64, .f32⟩
  | 38 => ⟨S16x5x64x64, .f32⟩
  | 39 => ⟨S16x5x64x64, .f32⟩
  | 40 => ⟨S_, .f32⟩
  | 41 => ⟨S16x5x64x64, .f32⟩
  | 42 => ⟨S16x5x64x64, .f32⟩
  | 43 => ⟨S_, .f32⟩
  | 44 => ⟨S16x5x64x64, .f32⟩
  | 45 => ⟨S16x5x64x64, .f32⟩
  | 46 => ⟨S16x5x1x64x64, .f32⟩
  | 47 => ⟨S16x5x64x64, .f32⟩
  | 48 => ⟨S16x5x64x64, .f32⟩
  | 49 => ⟨S16x5x64x64, .f32⟩
  | 50 => ⟨S_, .f32⟩
  | 51 => ⟨S16x5x64x64, .f32⟩
  | 52 => ⟨S16x5x64x64, .f32⟩
  | 53 => ⟨S_, .f32⟩
  | 54 => ⟨S16x5x64x64, .f32⟩
  | 55 => ⟨S16x5x64x64, .f32⟩
  | 56 => ⟨S16x5x1x64x64, .f32⟩
  | 57 => ⟨S16x5x64x64, .f32⟩
  | 58 => ⟨S16x5x1x64x64, .f32⟩
  | 59 => ⟨S16x5x64x64, .f32⟩
  | 60 => ⟨S16x5x1x64x64, .f32⟩
  | 61 => ⟨S16x5x64x64, .f32⟩
  | 62 => ⟨S16x5x64x64, .f32⟩
  | 63 => ⟨S16x5x64x64, .f32⟩
  | 64 => ⟨S_, .f32⟩
  | 65 => ⟨S16x5x64x64, .f32⟩
  | 66 => ⟨S16x5x64x64, .f32⟩
  | 67 => ⟨S_, .f32⟩
  | 68 => ⟨S16x5x64x64, .f32⟩
  | 69 => ⟨S16x5x64x64, .f32⟩
  | 70 => ⟨S64, .f32⟩
  | 71 => ⟨S1x1x1x64, .f32⟩
  | 72 => ⟨S16x5x64x64, .f32⟩
  | 73 => ⟨S16x5x64x64, .f32⟩
  | 74 => ⟨S64, .f32⟩
  | 75 => ⟨S64x1, .f32⟩
  | 76 => ⟨S1x1x64x1, .f32⟩
  | 77 => ⟨S16x5x64x64, .f32⟩
  | 78 => ⟨S16x5x64x64, .f32⟩
  | 79 => ⟨S16x5x64x64, .f32⟩
  | 80 => ⟨S5x1x1, .f32⟩
  | 81 => ⟨S1x5x1x1, .f32⟩
  | 82 => ⟨S16x5x64x64, .f32⟩
  | 83 => ⟨S16x5x64x64, .f32⟩
  | 84 => ⟨S16x5x64x64, .f32⟩
  | 85 => ⟨S5x1x1, .f32⟩
  | 86 => ⟨S1x5x1x1, .f32⟩
  | 87 => ⟨S16x5x64x64, .f32⟩
  | 88 => ⟨S16x5x64x64, .f32⟩
  | 89 => ⟨S16x50x5, .f32⟩
  | 90 => ⟨S16x50x1, .f32⟩
  | 91 => ⟨S16x50, .f32⟩
  | 92 => ⟨S_, .f32⟩
  | 93 => ⟨S16x50, .f32⟩
  | 94 => ⟨S16x50, .i1⟩
  | 95 => ⟨S16x50, .f32⟩
  | 96 => ⟨S_, .f32⟩
  | 97 => ⟨S_, .f32⟩
  | 98 => ⟨S16x50, .f32⟩
  | 99 => ⟨S_, .f32⟩
  | 100 => ⟨S16x50, .f32⟩
  | 101 => ⟨S16x50, .i1⟩
  | 102 => ⟨S16x50, .f32⟩
  | 103 => ⟨S16x50x1, .f32⟩
  | 104 => ⟨S16x50, .f32⟩
  | 105 => ⟨S_, .f32⟩
  | 106 => ⟨S16x50, .f32⟩
  | 107 => ⟨S16x50, .f32⟩
  | 108 => ⟨S16x50x1, .f32⟩
  | 109 => ⟨S16x50, .f32⟩
  | 110 => ⟨S_, .f32⟩
  | 111 => ⟨S16x50, .f32⟩
  | 112 => ⟨S16x50, .f32⟩
  | 113 => ⟨S16x50x1, .f32⟩
  | 114 => ⟨S16x50, .f32⟩
  | 115 => ⟨S_, .f32⟩
  | 116 => ⟨S16x50, .f32⟩
  | 117 => ⟨S16x50, .f32⟩
  | 118 => ⟨S16x50x1, .f32⟩
  | 119 => ⟨S16x50, .f32⟩
  | 120 => ⟨S_, .f32⟩
  | 121 => ⟨S16x50, .f32⟩
  | 122 => ⟨S16x50, .f32⟩
  | 123 => ⟨S16x5x64x64x1, .f32⟩
  | 124 => ⟨S16x5x64x64x1, .f32⟩
  | 125 => ⟨S16x5x64x64x1, .f32⟩
  | 126 => ⟨S16x5x64x64x1, .f32⟩
  | 127 => ⟨S16x5x64x64, .f32⟩
  | _ => ⟨S16x425x64x64, .f32⟩

abbrev hbmTy0_1 (i : Nat) : BufTy := match i % 128 with
  | 0 => ⟨S16x5x64x64x1, .f32⟩
  | 1 => ⟨S16x1x1x1x50, .f32⟩
  | 2 => ⟨S16x1x1x1x50, .f32⟩
  | 3 => ⟨S16x1x1x1x50, .f32⟩
  | 4 => ⟨S16x1x1x1x50, .f32⟩
  | 5 => ⟨S16x50, .f32⟩
  | 6 => ⟨S16x1x1x1x50, .f32⟩
  | 7 => ⟨S_, .f32⟩
  | 8 => ⟨S16x5x64x64x1, .f32⟩
  | 9 => ⟨S16x5x64x64x1, .f32⟩
  | 10 => ⟨S16x5x64x64x1, .f32⟩
  | 11 => ⟨S_, .f32⟩
  | 12 => ⟨S16x1x1x1x50, .f32⟩
  | 13 => ⟨S16x1x1x1x50, .f32⟩
  | 14 => ⟨S16x1x1x1x50, .f32⟩
  | 15 => ⟨S16x5x64x64x50, .f32⟩
  | 16 => ⟨S16x5x64x64x50, .f32⟩
  | 17 => ⟨S16x5x64x64x50, .f32⟩
  | 18 => ⟨S_, .f32⟩
  | 19 => ⟨S16x5x64x64x1, .f32⟩
  | 20 => ⟨S16x5x64x64x1, .f32⟩
  | 21 => ⟨S16x5x64x64x1, .f32⟩
  | 22 => ⟨S_, .f32⟩
  | 23 => ⟨S16x1x1x1x50, .f32⟩
  | 24 => ⟨S16x1x1x1x50, .f32⟩
  | 25 => ⟨S16x1x1x1x50, .f32⟩
  | 26 => ⟨S16x5x64x64x50, .f32⟩
  | 27 => ⟨S16x5x64x64x50, .f32⟩
  | 28 => ⟨S16x5x64x64x50, .f32⟩
  | 29 => ⟨S_, .f32⟩
  | 30 => ⟨S16x5x64x64x1, .f32⟩
  | 31 => ⟨S16x5x64x64x1, .f32⟩
  | 32 => ⟨S16x5x64x64x1, .f32⟩
  | 33 => ⟨S_, .f32⟩
  | 34 => ⟨S16x1x1x1x50, .f32⟩
  | 35 => ⟨S16x1x1x1x50, .f32⟩
  | 36 => ⟨S16x1x1x1x50, .f32⟩
  | 37 => ⟨S16x5x64x64x50, .f32⟩
  | 38 => ⟨S16x5x64x64x50, .f32⟩
  | 39 => ⟨S16x5x64x64x50, .f32⟩
  | 40 => ⟨S_, .f32⟩
  | 41 => ⟨S16x5x64x64x1, .f32⟩
  | 42 => ⟨S16x5x64x64x1, .f32⟩
  | 43 => ⟨S16x5x64x64x1, .f32⟩
  | 44 => ⟨S_, .f32⟩
  | 45 => ⟨S16x1x1x1x50, .f32⟩
  | 46 => ⟨S16x1x1x1x50, .f32⟩
  | 47 => ⟨S16x1x1x1x50, .f32⟩
  | 48 => ⟨S16x5x64x64x50, .f32⟩
  | 49 => ⟨S16x5x64x64x50, .f32⟩
  | 50 => ⟨S16x5x64x64x50, .f32⟩
  | 51 => ⟨S16x5x64x64x50, .f32⟩
  | 52 => ⟨S16x5x64x64x50, .f32⟩
  | 53 => ⟨S16x5x64x64x50, .f32⟩
  | 54 => ⟨S16x5x64x64x50, .f32⟩
  | 55 => ⟨S16x5x64x64x50, .f32⟩
  | 56 => ⟨S16x5x64x64x50, .f32⟩
  | 57 => ⟨S16x5x64x64x50, .f32⟩
  | 58 => ⟨S16x5x64x64x50, .f32⟩
  | 59 => ⟨S16x5x64x64x50, .f32⟩
  | 60 => ⟨S16x5x64x64x50, .f32⟩
  | 61 => ⟨S_, .f32⟩
  | 62 => ⟨S16x5x64x64x50, .f32⟩
  | 63 => ⟨S16x5x64x64x50, .i1⟩
  | 64 => ⟨S_, .f32⟩
  | 65 => ⟨S16x5x64x64x50, .f32⟩
  | 66 => ⟨S16x5x64x64x50, .i1⟩
  | 67 => ⟨S16x5x64x64x50, .i1⟩
  | 68 => ⟨S16x5x64x64x50, .f32⟩
  | 69 => ⟨S_, .f32⟩
  | 70 => ⟨S_, .f32⟩
  | 71 => ⟨S16x5x64x64x50, .f32⟩
  | 72 => ⟨S16x5x64x64x50, .f32⟩
  | 73 => ⟨S16x5x64x64x50, .f32⟩
  | 74 => ⟨S16x5x64x64x50, .f32⟩
  | 75 => ⟨S16x5x64x64x50, .f32⟩
  | 76 => ⟨S16x5x64x64x50, .f32⟩
  | 77 => ⟨S16x5x64x64x50, .f32⟩
  | 78 => ⟨S16x1x1x1x50, .f32⟩
  | 79 => ⟨S16x5x64x64x50, .f32⟩
  | 80 => ⟨S16x5x64x64x50, .f32⟩
  | 81 => ⟨S_, .f32⟩
  | 82 => ⟨S16x5x64x64, .f32⟩
  | 83 => ⟨S_, .f32⟩
  | 84 => ⟨S_, .f32⟩
  | 85 => ⟨S_, .f32⟩
  | 86 => ⟨S16x5x64x64, .f32⟩
  | 87 => ⟨S16x5x64x64, .i1⟩
  | 88 => ⟨S_, .f32⟩
  | 89 => ⟨S_, .f32⟩
  | 90 => ⟨S_, .f32⟩
  | 91 => ⟨S16x5x64x64, .f32⟩
  | 92 => ⟨S16x5x64x64, .f32⟩
  | 93 => ⟨S16x5x64x64, .f32⟩
  | 94 => ⟨S16x50x1, .f32⟩
  | 95 => ⟨S16x50x1, .f32⟩
  | 96 => ⟨S16x50, .f32⟩
  | 97 => ⟨S16x50x1, .f32⟩
  | 98 => ⟨S_, .f32⟩
  | 99 => ⟨S16x50x1, .f32⟩
  | 100 => ⟨S16x50x1, .f32⟩
  | 101 => ⟨S_, .f32⟩
  | 102 => ⟨S16x50x1, .f32⟩
  | 103 => ⟨S16x50x1, .f32⟩
  | 104 => ⟨S_, .f32⟩
  | 105 => ⟨S5, .f32⟩
  | 106 => ⟨S5, .f32⟩
  | 107 => ⟨S_, .f32⟩
  | 108 => ⟨S5, .f32⟩
  | 109 => ⟨S5, .f32⟩
  | 110 => ⟨S1x1x5, .f32⟩
  | 111 => ⟨S16x50x5, .f32⟩
  | 112 => ⟨S16x50x5, .f32⟩
  | 113 => ⟨S16x50x5, .f32⟩
  | 114 => ⟨S_, .f32⟩
  | 115 => ⟨S16x50x1, .f32⟩
  | 116 => ⟨S16x50x1, .f32⟩
  | 117 => ⟨S_, .f32⟩
  | 118 => ⟨S16x50x1, .f32⟩
  | 119 => ⟨S16x50x1, .f32⟩
  | 120 => ⟨S_, .f32⟩
  | 121 => ⟨S5, .f32⟩
  | 122 => ⟨S5, .f32⟩
  | 123 => ⟨S_, .f32⟩
  | 124 => ⟨S5, .f32⟩
  | 125 => ⟨S5, .f32⟩
  | 126 => ⟨S1x1x5, .f32⟩
  | 127 => ⟨S16x50x5, .f32⟩
  | _ => ⟨S16x425x64x64, .f32⟩

abbrev hbmTy0_2 (i : Nat) : BufTy := match i % 128 with
  | 0 => ⟨S16x50x5, .f32⟩
  | 1 => ⟨S16x50x5, .f32⟩
  | 2 => ⟨S_, .f32⟩
  | 3 => ⟨S16x50x1, .f32⟩
  | 4 => ⟨S16x50x1, .f32⟩
  | 5 => ⟨S_, .f32⟩
  | 6 => ⟨S16x50x1, .f32⟩
  | 7 => ⟨S16x50x1, .f32⟩
  | 8 => ⟨S_, .f32⟩
  | 9 => ⟨S5, .f32⟩
  | 10 => ⟨S5, .f32⟩
  | 11 => ⟨S_, .f32⟩
  | 12 => ⟨S5, .f32⟩
  | 13 => ⟨S5, .f32⟩
  | 14 => ⟨S1x1x5, .f32⟩
  | 15 => ⟨S16x50x5, .f32⟩
  | 16 => ⟨S16x50x5, .f32⟩
  | 17 => ⟨S16x50x5, .f32⟩
  | 18 => ⟨S_, .f32⟩
  | 19 => ⟨S16x50x1, .f32⟩
  | 20 => ⟨S16x50x1, .f32⟩
  | 21 => ⟨S_, .f32⟩
  | 22 => ⟨S16x50x1, .f32⟩
  | 23 => ⟨S16x50x1, .f32⟩
  | 24 => ⟨S_, .f32⟩
  | 25 => ⟨S5, .f32⟩
  | 26 => ⟨S5, .f32⟩
  | 27 => ⟨S_, .f32⟩
  | 28 => ⟨S5, .f32⟩
  | 29 => ⟨S5, .f32⟩
  | 30 => ⟨S1x1x5, .f32⟩
  | 31 => ⟨S16x50x5, .f32⟩
  | 32 => ⟨S16x50x5, .f32⟩
  | 33 => ⟨S16x50x5, .f32⟩
  | 34 => ⟨S1x1x5, .f32⟩
  | 35 => ⟨S16x50x5, .f32⟩
  | 36 => ⟨S16x50x5, .f32⟩
  | 37 => ⟨S16x50x5, .f32⟩
  | 38 => ⟨S16x50x5, .f32⟩
  | 39 => ⟨S16x50x5, .f32⟩
  | 40 => ⟨S1x1x5, .f32⟩
  | 41 => ⟨S16x50x5, .f32⟩
  | 42 => ⟨S16x50x5, .f32⟩
  | 43 => ⟨S16x50x5, .f32⟩
  | 44 => ⟨S16x50x5, .f32⟩
  | 45 => ⟨S16x50x5, .f32⟩
  | 46 => ⟨S_, .f32⟩
  | 47 => ⟨S16x50x5, .f32⟩
  | 48 => ⟨S16x50x5, .i1⟩
  | 49 => ⟨S_, .f32⟩
  | 50 => ⟨S16x50x5, .f32⟩
  | 51 => ⟨S16x50x5, .i1⟩
  | 52 => ⟨S16x50x5, .i1⟩
  | 53 => ⟨S16x50x5, .f32⟩
  | 54 => ⟨S_, .f32⟩
  | 55 => ⟨S_, .f32⟩
  | 56 => ⟨S16x50x5, .f32⟩
  | 57 => ⟨S16x50x5, .f32⟩
  | 58 => ⟨S1x1x5, .f32⟩
  | 59 => ⟨S16x50x5, .f32⟩
  | 60 => ⟨S16x50x5, .f32⟩
  | 61 => ⟨S16x50x5, .f32⟩
  | 62 => ⟨S16x50x5, .f32⟩
  | 63 => ⟨S16x50x5, .f32⟩
  | 64 => ⟨S_, .f32⟩
  | 65 => ⟨S16x50, .f32⟩
  | 66 => ⟨S16x50x1, .f32⟩
  | 67 => ⟨S16x50x5, .f32⟩
  | 68 => ⟨S16x50x5, .i1⟩
  | 69 => ⟨S5, .i32⟩
  | 70 => ⟨S_, .i32⟩
  | 71 => ⟨S_, .i32⟩
  | 72 => ⟨S16x50x5, .i32⟩
  | 73 => ⟨S16x50x5, .i32⟩
  | 74 => ⟨S16x50x5, .i32⟩
  | 75 => ⟨S_, .i32⟩
  | 76 => ⟨S16x50, .i32⟩
  | 77 => ⟨S16x50, .f32⟩
  | 78 => ⟨S16x50, .i32⟩
  | 79 => ⟨S16x50, .f32⟩
  | 80 => ⟨S16x50, .i32⟩
  | 81 => ⟨S_, .f32⟩
  | 82 => ⟨S16x50, .f32⟩
  | 83 => ⟨S16x50, .i1⟩
  | 84 => ⟨S16, .i32⟩
  | 85 => ⟨S16x1, .i32⟩
  | 86 => ⟨S_, .i32⟩
  | 87 => ⟨S_, .i32⟩
  | 88 => ⟨S16x50, .i32⟩
  | 89 => ⟨S16x50, .i32⟩
  | 90 => ⟨S16x50, .i32⟩
  | 91 => ⟨S_, .f32⟩
  | 92 => ⟨S16x5x64x64, .f32⟩
  | 93 => ⟨S16x50x1, .i32⟩
  | 94 => ⟨S16x50x1, .i32⟩
  | 95 => ⟨S16x50x1, .i32⟩
  | 96 => ⟨S16x50x1, .i32⟩
  | 97 => ⟨S16x50x4, .i32⟩
  | 98 => ⟨S_, .f32⟩
  | 99 => ⟨S16x50, .f32⟩
  | 100 => ⟨S16x5x64x64, .f32⟩
  | 101 => ⟨S16x50x1, .i32⟩
  | 102 => ⟨S16x50x1, .i32⟩
  | 103 => ⟨S16x50x1, .i32⟩
  | 104 => ⟨S16x50x1, .i32⟩
  | 105 => ⟨S16x50x4, .i32⟩
  | 106 => ⟨S_, .f32⟩
  | 107 => ⟨S16x50, .f32⟩
  | 108 => ⟨S16x5x64x64, .f32⟩
  | 109 => ⟨S16x50, .f32⟩
  | 110 => ⟨S16x50, .f32⟩
  | 111 => ⟨S16x50x1, .i32⟩
  | 112 => ⟨S16x50x1, .i32⟩
  | 113 => ⟨S16x50x1, .i32⟩
  | 114 => ⟨S16x50x1, .i32⟩
  | 115 => ⟨S16x50x4, .i32⟩
  | 116 => ⟨S16x5x64x64, .f32⟩
  | 117 => ⟨S16x50, .f32⟩
  | 118 => ⟨S16x50, .f32⟩
  | 119 => ⟨S16x50x1, .i32⟩
  | 120 => ⟨S16x50x1, .i32⟩
  | 121 => ⟨S16x50x1, .i32⟩
  | 122 => ⟨S16x50x1, .i32⟩
  | 123 => ⟨S16x50x4, .i32⟩
  | 124 => ⟨S16x5x64x64, .f32⟩
  | 125 => ⟨S16x50x1, .i32⟩
  | 126 => ⟨S16x50, .f32⟩
  | 127 => ⟨S16x50, .f32⟩
  | _ => ⟨S16x425x64x64, .f32⟩

abbrev hbmTy0_3 (i : Nat) : BufTy := match i % 128 with
  | 0 => ⟨S16x50, .f32⟩
  | 1 => ⟨S16x50x1, .i32⟩
  | 2 => ⟨S16x50x1, .i32⟩
  | 3 => ⟨S16x50x1, .i32⟩
  | 4 => ⟨S16x50x1, .i32⟩
  | 5 => ⟨S16x50x4, .i32⟩
  | 6 => ⟨S16x5x64x64, .f32⟩
  | 7 => ⟨S16x50x1, .i32⟩
  | 8 => ⟨S16x50, .f32⟩
  | 9 => ⟨S16x50, .f32⟩
  | 10 => ⟨S16x50, .f32⟩
  | 11 => ⟨S16x50x1, .i32⟩
  | 12 => ⟨S16x50x1, .i32⟩
  | 13 => ⟨S16x50x1, .i32⟩
  | 14 => ⟨S16x50x1, .i32⟩
  | 15 => ⟨S16x50x4, .i32⟩
  | 16 => ⟨S16x5x64x64, .f32⟩
  | 17 => ⟨S16x50x1, .i32⟩
  | 18 => ⟨S16x50x1, .i32⟩
  | 19 => ⟨S16x50x1, .i32⟩
  | 20 => ⟨S16x50x1, .i32⟩
  | 21 => ⟨S16x50x4, .i32⟩
  | 22 => ⟨S16x5x64x64, .f32⟩
  | 23 => ⟨S_, .i32⟩
  | 24 => ⟨S16x5x64x64, .i32⟩
  | 25 => ⟨S16x50x1, .f32⟩
  | 26 => ⟨S16x50, .f32⟩
  | 27 => ⟨S16x50, .i32⟩
  | 28 => ⟨S16x50x1, .i32⟩
  | 29 => ⟨S16x50x1, .i32⟩
  | 30 => ⟨S16x50x1, .i32⟩
  | 31 => ⟨S16x50x1, .i32⟩
  | 32 => ⟨S16x50x4, .i32⟩
  | 33 => ⟨S16x5x64x64, .i32⟩
  | 34 => ⟨S_, .f32⟩
  | 35 => ⟨S_, .f32⟩
  | 36 => ⟨S16x5x64x64, .f32⟩
  | 37 => ⟨S16x5x64x64, .f32⟩
  | 38 => ⟨S16x5x64x64, .f32⟩
  | 39 => ⟨S16x5x64x64, .f32⟩
  | 40 => ⟨S_, .f32⟩
  | 41 => ⟨S_, .f32⟩
  | 42 => ⟨S_, .f32⟩
  | 43 => ⟨S16x5x64x64, .f32⟩
  | 44 => ⟨S16x5x64x64, .f32⟩
  | 45 => ⟨S16x5x64x64, .f32⟩
  | 46 => ⟨S16x5x64x64, .f32⟩
  | 47 => ⟨S_, .f32⟩
  | 48 => ⟨S_, .f32⟩
  | 49 => ⟨S_, .f32⟩
  | 50 => ⟨S16x5x64x64, .f32⟩
  | 51 => ⟨S16x5x64x64, .f32⟩
  | 52 => ⟨S16x5x64x64, .f32⟩
  | 53 => ⟨S16x5x64x64, .f32⟩
  | 54 => ⟨S_, .f32⟩
  | 55 => ⟨S_, .f32⟩
  | 56 => ⟨S_, .f32⟩
  | 57 => ⟨S16x5x64x64, .f32⟩
  | 58 => ⟨S16x5x64x64, .f32⟩
  | 59 => ⟨S16x5x64x64, .f32⟩
  | 60 => ⟨S16x5x64x64, .f32⟩
  | 61 => ⟨S_, .f32⟩
  | 62 => ⟨S_, .f32⟩
  | 63 => ⟨S_, .f32⟩
  | 64 => ⟨S16x5x64x64, .f32⟩
  | 65 => ⟨S16x5x64x64, .f32⟩
  | 66 => ⟨S16x5x64x64, .f32⟩
  | 67 => ⟨S16x5x64x64, .f32⟩
  | 68 => ⟨S_, .f32⟩
  | 69 => ⟨S_, .f32⟩
  | 70 => ⟨S_, .f32⟩
  | 71 => ⟨S16x5x80x64x64, .f32⟩
  | 72 => ⟨S16x5x1x64x64, .f32⟩
  | 73 => ⟨S16x5x80x64x64, .f32⟩
  | 74 => ⟨S16x5x80x64x64, .f32⟩
  | 75 => ⟨S_, .f32⟩
  | 76 => ⟨S16x5x64x64, .f32⟩
  | 77 => ⟨S_, .f32⟩
  | 78 => ⟨S16x5x64x64, .f32⟩
  | 79 => ⟨S16x5x64x64, .f32⟩
  | 80 => ⟨S16x5x1x64x64, .f32⟩
  | 81 => ⟨S16x5x80x64x64, .f32⟩
  | 82 => ⟨S16x5x80x64x64, .f32⟩
  | 83 => ⟨S16x5x80x64x64, .f32⟩
  | 84 => ⟨S_, .f32⟩
  | 85 => ⟨S16x5x64x64, .f32⟩
  | 86 => ⟨S16x5x1x64x64, .f32⟩
  | 87 => ⟨S16x5x1x64x64, .f32⟩
  | 88 => ⟨S16x5x80x64x64, .f32⟩
  | 89 => ⟨S16x5x80x64x64, .f32⟩
  | 90 => ⟨S80, .i32⟩
  | 91 => ⟨S80x1x1, .i32⟩
  | 92 => ⟨S16x5x1x64x64, .i32⟩
  | 93 => ⟨S1x1x80x1x1, .i32⟩
  | 94 => ⟨S16x5x80x64x64, .i32⟩
  | 95 => ⟨S16x5x80x64x64, .i32⟩
  | 96 => ⟨S16x5x80x64x64, .i1⟩
  | 97 => ⟨S_, .f32⟩
  | 98 => ⟨S_, .f32⟩
  | 99 => ⟨S16x5x80x64x64, .f32⟩
  | 100 => ⟨S16x5x80x64x64, .f32⟩
  | 101 => ⟨S_, .f32⟩
  | 102 => ⟨S_, .f32⟩
  | 103 => ⟨S_, .f32⟩
  | 104 => ⟨S_, .f32⟩
  | 105 => ⟨S_, .f32⟩
  | 106 => ⟨S_, .f32⟩
  | 107 => ⟨S_, .f32⟩
  | 108 => ⟨S_, .f32⟩
  | 109 => ⟨S_, .f32⟩
  | _ => ⟨S16x425x64x64, .f32⟩

abbrev hbmTy (i : Nat) : BufTy := match i / 128 with
  | 0 => hbmTy0_0 i
  | 1 => hbmTy0_1 i
  | 2 => hbmTy0_2 i
  | 3 => hbmTy0_3 i
  | _ => ⟨S16x425x64x64, .f32⟩

abbrev bufTy : (tb : Table) → Fin (tcTables nBuf tb) → BufTy
  | .hbm, ⟨i, _⟩ => hbmTy i
  | _, _ => ⟨S16x425x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_cst_0 : Ref sig .tc := ⟨.hbm, 3, rfl⟩
abbrev main_cst_1 : Ref sig .tc := ⟨.hbm, 4, rfl⟩
abbrev main_cst_2 : Ref sig .tc := ⟨.hbm, 5, rfl⟩
abbrev main_cst_3 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_4 : Ref sig .tc := ⟨.hbm, 13, rfl⟩
abbrev main_cst_5 : Ref sig .tc := ⟨.hbm, 14, rfl⟩
abbrev main_cst_6 : Ref sig .tc := ⟨.hbm, 15, rfl⟩
abbrev main_cst_7 : Ref sig .tc := ⟨.hbm, 16, rfl⟩
abbrev main_cst_8 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_cst_9 : Ref sig .tc := ⟨.hbm, 24, rfl⟩
abbrev main_cst_10 : Ref sig .tc := ⟨.hbm, 25, rfl⟩
abbrev main_cst_11 : Ref sig .tc := ⟨.hbm, 26, rfl⟩
abbrev main_cst_12 : Ref sig .tc := ⟨.hbm, 27, rfl⟩
abbrev main_cst_13 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_cst_14 : Ref sig .tc := ⟨.hbm, 40, rfl⟩
abbrev main_v23 : Ref sig .tc := ⟨.hbm, 41, rfl⟩
abbrev main_v24 : Ref sig .tc := ⟨.hbm, 42, rfl⟩
abbrev main_cst_15 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_cst_16 : Ref sig .tc := ⟨.hbm, 50, rfl⟩
abbrev main_v31 : Ref sig .tc := ⟨.hbm, 51, rfl⟩
abbrev main_v32 : Ref sig .tc := ⟨.hbm, 52, rfl⟩
abbrev main_cst_17 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_cst_18 : Ref sig .tc := ⟨.hbm, 64, rfl⟩
abbrev main_v43 : Ref sig .tc := ⟨.hbm, 65, rfl⟩
abbrev main_v44 : Ref sig .tc := ⟨.hbm, 66, rfl⟩
abbrev main_cst_19 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_cst_20 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_call0_call0_cst : Ref sig .tc := ⟨.hbm, 96, rfl⟩
abbrev main_call0_call0_v0 : Ref sig .tc := ⟨.hbm, 97, rfl⟩
abbrev main_v72 : Ref sig .tc := ⟨.hbm, 98, rfl⟩
abbrev main_cst_21 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_cst_22 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_cst_23 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_cst_24 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_cst_25 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩
abbrev main_v94 : Ref sig .tc := ⟨.hbm, 125, rfl⟩
abbrev main_v95 : Ref sig .tc := ⟨.hbm, 126, rfl⟩
abbrev main_v96 : Ref sig .tc := ⟨.hbm, 127, rfl⟩
abbrev main_v97 : Ref sig .tc := ⟨.hbm, 128, rfl⟩
abbrev main_v98 : Ref sig .tc := ⟨.hbm, 129, rfl⟩
abbrev main_v99 : Ref sig .tc := ⟨.hbm, 130, rfl⟩
abbrev main_v100 : Ref sig .tc := ⟨.hbm, 131, rfl⟩
abbrev main_v101 : Ref sig .tc := ⟨.hbm, 132, rfl⟩
abbrev main_v102 : Ref sig .tc := ⟨.hbm, 133, rfl⟩
abbrev main_v103 : Ref sig .tc := ⟨.hbm, 134, rfl⟩
abbrev main_cst_26 : Ref sig .tc := ⟨.hbm, 135, rfl⟩
abbrev main_v104 : Ref sig .tc := ⟨.hbm, 136, rfl⟩
abbrev main_v105 : Ref sig .tc := ⟨.hbm, 137, rfl⟩
abbrev main_v106 : Ref sig .tc := ⟨.hbm, 138, rfl⟩
abbrev main_cst_27 : Ref sig .tc := ⟨.hbm, 139, rfl⟩
abbrev main_v107 : Ref sig .tc := ⟨.hbm, 140, rfl⟩
abbrev main_v108 : Ref sig .tc := ⟨.hbm, 141, rfl⟩
abbrev main_v109 : Ref sig .tc := ⟨.hbm, 142, rfl⟩
abbrev main_v110 : Ref sig .tc := ⟨.hbm, 143, rfl⟩
abbrev main_v111 : Ref sig .tc := ⟨.hbm, 144, rfl⟩
abbrev main_v112 : Ref sig .tc := ⟨.hbm, 145, rfl⟩
abbrev main_cst_28 : Ref sig .tc := ⟨.hbm, 146, rfl⟩
abbrev main_v113 : Ref sig .tc := ⟨.hbm, 147, rfl⟩
abbrev main_v114 : Ref sig .tc := ⟨.hbm, 148, rfl⟩
abbrev main_v115 : Ref sig .tc := ⟨.hbm, 149, rfl⟩
abbrev main_cst_29 : Ref sig .tc := ⟨.hbm, 150, rfl⟩
abbrev main_v116 : Ref sig .tc := ⟨.hbm, 151, rfl⟩
abbrev main_v117 : Ref sig .tc := ⟨.hbm, 152, rfl⟩
abbrev main_v118 : Ref sig .tc := ⟨.hbm, 153, rfl⟩
abbrev main_v119 : Ref sig .tc := ⟨.hbm, 154, rfl⟩
abbrev main_v120 : Ref sig .tc := ⟨.hbm, 155, rfl⟩
abbrev main_v121 : Ref sig .tc := ⟨.hbm, 156, rfl⟩
abbrev main_cst_30 : Ref sig .tc := ⟨.hbm, 157, rfl⟩
abbrev main_v122 : Ref sig .tc := ⟨.hbm, 158, rfl⟩
abbrev main_v123 : Ref sig .tc := ⟨.hbm, 159, rfl⟩
abbrev main_v124 : Ref sig .tc := ⟨.hbm, 160, rfl⟩
abbrev main_cst_31 : Ref sig .tc := ⟨.hbm, 161, rfl⟩
abbrev main_v125 : Ref sig .tc := ⟨.hbm, 162, rfl⟩
abbrev main_v126 : Ref sig .tc := ⟨.hbm, 163, rfl⟩
abbrev main_v127 : Ref sig .tc := ⟨.hbm, 164, rfl⟩
abbrev main_v128 : Ref sig .tc := ⟨.hbm, 165, rfl⟩
abbrev main_v129 : Ref sig .tc := ⟨.hbm, 166, rfl⟩
abbrev main_v130 : Ref sig .tc := ⟨.hbm, 167, rfl⟩
abbrev main_cst_32 : Ref sig .tc := ⟨.hbm, 168, rfl⟩
abbrev main_v131 : Ref sig .tc := ⟨.hbm, 169, rfl⟩
abbrev main_v132 : Ref sig .tc := ⟨.hbm, 170, rfl⟩
abbrev main_v133 : Ref sig .tc := ⟨.hbm, 171, rfl⟩
abbrev main_cst_33 : Ref sig .tc := ⟨.hbm, 172, rfl⟩
abbrev main_v134 : Ref sig .tc := ⟨.hbm, 173, rfl⟩
abbrev main_v135 : Ref sig .tc := ⟨.hbm, 174, rfl⟩
abbrev main_v136 : Ref sig .tc := ⟨.hbm, 175, rfl⟩
abbrev main_v137 : Ref sig .tc := ⟨.hbm, 176, rfl⟩
abbrev main_v138 : Ref sig .tc := ⟨.hbm, 177, rfl⟩
abbrev main_v139 : Ref sig .tc := ⟨.hbm, 178, rfl⟩
abbrev main_v140 : Ref sig .tc := ⟨.hbm, 179, rfl⟩
abbrev main_v141 : Ref sig .tc := ⟨.hbm, 180, rfl⟩
abbrev main_v142 : Ref sig .tc := ⟨.hbm, 181, rfl⟩
abbrev main_v143 : Ref sig .tc := ⟨.hbm, 182, rfl⟩
abbrev main_v144 : Ref sig .tc := ⟨.hbm, 183, rfl⟩
abbrev main_v145 : Ref sig .tc := ⟨.hbm, 184, rfl⟩
abbrev main_v146 : Ref sig .tc := ⟨.hbm, 185, rfl⟩
abbrev main_v147 : Ref sig .tc := ⟨.hbm, 186, rfl⟩
abbrev main_v148 : Ref sig .tc := ⟨.hbm, 187, rfl⟩
abbrev main_v149 : Ref sig .tc := ⟨.hbm, 188, rfl⟩
abbrev main_cst_34 : Ref sig .tc := ⟨.hbm, 189, rfl⟩
abbrev main_v150 : Ref sig .tc := ⟨.hbm, 190, rfl⟩
abbrev main_v151 : Ref sig .tc := ⟨.hbm, 191, rfl⟩
abbrev main_cst_35 : Ref sig .tc := ⟨.hbm, 192, rfl⟩
abbrev main_v152 : Ref sig .tc := ⟨.hbm, 193, rfl⟩
abbrev main_v153 : Ref sig .tc := ⟨.hbm, 194, rfl⟩
abbrev main_v154 : Ref sig .tc := ⟨.hbm, 195, rfl⟩
abbrev main_v155 : Ref sig .tc := ⟨.hbm, 196, rfl⟩
abbrev main_cst_36 : Ref sig .tc := ⟨.hbm, 197, rfl⟩
abbrev main_call1_v0 : Ref sig .tc := ⟨.hbm, 198, rfl⟩
abbrev main_call1_v1 : Ref sig .tc := ⟨.hbm, 199, rfl⟩
abbrev main_v156 : Ref sig .tc := ⟨.hbm, 200, rfl⟩
abbrev main_v157 : Ref sig .tc := ⟨.hbm, 201, rfl⟩
abbrev main_v158 : Ref sig .tc := ⟨.hbm, 202, rfl⟩
abbrev main_v159 : Ref sig .tc := ⟨.hbm, 203, rfl⟩
abbrev main_v160 : Ref sig .tc := ⟨.hbm, 204, rfl⟩
abbrev main_v161 : Ref sig .tc := ⟨.hbm, 205, rfl⟩
abbrev main_v162 : Ref sig .tc := ⟨.hbm, 206, rfl⟩
abbrev main_v163 : Ref sig .tc := ⟨.hbm, 207, rfl⟩
abbrev main_v164 : Ref sig .tc := ⟨.hbm, 208, rfl⟩
abbrev main_cst_37 : Ref sig .tc := ⟨.hbm, 209, rfl⟩
abbrev main_v165 : Ref sig .tc := ⟨.hbm, 210, rfl⟩
abbrev main_cst_38 : Ref sig .tc := ⟨.hbm, 211, rfl⟩
abbrev main_cst_39 : Ref sig .tc := ⟨.hbm, 212, rfl⟩
abbrev main_v166 : Ref sig .tc := ⟨.hbm, 213, rfl⟩
abbrev main_v167 : Ref sig .tc := ⟨.hbm, 214, rfl⟩
abbrev main_v168 : Ref sig .tc := ⟨.hbm, 215, rfl⟩
abbrev main_cst_40 : Ref sig .tc := ⟨.hbm, 216, rfl⟩
abbrev main_cst_41 : Ref sig .tc := ⟨.hbm, 217, rfl⟩
abbrev main_call2_v0 : Ref sig .tc := ⟨.hbm, 218, rfl⟩
abbrev main_call2_v1 : Ref sig .tc := ⟨.hbm, 219, rfl⟩
abbrev main_call2_v2 : Ref sig .tc := ⟨.hbm, 220, rfl⟩
abbrev main_v169 : Ref sig .tc := ⟨.hbm, 221, rfl⟩
abbrev main_v170 : Ref sig .tc := ⟨.hbm, 222, rfl⟩
abbrev main_v171 : Ref sig .tc := ⟨.hbm, 223, rfl⟩
abbrev main_v172 : Ref sig .tc := ⟨.hbm, 224, rfl⟩
abbrev main_v173 : Ref sig .tc := ⟨.hbm, 225, rfl⟩
abbrev main_cst_42 : Ref sig .tc := ⟨.hbm, 226, rfl⟩
abbrev main_v174 : Ref sig .tc := ⟨.hbm, 227, rfl⟩
abbrev main_v175 : Ref sig .tc := ⟨.hbm, 228, rfl⟩
abbrev main_cst_43 : Ref sig .tc := ⟨.hbm, 229, rfl⟩
abbrev main_v176 : Ref sig .tc := ⟨.hbm, 230, rfl⟩
abbrev main_v177 : Ref sig .tc := ⟨.hbm, 231, rfl⟩
abbrev main_cst_44 : Ref sig .tc := ⟨.hbm, 232, rfl⟩
abbrev main_v178 : Ref sig .tc := ⟨.hbm, 233, rfl⟩
abbrev main_v179 : Ref sig .tc := ⟨.hbm, 234, rfl⟩
abbrev main_cst_45 : Ref sig .tc := ⟨.hbm, 235, rfl⟩
abbrev main_v180 : Ref sig .tc := ⟨.hbm, 236, rfl⟩
abbrev main_v181 : Ref sig .tc := ⟨.hbm, 237, rfl⟩
abbrev main_v182 : Ref sig .tc := ⟨.hbm, 238, rfl⟩
abbrev main_v183 : Ref sig .tc := ⟨.hbm, 239, rfl⟩
abbrev main_v184 : Ref sig .tc := ⟨.hbm, 240, rfl⟩
abbrev main_v185 : Ref sig .tc := ⟨.hbm, 241, rfl⟩
abbrev main_cst_46 : Ref sig .tc := ⟨.hbm, 242, rfl⟩
abbrev main_v186 : Ref sig .tc := ⟨.hbm, 243, rfl⟩
abbrev main_v187 : Ref sig .tc := ⟨.hbm, 244, rfl⟩
abbrev main_cst_47 : Ref sig .tc := ⟨.hbm, 245, rfl⟩
abbrev main_v188 : Ref sig .tc := ⟨.hbm, 246, rfl⟩
abbrev main_v189 : Ref sig .tc := ⟨.hbm, 247, rfl⟩
abbrev main_cst_48 : Ref sig .tc := ⟨.hbm, 248, rfl⟩
abbrev main_v190 : Ref sig .tc := ⟨.hbm, 249, rfl⟩
abbrev main_v191 : Ref sig .tc := ⟨.hbm, 250, rfl⟩
abbrev main_cst_49 : Ref sig .tc := ⟨.hbm, 251, rfl⟩
abbrev main_v192 : Ref sig .tc := ⟨.hbm, 252, rfl⟩
abbrev main_v193 : Ref sig .tc := ⟨.hbm, 253, rfl⟩
abbrev main_v194 : Ref sig .tc := ⟨.hbm, 254, rfl⟩
abbrev main_v195 : Ref sig .tc := ⟨.hbm, 255, rfl⟩
abbrev main_v196 : Ref sig .tc := ⟨.hbm, 256, rfl⟩
abbrev main_v197 : Ref sig .tc := ⟨.hbm, 257, rfl⟩
abbrev main_cst_50 : Ref sig .tc := ⟨.hbm, 258, rfl⟩
abbrev main_v198 : Ref sig .tc := ⟨.hbm, 259, rfl⟩
abbrev main_v199 : Ref sig .tc := ⟨.hbm, 260, rfl⟩
abbrev main_cst_51 : Ref sig .tc := ⟨.hbm, 261, rfl⟩
abbrev main_v200 : Ref sig .tc := ⟨.hbm, 262, rfl⟩
abbrev main_v201 : Ref sig .tc := ⟨.hbm, 263, rfl⟩
abbrev main_cst_52 : Ref sig .tc := ⟨.hbm, 264, rfl⟩
abbrev main_v202 : Ref sig .tc := ⟨.hbm, 265, rfl⟩
abbrev main_v203 : Ref sig .tc := ⟨.hbm, 266, rfl⟩
abbrev main_cst_53 : Ref sig .tc := ⟨.hbm, 267, rfl⟩
abbrev main_v204 : Ref sig .tc := ⟨.hbm, 268, rfl⟩
abbrev main_v205 : Ref sig .tc := ⟨.hbm, 269, rfl⟩
abbrev main_v206 : Ref sig .tc := ⟨.hbm, 270, rfl⟩
abbrev main_v207 : Ref sig .tc := ⟨.hbm, 271, rfl⟩
abbrev main_v208 : Ref sig .tc := ⟨.hbm, 272, rfl⟩
abbrev main_v209 : Ref sig .tc := ⟨.hbm, 273, rfl⟩
abbrev main_cst_54 : Ref sig .tc := ⟨.hbm, 274, rfl⟩
abbrev main_v210 : Ref sig .tc := ⟨.hbm, 275, rfl⟩
abbrev main_v211 : Ref sig .tc := ⟨.hbm, 276, rfl⟩
abbrev main_cst_55 : Ref sig .tc := ⟨.hbm, 277, rfl⟩
abbrev main_v212 : Ref sig .tc := ⟨.hbm, 278, rfl⟩
abbrev main_v213 : Ref sig .tc := ⟨.hbm, 279, rfl⟩
abbrev main_cst_56 : Ref sig .tc := ⟨.hbm, 280, rfl⟩
abbrev main_v214 : Ref sig .tc := ⟨.hbm, 281, rfl⟩
abbrev main_v215 : Ref sig .tc := ⟨.hbm, 282, rfl⟩
abbrev main_cst_57 : Ref sig .tc := ⟨.hbm, 283, rfl⟩
abbrev main_v216 : Ref sig .tc := ⟨.hbm, 284, rfl⟩
abbrev main_v217 : Ref sig .tc := ⟨.hbm, 285, rfl⟩
abbrev main_v218 : Ref sig .tc := ⟨.hbm, 286, rfl⟩
abbrev main_v219 : Ref sig .tc := ⟨.hbm, 287, rfl⟩
abbrev main_v220 : Ref sig .tc := ⟨.hbm, 288, rfl⟩
abbrev main_v221 : Ref sig .tc := ⟨.hbm, 289, rfl⟩
abbrev main_v222 : Ref sig .tc := ⟨.hbm, 290, rfl⟩
abbrev main_v223 : Ref sig .tc := ⟨.hbm, 291, rfl⟩
abbrev main_v224 : Ref sig .tc := ⟨.hbm, 292, rfl⟩
abbrev main_v225 : Ref sig .tc := ⟨.hbm, 293, rfl⟩
abbrev main_v226 : Ref sig .tc := ⟨.hbm, 294, rfl⟩
abbrev main_v227 : Ref sig .tc := ⟨.hbm, 295, rfl⟩
abbrev main_v228 : Ref sig .tc := ⟨.hbm, 296, rfl⟩
abbrev main_v229 : Ref sig .tc := ⟨.hbm, 297, rfl⟩
abbrev main_v230 : Ref sig .tc := ⟨.hbm, 298, rfl⟩
abbrev main_v231 : Ref sig .tc := ⟨.hbm, 299, rfl⟩
abbrev main_v232 : Ref sig .tc := ⟨.hbm, 300, rfl⟩
abbrev main_v233 : Ref sig .tc := ⟨.hbm, 301, rfl⟩
abbrev main_cst_58 : Ref sig .tc := ⟨.hbm, 302, rfl⟩
abbrev main_v234 : Ref sig .tc := ⟨.hbm, 303, rfl⟩
abbrev main_v235 : Ref sig .tc := ⟨.hbm, 304, rfl⟩
abbrev main_cst_59 : Ref sig .tc := ⟨.hbm, 305, rfl⟩
abbrev main_v236 : Ref sig .tc := ⟨.hbm, 306, rfl⟩
abbrev main_v237 : Ref sig .tc := ⟨.hbm, 307, rfl⟩
abbrev main_v238 : Ref sig .tc := ⟨.hbm, 308, rfl⟩
abbrev main_v239 : Ref sig .tc := ⟨.hbm, 309, rfl⟩
abbrev main_cst_60 : Ref sig .tc := ⟨.hbm, 310, rfl⟩
abbrev main_call3_v0 : Ref sig .tc := ⟨.hbm, 311, rfl⟩
abbrev main_call3_v1 : Ref sig .tc := ⟨.hbm, 312, rfl⟩
abbrev main_v240 : Ref sig .tc := ⟨.hbm, 313, rfl⟩
abbrev main_v241 : Ref sig .tc := ⟨.hbm, 314, rfl⟩
abbrev main_v242 : Ref sig .tc := ⟨.hbm, 315, rfl⟩
abbrev main_v243 : Ref sig .tc := ⟨.hbm, 316, rfl⟩
abbrev main_v244 : Ref sig .tc := ⟨.hbm, 317, rfl⟩
abbrev main_v245 : Ref sig .tc := ⟨.hbm, 318, rfl⟩
abbrev main_v246 : Ref sig .tc := ⟨.hbm, 319, rfl⟩
abbrev main_cst_61 : Ref sig .tc := ⟨.hbm, 320, rfl⟩
abbrev main_v247 : Ref sig .tc := ⟨.hbm, 321, rfl⟩
abbrev main_v248 : Ref sig .tc := ⟨.hbm, 322, rfl⟩
abbrev main_v249 : Ref sig .tc := ⟨.hbm, 323, rfl⟩
abbrev main_v250 : Ref sig .tc := ⟨.hbm, 324, rfl⟩
abbrev main_v251 : Ref sig .tc := ⟨.hbm, 325, rfl⟩
abbrev main_c : Ref sig .tc := ⟨.hbm, 326, rfl⟩
abbrev main_call4_v0 : Ref sig .tc := ⟨.hbm, 327, rfl⟩
abbrev main_call4_v1 : Ref sig .tc := ⟨.hbm, 328, rfl⟩
abbrev main_call4_v2 : Ref sig .tc := ⟨.hbm, 329, rfl⟩
abbrev main_v252 : Ref sig .tc := ⟨.hbm, 330, rfl⟩
abbrev main_c_62 : Ref sig .tc := ⟨.hbm, 331, rfl⟩
abbrev main_v253 : Ref sig .tc := ⟨.hbm, 332, rfl⟩
abbrev main_v254 : Ref sig .tc := ⟨.hbm, 333, rfl⟩
abbrev main_v255 : Ref sig .tc := ⟨.hbm, 334, rfl⟩
abbrev main_v256 : Ref sig .tc := ⟨.hbm, 335, rfl⟩
abbrev main_v257 : Ref sig .tc := ⟨.hbm, 336, rfl⟩
abbrev main_cst_63 : Ref sig .tc := ⟨.hbm, 337, rfl⟩
abbrev main_v258 : Ref sig .tc := ⟨.hbm, 338, rfl⟩
abbrev main_v259 : Ref sig .tc := ⟨.hbm, 339, rfl⟩
abbrev main_v260 : Ref sig .tc := ⟨.hbm, 340, rfl⟩
abbrev main_v261 : Ref sig .tc := ⟨.hbm, 341, rfl⟩
abbrev main_c_64 : Ref sig .tc := ⟨.hbm, 342, rfl⟩
abbrev main_call5_v0 : Ref sig .tc := ⟨.hbm, 343, rfl⟩
abbrev main_call5_v1 : Ref sig .tc := ⟨.hbm, 344, rfl⟩
abbrev main_call5_v2 : Ref sig .tc := ⟨.hbm, 345, rfl⟩
abbrev main_v262 : Ref sig .tc := ⟨.hbm, 346, rfl⟩
abbrev main_cst_65 : Ref sig .tc := ⟨.hbm, 347, rfl⟩
abbrev main_v263 : Ref sig .tc := ⟨.hbm, 348, rfl⟩
abbrev main_v264 : Ref sig .tc := ⟨.hbm, 349, rfl⟩
abbrev main_v265 : Ref sig .tc := ⟨.hbm, 350, rfl⟩
abbrev main_v266 : Ref sig .tc := ⟨.hbm, 351, rfl⟩
abbrev main_v267 : Ref sig .tc := ⟨.hbm, 352, rfl⟩
abbrev main_v268 : Ref sig .tc := ⟨.hbm, 353, rfl⟩
abbrev main_cst_66 : Ref sig .tc := ⟨.hbm, 354, rfl⟩
abbrev main_v269 : Ref sig .tc := ⟨.hbm, 355, rfl⟩
abbrev main_v270 : Ref sig .tc := ⟨.hbm, 356, rfl⟩
abbrev main_v271 : Ref sig .tc := ⟨.hbm, 357, rfl⟩
abbrev main_v272 : Ref sig .tc := ⟨.hbm, 358, rfl⟩
abbrev main_v273 : Ref sig .tc := ⟨.hbm, 359, rfl⟩
abbrev main_v274 : Ref sig .tc := ⟨.hbm, 360, rfl⟩
abbrev main_v275 : Ref sig .tc := ⟨.hbm, 361, rfl⟩
abbrev main_cst_67 : Ref sig .tc := ⟨.hbm, 362, rfl⟩
abbrev main_v276 : Ref sig .tc := ⟨.hbm, 363, rfl⟩
abbrev main_v277 : Ref sig .tc := ⟨.hbm, 364, rfl⟩
abbrev main_v278 : Ref sig .tc := ⟨.hbm, 365, rfl⟩
abbrev main_v279 : Ref sig .tc := ⟨.hbm, 366, rfl⟩
abbrev main_v280 : Ref sig .tc := ⟨.hbm, 367, rfl⟩
abbrev main_v281 : Ref sig .tc := ⟨.hbm, 368, rfl⟩
abbrev main_v282 : Ref sig .tc := ⟨.hbm, 369, rfl⟩
abbrev main_v283 : Ref sig .tc := ⟨.hbm, 370, rfl⟩
abbrev main_v284 : Ref sig .tc := ⟨.hbm, 371, rfl⟩
abbrev main_v285 : Ref sig .tc := ⟨.hbm, 372, rfl⟩
abbrev main_v286 : Ref sig .tc := ⟨.hbm, 373, rfl⟩
abbrev main_v287 : Ref sig .tc := ⟨.hbm, 374, rfl⟩
abbrev main_v288 : Ref sig .tc := ⟨.hbm, 375, rfl⟩
abbrev main_v289 : Ref sig .tc := ⟨.hbm, 376, rfl⟩
abbrev main_v290 : Ref sig .tc := ⟨.hbm, 377, rfl⟩
abbrev main_v291 : Ref sig .tc := ⟨.hbm, 378, rfl⟩
abbrev main_v292 : Ref sig .tc := ⟨.hbm, 379, rfl⟩
abbrev main_v293 : Ref sig .tc := ⟨.hbm, 380, rfl⟩
abbrev main_v294 : Ref sig .tc := ⟨.hbm, 381, rfl⟩
abbrev main_v295 : Ref sig .tc := ⟨.hbm, 382, rfl⟩
abbrev main_v296 : Ref sig .tc := ⟨.hbm, 383, rfl⟩
abbrev main_v297 : Ref sig .tc := ⟨.hbm, 384, rfl⟩
abbrev main_v298 : Ref sig .tc := ⟨.hbm, 385, rfl⟩
abbrev main_v299 : Ref sig .tc := ⟨.hbm, 386, rfl⟩
abbrev main_v300 : Ref sig .tc := ⟨.hbm, 387, rfl⟩
abbrev main_v301 : Ref sig .tc := ⟨.hbm, 388, rfl⟩
abbrev main_v302 : Ref sig .tc := ⟨.hbm, 389, rfl⟩
abbrev main_v303 : Ref sig .tc := ⟨.hbm, 390, rfl⟩
abbrev main_v304 : Ref sig .tc := ⟨.hbm, 391, rfl⟩
abbrev main_v305 : Ref sig .tc := ⟨.hbm, 392, rfl⟩
abbrev main_v306 : Ref sig .tc := ⟨.hbm, 393, rfl⟩
abbrev main_v307 : Ref sig .tc := ⟨.hbm, 394, rfl⟩
abbrev main_v308 : Ref sig .tc := ⟨.hbm, 395, rfl⟩
abbrev main_v309 : Ref sig .tc := ⟨.hbm, 396, rfl⟩
abbrev main_v310 : Ref sig .tc := ⟨.hbm, 397, rfl⟩
abbrev main_v311 : Ref sig .tc := ⟨.hbm, 398, rfl⟩
abbrev main_v312 : Ref sig .tc := ⟨.hbm, 399, rfl⟩
abbrev main_v313 : Ref sig .tc := ⟨.hbm, 400, rfl⟩
abbrev main_v314 : Ref sig .tc := ⟨.hbm, 401, rfl⟩
abbrev main_v315 : Ref sig .tc := ⟨.hbm, 402, rfl⟩
abbrev main_v316 : Ref sig .tc := ⟨.hbm, 403, rfl⟩
abbrev main_v317 : Ref sig .tc := ⟨.hbm, 404, rfl⟩
abbrev main_v318 : Ref sig .tc := ⟨.hbm, 405, rfl⟩
abbrev main_v319 : Ref sig .tc := ⟨.hbm, 406, rfl⟩
abbrev main_c_68 : Ref sig .tc := ⟨.hbm, 407, rfl⟩
abbrev main_v320 : Ref sig .tc := ⟨.hbm, 408, rfl⟩
abbrev main_v321 : Ref sig .tc := ⟨.hbm, 409, rfl⟩
abbrev main_v322 : Ref sig .tc := ⟨.hbm, 410, rfl⟩
abbrev main_v323 : Ref sig .tc := ⟨.hbm, 411, rfl⟩
abbrev main_v324 : Ref sig .tc := ⟨.hbm, 412, rfl⟩
abbrev main_v325 : Ref sig .tc := ⟨.hbm, 413, rfl⟩
abbrev main_v326 : Ref sig .tc := ⟨.hbm, 414, rfl⟩
abbrev main_v327 : Ref sig .tc := ⟨.hbm, 415, rfl⟩
abbrev main_v328 : Ref sig .tc := ⟨.hbm, 416, rfl⟩
abbrev main_v329 : Ref sig .tc := ⟨.hbm, 417, rfl⟩
abbrev main_cst_69 : Ref sig .tc := ⟨.hbm, 418, rfl⟩
abbrev main_v330 : Ref sig .tc := ⟨.hbm, 419, rfl⟩
abbrev main_v331 : Ref sig .tc := ⟨.hbm, 420, rfl⟩
abbrev main_v332 : Ref sig .tc := ⟨.hbm, 421, rfl⟩
abbrev main_v333 : Ref sig .tc := ⟨.hbm, 422, rfl⟩
abbrev main_v334 : Ref sig .tc := ⟨.hbm, 423, rfl⟩
abbrev main_cst_70 : Ref sig .tc := ⟨.hbm, 424, rfl⟩
abbrev main_v335 : Ref sig .tc := ⟨.hbm, 425, rfl⟩
abbrev main_v336 : Ref sig .tc := ⟨.hbm, 426, rfl⟩
abbrev main_v337 : Ref sig .tc := ⟨.hbm, 427, rfl⟩
abbrev main_v338 : Ref sig .tc := ⟨.hbm, 428, rfl⟩
abbrev main_v339 : Ref sig .tc := ⟨.hbm, 429, rfl⟩
abbrev main_v340 : Ref sig .tc := ⟨.hbm, 430, rfl⟩
abbrev main_cst_71 : Ref sig .tc := ⟨.hbm, 431, rfl⟩
abbrev main_v341 : Ref sig .tc := ⟨.hbm, 432, rfl⟩
abbrev main_v342 : Ref sig .tc := ⟨.hbm, 433, rfl⟩
abbrev main_v343 : Ref sig .tc := ⟨.hbm, 434, rfl⟩
abbrev main_v344 : Ref sig .tc := ⟨.hbm, 435, rfl⟩
abbrev main_v345 : Ref sig .tc := ⟨.hbm, 436, rfl⟩
abbrev main_v346 : Ref sig .tc := ⟨.hbm, 437, rfl⟩
abbrev main_cst_72 : Ref sig .tc := ⟨.hbm, 438, rfl⟩
abbrev main_v347 : Ref sig .tc := ⟨.hbm, 439, rfl⟩
abbrev main_v348 : Ref sig .tc := ⟨.hbm, 440, rfl⟩
abbrev main_v349 : Ref sig .tc := ⟨.hbm, 441, rfl⟩
abbrev main_v350 : Ref sig .tc := ⟨.hbm, 442, rfl⟩
abbrev main_v351 : Ref sig .tc := ⟨.hbm, 443, rfl⟩
abbrev main_v352 : Ref sig .tc := ⟨.hbm, 444, rfl⟩
abbrev main_cst_73 : Ref sig .tc := ⟨.hbm, 445, rfl⟩
abbrev main_v353 : Ref sig .tc := ⟨.hbm, 446, rfl⟩
abbrev main_v354 : Ref sig .tc := ⟨.hbm, 447, rfl⟩
abbrev main_v355 : Ref sig .tc := ⟨.hbm, 448, rfl⟩
abbrev main_v356 : Ref sig .tc := ⟨.hbm, 449, rfl⟩
abbrev main_v357 : Ref sig .tc := ⟨.hbm, 450, rfl⟩
abbrev main_v358 : Ref sig .tc := ⟨.hbm, 451, rfl⟩
abbrev main_cst_74 : Ref sig .tc := ⟨.hbm, 452, rfl⟩
abbrev main_v359 : Ref sig .tc := ⟨.hbm, 453, rfl⟩
abbrev main_v360 : Ref sig .tc := ⟨.hbm, 454, rfl⟩
abbrev main_v361 : Ref sig .tc := ⟨.hbm, 455, rfl⟩
abbrev main_v362 : Ref sig .tc := ⟨.hbm, 456, rfl⟩
abbrev main_v363 : Ref sig .tc := ⟨.hbm, 457, rfl⟩
abbrev main_v364 : Ref sig .tc := ⟨.hbm, 458, rfl⟩
abbrev main_call6_cst : Ref sig .tc := ⟨.hbm, 459, rfl⟩
abbrev main_call6_v0 : Ref sig .tc := ⟨.hbm, 460, rfl⟩
abbrev main_call6_cst_0 : Ref sig .tc := ⟨.hbm, 461, rfl⟩
abbrev main_call6_v1 : Ref sig .tc := ⟨.hbm, 462, rfl⟩
abbrev main_call6_v2 : Ref sig .tc := ⟨.hbm, 463, rfl⟩
abbrev main_call6_v3 : Ref sig .tc := ⟨.hbm, 464, rfl⟩
abbrev main_call6_v4 : Ref sig .tc := ⟨.hbm, 465, rfl⟩
abbrev main_call6_v5 : Ref sig .tc := ⟨.hbm, 466, rfl⟩
abbrev main_call6_v6 : Ref sig .tc := ⟨.hbm, 467, rfl⟩
abbrev main_call6_cst_1 : Ref sig .tc := ⟨.hbm, 468, rfl⟩
abbrev main_call6_v7 : Ref sig .tc := ⟨.hbm, 469, rfl⟩
abbrev main_call6_v8 : Ref sig .tc := ⟨.hbm, 470, rfl⟩
abbrev main_call6_v9 : Ref sig .tc := ⟨.hbm, 471, rfl⟩
abbrev main_call6_v10 : Ref sig .tc := ⟨.hbm, 472, rfl⟩
abbrev main_v365 : Ref sig .tc := ⟨.hbm, 473, rfl⟩
abbrev main_v366 : Ref sig .tc := ⟨.hbm, 474, rfl⟩
abbrev main_v367 : Ref sig .tc := ⟨.hbm, 475, rfl⟩
abbrev main_v368 : Ref sig .tc := ⟨.hbm, 476, rfl⟩
abbrev main_v369 : Ref sig .tc := ⟨.hbm, 477, rfl⟩
abbrev main_v370 : Ref sig .tc := ⟨.hbm, 478, rfl⟩
abbrev main_v371 : Ref sig .tc := ⟨.hbm, 479, rfl⟩
abbrev main_v372 : Ref sig .tc := ⟨.hbm, 480, rfl⟩
abbrev main_cst_75 : Ref sig .tc := ⟨.hbm, 481, rfl⟩
abbrev main_call7_v0 : Ref sig .tc := ⟨.hbm, 482, rfl⟩
abbrev main_call7_v1 : Ref sig .tc := ⟨.hbm, 483, rfl⟩
abbrev main_v373 : Ref sig .tc := ⟨.hbm, 484, rfl⟩
abbrev main_cst_76 : Ref sig .tc := ⟨.hbm, 485, rfl⟩
abbrev main_v374 : Ref sig .tc := ⟨.hbm, 486, rfl⟩
abbrev main_v375 : Ref sig .tc := ⟨.hbm, 487, rfl⟩
abbrev main_v376 : Ref sig .tc := ⟨.hbm, 488, rfl⟩
abbrev main_v377 : Ref sig .tc := ⟨.hbm, 489, rfl⟩
abbrev main_v378 : Ref sig .tc := ⟨.hbm, 490, rfl⟩
abbrev main_v379 : Ref sig .tc := ⟨.hbm, 491, rfl⟩
abbrev main_v380 : Ref sig .tc := ⟨.hbm, 492, rfl⟩
abbrev main_v381 : Ref sig .tc := ⟨.hbm, 493, rfl⟩

abbrev nD : Nat := 1
abbrev τ : Topo := Topo.v7x

variable {F : FTy → Type} [FloatOps F]
-- ==== Proof.Spec.lean ====
/-
What one call of the kernel's body computes, written as recursions over the fifty targets and the eighty classes
  (the printed body has both loops unrolled). Everything is a function of the words `W r t` that the prepass left in
  the scalar scratch (row `r`, target `t`), of the 85 channel blocks `B k` and of the target block `T`.
-/
module

public import proofs.«01_k».proof.Proof.Gen.KernelIdeal.Skeleton

@[expose] public section

noncomputable section

namespace Cert.KernelIdeal.Hand

open Cert.KernelIdeal Cert.KernelIdeal.Gen
open Idealize.ShloMosaic Idealize.ShloMosaic.TcCoe

variable {F : FTy → Type} [FloatOps F]

/-- The scratch words: row `r` (of 14), target `t` (of 50). -/
abbrev Words (F : FTy → Type) : Type := Fin 14 → Fin 50 → F .f32

section Chain

variable (W : Words F) (i : grid0.Coords)

/-- The cells that target `t` is assigned to: its row, and its column where its best anchor is this call's. -/
def hit (t : Fin 50) : IVec S32x128 1 :=
  andi (cmpf .oeq (k0_pay46 (F := F)) (broadcast S32x128 (W 5 t)))
    (cmpf .oeq (k0_pay45 (F := F)) (broadcast S32x128
      (Scalar.select (Scalar.cmpf .oeq (W 6 t) (k0_pay42 i)) (W 7 t) (Scalar.ofBits .f32 0xBF800000#32))))

/-- A value per target, spread over the cells: the last of the first `k` targets that hits the cell wins, else 0. -/
def sel (v : Fin 50 → F .f32) : (k : ℕ) → k ≤ 50 → FVec F S32x128 .f32
  | 0, _ => broadcast S32x128 (Scalar.ofBits .f32 0x00000000#32)
  | k + 1, h => select (hit W i ⟨k, h⟩) (broadcast S32x128 (v ⟨k, h⟩)) (sel v k (Nat.le_of_succ_le h))

/-- The mask of the assigned cells. -/
def maskc : FVec F S32x128 .f32 := sel W i (fun _ => Scalar.ofBits .f32 0x3F800000#32) 50 le_rfl

variable (pxl pxr pyt pyb parea : FVec F S32x128 .f32)

/-- The product of the overlaps of the predicted boxes with target `t`'s box. -/
def overlap (t : Fin 50) : FVec F S32x128 .f32 :=
  mulf (maximumf (subf (minimumf pxr (broadcast S32x128 (W 1 t))) (maximumf pxl (broadcast S32x128 (W 0 t))))
      (broadcast S32x128 (Scalar.ofBits .f32 0x00000000#32)))
    (subf (minimumf pyb (broadcast S32x128 (W 3 t))) (maximumf pyt (broadcast S32x128 (W 2 t))))

/-- The cells whose overlap with one of the first `k` targets is above the threshold. -/
def sil : (k : ℕ) → k ≤ 50 → IVec S32x128 1
  | 0, _ => cmpf .ogt (broadcast S32x128 (Scalar.ofBits .f32 0x00000000#32 : F .f32))
      (broadcast S32x128 (Scalar.ofBits .f32 0x3F800000#32))
  | k + 1, h => ori (sil k (Nat.le_of_succ_le h))
      (cmpf .ogt (overlap W pxl pxr pyt pyb ⟨k, h⟩) (addf parea (broadcast S32x128 (W 4 ⟨k, h⟩))))

end Chain

section Classes

variable (B : Fin 85 → Vec F S1x1x32x128 .f32) (mask cls : FVec F S32x128 .f32)

/-- The f32 word of the class number `k` (`k < 128`). -/
def clsWord (k : ℕ) : BitVec 32 :=
  if k = 0 then 0#32 else BitVec.ofNat 32 ((126 + Nat.log2 k) * 2 ^ 23 + k * 2 ^ (23 - Nat.log2 k))

/-- The masked logits of class `k`. -/
def mcls (k : ℕ) (h : k < 80) : FVec F S32x128 .f32 :=
  mulf (shapeCast S32x128 (B ⟨5 + k, by omega⟩) shapeCasts_S1x1x32x128_S32x128) mask

/-- The sum of the exponentials of the first `k` classes' masked logits. -/
def sexp : (k : ℕ) → k ≤ 80 → FVec F S32x128 .f32
  | 0, _ => broadcast S32x128 (Scalar.ofBits .f32 0x00000000#32)
  | k + 1, h => addf (sexp k (Nat.le_of_succ_le h)) (exp (mcls B mask k h))

/-- The masked logit of the cell's own class, among the first `k` classes. -/
def pick : (k : ℕ) → k ≤ 80 → FVec F S32x128 .f32
  | 0, _ => broadcast S32x128 (Scalar.ofBits .f32 0x00000000#32)
  | k + 1, h => select (cmpf .oeq cls (broadcast S32x128 (Scalar.ofBits .f32 (clsWord k)))) (mcls B mask k h)
      (pick k (Nat.le_of_succ_le h))

/-- The class loss of the block, summed over its rows. -/
def lcls : FVec F S1x128 .f32 :=
  shapeCast S1x128 (multiReduction .add [0] S128 (subf (log (sexp B mask 80 le_rfl)) (pick B mask cls 80 le_rfl))
    0x00000000#32 reduces_S32x128_S128 (.inl rfl) rfl) shapeCasts_S128_S1x128

end Classes

variable (W : Words F) (i : grid0.Coords) (B : Fin 85 → Vec F S1x1x32x128 .f32) (T : Vec F S1x1x128 .f32)

/-- The cells some target's box overlaps enough. -/
def silAll : IVec S32x128 1 :=
  sil W (k0_pay53 (k0_pay43 i) k0_pay45 (B 0) (B 2)) (k0_pay54 (k0_pay43 i) k0_pay45 (B 0) (B 2))
    (k0_pay55 (k0_pay44 i) k0_pay46 (B 1) (B 3)) (k0_pay56 (k0_pay44 i) k0_pay46 (B 1) (B 3))
    (k0_pay57 (k0_pay43 i) (k0_pay44 i) (B 2) (B 3)) 50 le_rfl

/-- The output block after the call from its per-cell parts: the eight rows of partial sums added to what it held. -/
def outOf (i : grid0.Coords) (B : Fin 85 → Vec F S1x1x32x128 .f32) (T : Vec F S1x1x128 .f32)
    (mask tx ty tw th conf cls : FVec F S32x128 .f32) (sl : IVec S32x128 1) (x : Vec F S1x8x128 .f32) : FVec F S1x8x128 .f32 :=
  k0_pay2 (k0_pay568 (k0_pay47 (B 0)) mask tx) (k0_pay569 (k0_pay48 (B 1)) mask ty)
    (k0_pay570 mask tw (B 2)) (k0_pay571 mask th (B 3))
    (k0_pay573 conf (k0_pay567 (B 4)) (k0_pay572 sl mask))
    (lcls B mask cls)
    (k0_pay693 (BitVec.ofNat 32 (i 1).val) T) (Scalar.ofBits .f32 0x00000000#32) k0_pay694 x

/-- What the output block holds after the call, from what it held before (`x`). -/
def outVec (x : Vec F S1x8x128 .f32) : FVec F S1x8x128 .f32 :=
  outOf i B T (maskc W i) (sel W i (W 8) 50 le_rfl) (sel W i (W 9) 50 le_rfl) (sel W i (W 10) 50 le_rfl)
    (sel W i (W 11) 50 le_rfl) (sel W i (W 12) 50 le_rfl) (sel W i (W 13) 50 le_rfl) (silAll W i B) x

end Cert.KernelIdeal.Hand

end
-- ==== Proof.BodyB.lean ====
/-
The body at the points where no condition holds: one triple, the pieces it leaves found by the run.
-/
module

public import proofs.«01_k».proof.Proof.Gen.KernelIdeal.Frame
public import proofs.«01_k».proof.Proof.Gen.KernelIdeal.Skeleton
public import proofs.«01_k».proof.Proof.Gen.KernelIdeal.Loops
public import Idealize.ShloMosaic.Lib.Tactic

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev cond0_0 (i : grid0.Coords) : Prop := k0_cond1 i = 1#1
abbrev cond0_1 (i : grid0.Coords) : Prop := (Scalar.cmpi .ne (Scalar.extui (Scalar.cmpi .eq (BitVec.ofNat 32 (i 1).val) 0#32)) 0#32) = 1#1

set_option maxHeartbeats 8000000 in
/-- The body where neither condition holds. -/
def runB (c : Dev nD) (i : grid0.Coords) (arg2 : Memref sig .tc .smem S16x640 .f32) (harg2 : arg2.IsWhole) (arg3 : Memref sig .tc .vmem S1x5x128 .f32) (harg3 : arg3.IsWhole) (arg4 : Memref sig .tc .vmem S1x85x32x128 .f32) (harg4 : arg4.IsWhole) (arg5 : Memref sig .tc .vmem S1x8x128 .f32) (harg5 : arg5.IsWhole) (arg6 : Memref sig .tc .smem S14x128 .f32) (harg6 : arg6.IsWhole) (hc0 : ¬cond0_0 i) (hc1 : ¬cond0_1 i)
    (x0 : Vec F S16x640 .f32) (x1 : Vec F S1x5x128 .f32) (x2 : Vec F S1x85x32x128 .f32) (x3 : Vec F S1x8x128 .f32) (s : Vec F S14x128 .f32) :
    { L : List (View.Piece (Elt F) S1x8x128 .f32) // ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare s
            ∗ (iprop(owns (c : Thread nD τ) arg2 fullShare x0 ∗ owns (c : Thread nD τ) arg3 fullShare x1 ∗ owns (c : Thread nD τ) arg4 fullShare x2
                ∗ (arg5.view.loc (c : Thread nD τ) ↦[arg5.view.set]{fullShare} arg5.view.writes (Elt F) (harg5.unread x3) L) ∗ owns (c : Thread nD τ) arg6 fullShare s) -∗ K ⟨⟩))
          ⊢ wp frame (wpE (defs₀ (F := F)) Variants.none c none) E (cc0_region_loss i arg2 harg2 arg3 harg3 arg4 harg4 arg5 harg5 arg6 harg6) K } := by
  refine ⟨?_, fun E K => ?run⟩
  case run =>
    simp only [cc0_region_loss_eq_skeleton]; unfold cc0_region_loss_skel
    simp only [k0_part97_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton]
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hfs0
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexact H3
    iexists _; isplitr; · ipureintro; exact harg6.read_unread _
    iexact HS0

end Cert.KernelIdeal.Hand

end
-- ==== Proof.BodyA.lean ====
/-
The body at the points where both conditions hold (the first anchor of an image).
-/
module

public import proofs.«01_k».proof.Proof.BodyB

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 8000000 in
/-- The body where both conditions hold. -/
def runA (c : Dev nD) (i : grid0.Coords) (arg2 : Memref sig .tc .smem S16x640 .f32) (harg2 : arg2.IsWhole) (arg3 : Memref sig .tc .vmem S1x5x128 .f32) (harg3 : arg3.IsWhole) (arg4 : Memref sig .tc .vmem S1x85x32x128 .f32) (harg4 : arg4.IsWhole) (arg5 : Memref sig .tc .vmem S1x8x128 .f32) (harg5 : arg5.IsWhole) (arg6 : Memref sig .tc .smem S14x128 .f32) (harg6 : arg6.IsWhole) (hc0 : cond0_0 i) (hc1 : cond0_1 i)
    (x0 : Vec F S16x640 .f32) (x1 : Vec F S1x5x128 .f32) (x2 : Vec F S1x85x32x128 .f32) (x3 : Vec F S1x8x128 .f32) (s : Vec F S14x128 .f32) :
    Σ' (f6 : BufTy.Contents (Elt F) arg6.view.ty), { L : List (View.Piece (Elt F) S1x8x128 .f32) // ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare s
            ∗ (iprop(owns (c : Thread nD τ) arg2 fullShare x0 ∗ owns (c : Thread nD τ) arg3 fullShare x1 ∗ owns (c : Thread nD τ) arg4 fullShare x2
                ∗ (arg5.view.loc (c : Thread nD τ) ↦[arg5.view.set]{fullShare} arg5.view.writes (Elt F) (harg5.unread x3) L)
                ∗ (arg6.view.loc (c : Thread nD τ) ↦[arg6.view.set]{fullShare} f6)) -∗ K ⟨⟩))
          ⊢ wp frame (wpE (defs₀ (F := F)) Variants.none c none) E (cc0_region_loss i arg2 harg2 arg3 harg3 arg4 harg4 arg5 harg5 arg6 harg6) K } := by
  refine ⟨?_, ?_, fun E K => ?run⟩
  case run =>
    simp only [cc0_region_loss_eq_skeleton]; unfold cc0_region_loss_skel
    simp only [k0_part97_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton]
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hfs0
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexact H3
    iexact HS0

end Cert.KernelIdeal.Hand

end
-- ==== Proof.Found.lean ====
/-
The pieces the body leaves in the output block are the specification's vector.
-/
module

public import proofs.«01_k».proof.Proof.Spec
public import proofs.«01_k».proof.Proof.BodyA
public import proofs.«01_k».proof.Proof.BodyB

@[expose] public section

set_option maxRecDepth 100000

noncomputable section

namespace Cert.KernelIdeal.Hand

open Cert.KernelIdeal Cert.KernelIdeal.Gen
open Idealize.ShloMosaic Idealize.ShloMosaic.TcCoe

variable {F : FTy → Type} [FloatOps F]

theorem inbW (r : Fin 14) (t : Fin 50) :
    ∀ a, (![r.val, t.val] : Fin 2 → ℕ) a + S1x1.size a ≤ S14x128.size a := by
  have := r.isLt; have := t.isLt; intro a; fin_cases a <;> simp [S1x1, S14x128] <;> omega

theorem inbB (k : Fin 85) :
    ∀ a, (![0, k.val, 0, 0] : Fin 4 → ℕ) a + S1x1x32x128.size a ≤ S1x85x32x128.size a := by
  have := k.isLt; intro a; fin_cases a <;> simp [S1x1x32x128, S1x85x32x128] <;> omega

/-- The words a scratch's contents hold. -/
abbrev wordsOf (arg6 : Memref sig .tc .smem S14x128 .f32) (f : BufTy.Contents (Elt F) arg6.view.ty) : Words F := fun r t =>
  arg6.view.readAt (Elt F) (Rect.unit (s := S14x128) ![r.val, t.val] S1x1.size (inbW r t)).toLoadRect f
    (Shape.Idx.first (show 0 < (Rect.unit (s := S14x128) ![r.val, t.val] S1x1.size (inbW r t)).shape.numel from Nat.one_pos))

/-- The channel blocks an input block's contents hold. -/
abbrev blocksOf (arg4 : Memref sig .tc .vmem S1x85x32x128 .f32) (f : BufTy.Contents (Elt F) arg4.view.ty) (k : Fin 85) :
    Vec F S1x1x32x128 .f32 :=
  arg4.view.readAt (Elt F) (Rect.unit (s := S1x85x32x128) ![0, k.val, 0, 0] S1x1x32x128.size (inbB k)).toLoadRect f

/-- The targets' row of `t1`. -/
abbrev rowOf (arg3 : Memref sig .tc .vmem S1x5x128 .f32) (f : BufTy.Contents (Elt F) arg3.view.ty) : Vec F S1x1x128 .f32 :=
  arg3.view.readAt (Elt F) (Rect.unit (s := S1x5x128) ![0, 1, 0] S1x1x128.size inb_S1x5x128_S1x1x128_0_1_0).toLoadRect f

/-- The rectangle of the whole output block. -/
abbrev rect5 : Rect S1x8x128 := Rect.unit (s := S1x8x128) ![0, 0, 0] ![1, 8, 128] inb_S1x8x128_S1x8x128_0_0_0

theorem runB_eq (c : Dev nD) (i : grid0.Coords) (arg2 : Memref sig .tc .smem S16x640 .f32) (harg2 : arg2.IsWhole) (arg3 : Memref sig .tc .vmem S1x5x128 .f32) (harg3 : arg3.IsWhole) (arg4 : Memref sig .tc .vmem S1x85x32x128 .f32) (harg4 : arg4.IsWhole) (arg5 : Memref sig .tc .vmem S1x8x128 .f32) (harg5 : arg5.IsWhole) (arg6 : Memref sig .tc .smem S14x128 .f32) (harg6 : arg6.IsWhole) (hc0 : ¬cond0_0 i) (hc1 : ¬cond0_1 i)
    (x0 : Vec F S16x640 .f32) (x1 : Vec F S1x5x128 .f32) (x2 : Vec F S1x85x32x128 .f32) (x3 : Vec F S1x8x128 .f32) (s : Vec F S14x128 .f32) :
    (runB c i arg2 harg2 arg3 harg3 arg4 harg4 arg5 harg5 arg6 harg6 hc0 hc1 x0 x1 x2 x3 s).1
      = [⟨rect5, outVec (wordsOf arg6 (harg6.unread s)) i (blocksOf arg4 (harg4.unread x2)) (rowOf arg3 (harg3.unread x1))
          (arg5.view.readAt (Elt F) rect5.toLoadRect (harg5.unread x3))⟩] := by
  have h0 : runB.sl.r_1180 c i arg6 harg6 s = maskc (wordsOf arg6 (harg6.unread s)) i := rfl
  have h1 : runB.sl.r_1181 c i arg6 harg6 s = sel (wordsOf arg6 (harg6.unread s)) i (wordsOf arg6 (harg6.unread s) 8) 50 le_rfl := rfl
  have h2 : runB.sl.r_1182 c i arg6 harg6 s = sel (wordsOf arg6 (harg6.unread s)) i (wordsOf arg6 (harg6.unread s) 9) 50 le_rfl := rfl
  have h3 : runB.sl.r_1183 c i arg6 harg6 s = sel (wordsOf arg6 (harg6.unread s)) i (wordsOf arg6 (harg6.unread s) 10) 50 le_rfl := rfl
  have h4 : runB.sl.r_1184 c i arg6 harg6 s = sel (wordsOf arg6 (harg6.unread s)) i (wordsOf arg6 (harg6.unread s) 11) 50 le_rfl := rfl
  have h5 : runB.sl.r_1187 c i arg6 harg6 s = sel (wordsOf arg6 (harg6.unread s)) i (wordsOf arg6 (harg6.unread s) 12) 50 le_rfl := rfl
  have h6 : runB.sl.r_1188 c i arg6 harg6 s = sel (wordsOf arg6 (harg6.unread s)) i (wordsOf arg6 (harg6.unread s) 13) 50 le_rfl := rfl
  have h7 : runB.sl.r_1178 c i arg4 harg4 arg6 harg6 x2 s = silAll (wordsOf arg6 (harg6.unread s)) i (blocksOf arg4 (harg4.unread x2)) := rfl
  have h8 : runB.sl.r_1243 c i arg4 harg4 arg6 harg6 x2 s = lcls (blocksOf arg4 (harg4.unread x2)) (runB.sl.r_1180 c i arg6 harg6 s) (runB.sl.r_1188 c i arg6 harg6 s) := rfl
  unfold outVec
  rw [← h0, ← h1, ← h2, ← h3, ← h4, ← h5, ← h6, ← h7]
  unfold outOf
  rw [← h8]
  rfl

/-- What the prepass leaves in the scratch. -/
def loopOut (c : Dev nD) (i : grid0.Coords) (arg2 : Memref sig .tc .smem S16x640 .f32) (harg2 : arg2.IsWhole) (arg3 : Memref sig .tc .vmem S1x5x128 .f32) (harg3 : arg3.IsWhole) (arg4 : Memref sig .tc .vmem S1x85x32x128 .f32) (harg4 : arg4.IsWhole) (arg5 : Memref sig .tc .vmem S1x8x128 .f32) (harg5 : arg5.IsWhole) (arg6 : Memref sig .tc .smem S14x128 .f32) (harg6 : arg6.IsWhole) (hc0 : cond0_0 i) (x0 : Vec F S16x640 .f32) (s : Vec F S14x128 .f32) :
    BufTy.Contents (Elt F) arg6.view.ty :=
  arg6.view.writes (Elt F) (harg6.unread s)
    (st_k0_t1 Variants.none c none i arg2 harg2 arg3 harg3 arg4 harg4 arg5 harg5 arg6 harg6 (BitVec.ofNat 32 (i 0).val) hc0
      (harg2.unread x0) runA.sl.cst_1946 (Scf.trips k0_t1_loop.lb k0_t1_loop.ub k0_t1_loop.st)).2

theorem runA_scratch (c : Dev nD) (i : grid0.Coords) (arg2 : Memref sig .tc .smem S16x640 .f32) (harg2 : arg2.IsWhole) (arg3 : Memref sig .tc .vmem S1x5x128 .f32) (harg3 : arg3.IsWhole) (arg4 : Memref sig .tc .vmem S1x85x32x128 .f32) (harg4 : arg4.IsWhole) (arg5 : Memref sig .tc .vmem S1x8x128 .f32) (harg5 : arg5.IsWhole) (arg6 : Memref sig .tc .smem S14x128 .f32) (harg6 : arg6.IsWhole) (hc0 : cond0_0 i) (hc1 : cond0_1 i)
    (x0 : Vec F S16x640 .f32) (x1 : Vec F S1x5x128 .f32) (x2 : Vec F S1x85x32x128 .f32) (x3 : Vec F S1x8x128 .f32) (s : Vec F S14x128 .f32) :
    (runA c i arg2 harg2 arg3 harg3 arg4 harg4 arg5 harg5 arg6 harg6 hc0 hc1 x0 x1 x2 x3 s).1
      = loopOut c i arg2 harg2 arg3 harg3 arg4 harg4 arg5 harg5 arg6 harg6 hc0 x0 s := rfl

theorem runA_eq (c : Dev nD) (i : grid0.Coords) (arg2 : Memref sig .tc .smem S16x640 .f32) (harg2 : arg2.IsWhole) (arg3 : Memref sig .tc .vmem S1x5x128 .f32) (harg3 : arg3.IsWhole) (arg4 : Memref sig .tc .vmem S1x85x32x128 .f32) (harg4 : arg4.IsWhole) (arg5 : Memref sig .tc .vmem S1x8x128 .f32) (harg5 : arg5.IsWhole) (arg6 : Memref sig .tc .smem S14x128 .f32) (harg6 : arg6.IsWhole) (hc0 : cond0_0 i) (hc1 : cond0_1 i)
    (x0 : Vec F S16x640 .f32) (x1 : Vec F S1x5x128 .f32) (x2 : Vec F S1x85x32x128 .f32) (x3 : Vec F S1x8x128 .f32) (s : Vec F S14x128 .f32) :
    (runA c i arg2 harg2 arg3 harg3 arg4 harg4 arg5 harg5 arg6 harg6 hc0 hc1 x0 x1 x2 x3 s).2.1
      = ⟨rect5, outVec (wordsOf arg6 (loopOut c i arg2 harg2 arg3 harg3 arg4 harg4 arg5 harg5 arg6 harg6 hc0 x0 s)) i (blocksOf arg4 (harg4.unread x2)) (rowOf arg3 (harg3.unread x1))
          (runA.sl.v3375 c arg5)⟩ :: [⟨rect5, k0_pay1⟩] := by
  have h0 : runA.sl.r_1180 c i arg2 harg2 arg3 harg3 arg4 harg4 arg5 harg5 arg6 harg6 hc0 x0 s = maskc (wordsOf arg6 (loopOut c i arg2 harg2 arg3 harg3 arg4 harg4 arg5 harg5 arg6 harg6 hc0 x0 s)) i := rfl
  have h1 : runA.sl.r_1181 c i arg2 harg2 arg3 harg3 arg4 harg4 arg5 harg5 arg6 harg6 hc0 x0 s = sel (wordsOf arg6 (loopOut c i arg2 harg2 arg3 harg3 arg4 harg4 arg5 harg5 arg6 harg6 hc0 x0 s)) i (wordsOf arg6 (loopOut c i arg2 harg2 arg3 harg3 arg4 harg4 arg5 harg5 arg6 harg6 hc0 x0 s) 8) 50 le_rfl := rfl
  have h2 : runA.sl.r_1182 c i arg2 harg2 arg3 harg3 arg4 harg4 arg5 harg5 arg6 harg6 hc0 x0 s = sel (wordsOf arg6 (loopOut c i arg2 harg2 arg3 harg3 arg4 harg4 arg5 harg5 arg6 harg6 hc0 x0 s)) i (wordsOf arg6 (loopOut c i arg2 harg2 arg3 harg3 arg4 harg4 arg5 harg5 arg6 harg6 hc0 x0 s) 9) 50 le_rfl := rfl
  have h3 : runA.sl.r_1183 c i arg2 harg2 arg3 harg3 arg4 harg4 arg5 harg5 arg6 harg6 hc0 x0 s = sel (wordsOf arg6 (loopOut c i arg2 harg2 arg3 harg3 arg4 harg4 arg5 harg5 arg6 harg6 hc0 x0 s)) i (wordsOf arg6 (loopOut c i arg2 harg2 arg3 harg3 arg4 harg4 arg5 harg5 arg6 harg6 hc0 x0 s) 10) 50 le_rfl := rfl
  have h4 : runA.sl.r_1184 c i arg2 harg2 arg3 harg3 arg4 harg4 arg5 harg5 arg6 harg6 hc0 x0 s = sel (wordsOf arg6 (loopOut c i arg2 harg2 arg3 harg3 arg4 harg4 arg5 harg5 arg6 harg6 hc0 x0 s)) i (wordsOf arg6 (loopOut c i arg2 harg2 arg3 harg3 arg4 harg4 arg5 harg5 arg6 harg6 hc0 x0 s) 11) 50 le_rfl := rfl
  have h5 : runA.sl.r_1187 c i arg2 harg2 arg3 harg3 arg4 harg4 arg5 harg5 arg6 harg6 hc0 x0 s = sel (wordsOf arg6 (loopOut c i arg2 harg2 arg3 harg3 arg4 harg4 arg5 harg5 arg6 harg6 hc0 x0 s)) i (wordsOf arg6 (loopOut c i arg2 harg2 arg3 harg3 arg4 harg4 arg5 harg5 arg6 harg6 hc0 x0 s) 12) 50 le_rfl := rfl
  have h6 : runA.sl.r_1188 c i arg2 harg2 arg3 harg3 arg4 harg4 arg5 harg5 arg6 harg6 hc0 x0 s = sel (wordsOf arg6 (loopOut c i arg2 harg2 arg3 harg3 arg4 harg4 arg5 harg5 arg6 harg6 hc0 x0 s)) i (wordsOf arg6 (loopOut c i arg2 harg2 arg3 harg3 arg4 harg4 arg5 harg5 arg6 harg6 hc0 x0 s) 13) 50 le_rfl := rfl
  have h7 : runA.sl.r_1178 c i arg2 harg2 arg3 harg3 arg4 harg4 arg5 harg5 arg6 harg6 hc0 x0 x2 s = silAll (wordsOf arg6 (loopOut c i arg2 harg2 arg3 harg3 arg4 harg4 arg5 harg5 arg6 harg6 hc0 x0 s)) i (blocksOf arg4 (harg4.unread x2)) := rfl
  have h8 : runA.sl.r_1243 c i arg2 harg2 arg3 harg3 arg4 harg4 arg5 harg5 arg6 harg6 hc0 x0 x2 s = lcls (blocksOf arg4 (harg4.unread x2)) (runA.sl.r_1180 c i arg2 harg2 arg3 harg3 arg4 harg4 arg5 harg5 arg6 harg6 hc0 x0 s) (runA.sl.r_1188 c i arg2 harg2 arg3 harg3 arg4 harg4 arg5 harg5 arg6 harg6 hc0 x0 s) := rfl
  unfold outVec
  rw [← h0, ← h1, ← h2, ← h3, ← h4, ← h5, ← h6, ← h7]
  unfold outOf
  rw [← h8]
  rfl

end Cert.KernelIdeal.Hand

end
-- ==== Proof.Prepass.lean ====
/-
The prepass: what its fifty trips leave in the scalar scratch, as words computed from the five entries of each target.
-/
module

public import proofs.«01_k».proof.Proof.Found
public import Idealize.ShloMosaic.Lib.WholeRead
public import Idealize.ShloMosaic.Lib.Writes

@[expose] public section

set_option maxRecDepth 16384

noncomputable section

namespace Cert.KernelIdeal.Hand

open Cert.KernelIdeal Cert.KernelIdeal.Gen
open Idealize.ShloMosaic Idealize.ShloMosaic.TcCoe

variable {F : FTy → Type} [FloatOps F]

/-- The words of the anchors' widths and heights, of their halves with either sign, of their areas, of their numbers. -/
def awW : Fin 5 → BitVec 32 := ![0x3FA93A93#32, 0x404C5604#32, 0x40A1C9B0#32, 0x411789B5#32, 0x4133C84B#32]
def ahW : Fin 5 → BitVec 32 := ![0x3FDDA027#32, 0x40804D55#32, 0x4101952D#32, 0x409AE59F#32, 0x41201D15#32]
def hwW : Fin 5 → BitVec 32 := ![0x3F293A93#32, 0x3FCC5604#32, 0x4021C9B0#32, 0x409789B5#32, 0x40B3C84B#32]
def hhW : Fin 5 → BitVec 32 := ![0x3F5DA027#32, 0x40004D55#32, 0x4081952D#32, 0x401AE59F#32, 0x40A01D15#32]
def nwW : Fin 5 → BitVec 32 := ![0xBF293A93#32, 0xBFCC5604#32, 0xC021C9B0#32, 0xC09789B5#32, 0xC0B3C84B#32]
def nhW : Fin 5 → BitVec 32 := ![0xBF5DA027#32, 0xC0004D55#32, 0xC081952D#32, 0xC01AE59F#32, 0xC0A01D15#32]
def areaW : Fin 5 → BitVec 32 := ![0x4012816F#32, 0x414CD178#32, 0x4223C9D1#32, 0x42376187#32, 0x42E0E337#32]
def numW : Fin 5 → BitVec 32 := ![0x00000000#32, 0x3F800000#32, 0x40000000#32, 0x40400000#32, 0x40800000#32]

/-- A float literal. -/
abbrev lit (w : BitVec 32) : F .f32 := Scalar.ofBits .f32 w

/-- The extent of the overlap of two centred intervals: `g + a - (max (g/2) (a/2) - min (-g/2) (-a/2))`. -/
def ext (g : F .f32) (a h n : BitVec 32) : F .f32 :=
  Scalar.subf (Scalar.addf g (lit a))
    (Scalar.subf (Scalar.maximumf (Scalar.mulf (lit 0x3F000000#32) g) (lit h))
      (Scalar.minimumf (Scalar.mulf (lit 0xBF000000#32) g) (lit n)))

/-- The overlap area of the target's shape with anchor `n`'s. -/
def aInter (gw gh : F .f32) (n : Fin 5) : F .f32 :=
  Scalar.select (Scalar.andi (Scalar.cmpf .ogt (ext gw (awW n) (hwW n) (nwW n)) (lit 0x00000000#32))
      (Scalar.cmpf .ogt (ext gh (ahW n) (hhW n) (nhW n)) (lit 0x00000000#32)))
    (Scalar.mulf (ext gw (awW n) (hwW n) (nwW n)) (ext gh (ahW n) (hhW n) (nhW n))) (lit 0x00000000#32)

/-- The shape's overlap ratio with anchor `n`. -/
def aIou (gw gh : F .f32) (n : Fin 5) : F .f32 :=
  Scalar.divf (aInter gw gh n) (Scalar.subf (Scalar.addf (Scalar.mulf gw gh) (lit (areaW n))) (aInter gw gh n))

/-- The best ratio among the anchors up to `k`, -/
def best (gw gh : F .f32) : (k : ℕ) → k < 5 → F .f32
  | 0, _ => aIou gw gh 0
  | k + 1, h => Scalar.select (Scalar.cmpf .ogt (aIou gw gh ⟨k + 1, h⟩) (best gw gh k (Nat.lt_of_succ_lt h)))
      (aIou gw gh ⟨k + 1, h⟩) (best gw gh k (Nat.lt_of_succ_lt h))

/-- and the number of the first anchor that has it. -/
def bn (gw gh : F .f32) : (k : ℕ) → k < 5 → F .f32
  | 0, _ => lit (numW 0)
  | k + 1, h => Scalar.select (Scalar.cmpf .ogt (aIou gw gh ⟨k + 1, h⟩) (best gw gh k (Nat.lt_of_succ_lt h)))
      (lit (numW ⟨k + 1, h⟩)) (bn gw gh k (Nat.lt_of_succ_lt h))

/-- The entry of a table of five words at an anchor number. -/
def pickA (w : Fin 5 → BitVec 32) (b : F .f32) : F .f32 :=
  Scalar.select (Scalar.cmpf .oeq b (lit (numW 0))) (lit (w 0))
    (Scalar.select (Scalar.cmpf .oeq b (lit (numW 1))) (lit (w 1))
      (Scalar.select (Scalar.cmpf .oeq b (lit (numW 2))) (lit (w 2))
        (Scalar.select (Scalar.cmpf .oeq b (lit (numW 3))) (lit (w 3)) (lit (w 4)))))

/-- An entry times 64. -/
abbrev up (x : F .f32) : F .f32 := Scalar.mulf x (lit 0x42800000#32)

/-- The fourteen words of a target, from its five entries and its validity. -/
def preW (valid t0 t1 t2 t3 t4 : F .f32) : Fin 14 → F .f32 := ![
  Scalar.subf (up t1) (Scalar.mulf (lit 0x3F000000#32) (up t3)),
  Scalar.addf (up t1) (Scalar.mulf (lit 0x3F000000#32) (up t3)),
  Scalar.subf (up t2) (Scalar.mulf (lit 0x3F000000#32) (up t4)),
  Scalar.addf (up t2) (Scalar.mulf (lit 0x3F000000#32) (up t4)),
  Scalar.select (Scalar.cmpf .ogt valid (lit 0x00000000#32))
    (Scalar.mulf (Scalar.mulf (lit 0x3EC00000#32) (up t3)) (up t4)) (lit 0x7F800000#32),
  Scalar.floor (up t2),
  Scalar.select (Scalar.cmpf .ogt valid (lit 0x00000000#32)) (bn (up t3) (up t4) 4 (by decide)) (lit 0xBF800000#32),
  Scalar.floor (up t1),
  Scalar.subf (up t1) (Scalar.floor (up t1)),
  Scalar.subf (up t2) (Scalar.floor (up t2)),
  Scalar.log (Scalar.divf (up t3) (pickA awW (bn (up t3) (up t4) 4 (by decide)))),
  Scalar.log (Scalar.divf (up t4) (pickA ahW (bn (up t3) (up t4) 4 (by decide)))),
  best (up t3) (up t4) 4 (by decide),
  Scalar.floor t0]

/-- The place of entry `c` of target `t` of image `b` in the padded table. -/
def at640 (b : Fin 16) (c : Fin 5) (t : Fin 50) : S16x640.Idx := fun a => match a with
  | ⟨0, _⟩ => b
  | ⟨1, _⟩ => ⟨128 * c.val + t.val, by show _ < 640; omega⟩

section Table

variable (x : Vec F S16x640 .f32) (b : Fin 16)

/-- The running validity after the first `k` targets. -/
def vAcc : ℕ → F .f32
  | 0 => lit 0x3F800000#32
  | k + 1 => if h : k < 50 then k0_pay3 (vAcc k) (x (at640 b 1 ⟨k, h⟩)) else vAcc k

/-- The words of the scratch after the prepass. -/
def words : Words F := fun r t =>
  preW (vAcc x b (t.val + 1)) (x (at640 b 0 t)) (x (at640 b 1 t)) (x (at640 b 2 t)) (x (at640 b 3 t)) (x (at640 b 4 t)) r

end Table

/-- The image of a grid point. -/
def img (i : grid0.Coords) : Fin 16 := i 0

section Trip

variable (c : Dev nD) (i : grid0.Coords) (arg2 : Memref sig .tc .smem S16x640 .f32) (harg2 : arg2.IsWhole) (arg3 : Memref sig .tc .vmem S1x5x128 .f32) (harg3 : arg3.IsWhole) (arg4 : Memref sig .tc .vmem S1x85x32x128 .f32) (harg4 : arg4.IsWhole) (arg5 : Memref sig .tc .vmem S1x8x128 .f32) (harg5 : arg5.IsWhole) (arg6 : Memref sig .tc .smem S14x128 .f32) (harg6 : arg6.IsWhole) (hc0 : cond0_0 i) (x0 : Vec F S16x640 .f32)

/-- The place of row `r`, target `k` in the scratch. -/
abbrev cell (k : Fin k0_t1_loop.trips) (r : Fin 14) : Rect S14x128 := match r with
  | 0 => Rect.unit (k0_off2 k) S1x1.size (k0_off2_inb i k hc0)
  | 1 => Rect.unit (k0_off3 k) S1x1.size (k0_off3_inb i k hc0)
  | 2 => Rect.unit (k0_off4 k) S1x1.size (k0_off4_inb i k hc0)
  | 3 => Rect.unit (k0_off5 k) S1x1.size (k0_off5_inb i k hc0)
  | 4 => Rect.unit (k0_off6 k) S1x1.size (k0_off6_inb i k hc0)
  | 5 => Rect.unit (k0_off7 k) S1x1.size (k0_off7_inb i k hc0)
  | 6 => Rect.unit (k0_off8 k) S1x1.size (k0_off8_inb i k hc0)
  | 7 => Rect.unit (k0_off9 k) S1x1.size (k0_off9_inb i k hc0)
  | 8 => Rect.unit (k0_off10 k) S1x1.size (k0_off10_inb i k hc0)
  | 9 => Rect.unit (k0_off11 k) S1x1.size (k0_off11_inb i k hc0)
  | 10 => Rect.unit (k0_off12 k) S1x1.size (k0_off12_inb i k hc0)
  | 11 => Rect.unit (k0_off13 k) S1x1.size (k0_off13_inb i k hc0)
  | 12 => Rect.unit (k0_off14 k) S1x1.size (k0_off14_inb i k hc0)
  | 13 => Rect.unit (k0_off15 k) S1x1.size (k0_off15_inb i k hc0)

/-- The entry the trip loads, at its constant. -/
abbrev ld (k : Fin k0_t1_loop.trips) (w : BitVec 32) (h : ∀ a, (k0_off1 i k w) a + S1x1.size a ≤ S16x640.size a) : F .f32 :=
  arg2.view.readAt (Elt F) (Rect.unit (s := S16x640) (k0_off1 i k w) S1x1.size h).toLoadRect (harg2.unread x0)
    (Shape.Idx.first (show 0 < (Rect.unit (s := S16x640) (k0_off1 i k w) S1x1.size h).shape.numel from Nat.one_pos))

theorem ld_eq (k : Fin k0_t1_loop.trips) (cc : Fin 5) (w : BitVec 32) (hw : w = BitVec.ofNat 32 (128 * cc.val)) (h) :
    ld i arg2 harg2 x0 k w h = x0 (at640 (img i) cc ⟨k.val, Nat.lt_of_lt_of_le k.isLt k0_t1_abs.2.1⟩) := by
  subst hw
  refine (harg2.readAt_unread x0 _ _).trans (congrArg x0 ?_)
  funext a
  apply Fin.ext
  have e := congrFun (k0_off1_eq i k cc) a
  show k0_off1 i k _ a + 1 * 0 = _
  rw [e]
  fin_cases a <;> rfl

/-- One trip of the prepass: the running validity it hands on, -/
theorem tripR_eq (k : Fin k0_t1_loop.trips) (acc : F .f32) (h) :
    tripR_k0_t1 (F := F) Variants.none c none i arg2 harg2 arg3 harg3 arg4 harg4 arg5 harg5 arg6 harg6 (BitVec.ofNat 32 (i 0).val) hc0 (harg2.unread x0) k acc
      = k0_pay3 acc (ld i arg2 harg2 x0 k 128#32 h) := by
  unfold tripR_k0_t1 trip_k0_t1; rfl

/-- and the words it stores. -/
theorem tripL_eq (k : Fin k0_t1_loop.trips) (acc : F .f32) (h0 h1 h2 h3 h4) :
    tripL_k0_t1 (F := F) Variants.none c none i arg2 harg2 arg3 harg3 arg4 harg4 arg5 harg5 arg6 harg6 (BitVec.ofNat 32 (i 0).val) hc0 (harg2.unread x0) k acc
      = [13, 12, 11, 10, 9, 8, 7, 6, 5, 4, 3, 2, 1, 0].map fun r => ⟨cell i hc0 k r, fun _ =>
          preW (k0_pay3 acc (ld i arg2 harg2 x0 k 128#32 h1)) (ld i arg2 harg2 x0 k 0#32 h0) (ld i arg2 harg2 x0 k 128#32 h1)
            (ld i arg2 harg2 x0 k 256#32 h2) (ld i arg2 harg2 x0 k 384#32 h3) (ld i arg2 harg2 x0 k 512#32 h4) r⟩ := by
  unfold tripL_k0_t1 trip_k0_t1; rfl

/-- The place of row `r`, target `t` in the scratch. -/
def at14 (r : Fin 14) (t : Fin 50) : S14x128.Idx := fun a => match a with
  | ⟨0, _⟩ => r
  | ⟨1, _⟩ => ⟨t.val, by show _ < 128; omega⟩

omit [FloatOps F] in
theorem cell_emb (k : Fin k0_t1_loop.trips) (r : Fin 14) (x : (cell i hc0 k r).shape.Idx) :
    (cell i hc0 k r).emb x = at14 r ⟨k.val, Nat.lt_of_lt_of_le k.isLt k0_t1_abs.2.1⟩ := by
  have key (off : Fin 2 → ℕ) (h) (e : off = ![r.val, k.val]) (x : (Rect.unit (s := S14x128) off S1x1.size h).shape.Idx) :
      (Rect.unit (s := S14x128) off S1x1.size h).emb x = at14 r ⟨k.val, Nat.lt_of_lt_of_le k.isLt k0_t1_abs.2.1⟩ := by
    subst e
    refine Rect.emb_eq_of_coords _ x _ fun a => ?_
    have := (x a).isLt
    fin_cases a
    · have h0 : (x 0).val < 1 := (x 0).isLt
      show r.val = r.val + 1 * (x 0).val
      omega
    · have h0 : (x 1).val < 1 := (x 1).isLt
      show k.val = k.val + 1 * (x 1).val
      omega
  fin_cases r
  · exact key _ _ (k0_off2_eq k) x
  · exact key _ _ (k0_off3_eq k) x
  · exact key _ _ (k0_off4_eq k) x
  · exact key _ _ (k0_off5_eq k) x
  · exact key _ _ (k0_off6_eq k) x
  · exact key _ _ (k0_off7_eq k) x
  · exact key _ _ (k0_off8_eq k) x
  · exact key _ _ (k0_off9_eq k) x
  · exact key _ _ (k0_off10_eq k) x
  · exact key _ _ (k0_off11_eq k) x
  · exact key _ _ (k0_off12_eq k) x
  · exact key _ _ (k0_off13_eq k) x
  · exact key _ _ (k0_off14_eq k) x
  · exact key _ _ (k0_off15_eq k) x

omit [FloatOps F] in
theorem cell_mem (k : Fin k0_t1_loop.trips) (r : Fin 14) :
    at14 r ⟨k.val, Nat.lt_of_lt_of_le k.isLt k0_t1_abs.2.1⟩ ∈ (cell i hc0 k r).set := by
  have h : 0 < (cell i hc0 k r).shape.numel := by fin_cases r <;> exact Nat.one_pos
  have := cell_emb i hc0 k r (Shape.Idx.first h)
  rw [← this]
  exact (cell i hc0 k r).toLoadRect.idx_mem _

/-- The scratch as one function: the words where the prepass stored. -/
def scr (x : Vec F S16x640 .f32) (b : Fin 16) : S14x128.Idx → Elt F .f32 := fun y =>
  if h : (y 1).val < 50 then words x b (y 0) ⟨(y 1).val, h⟩ else lit 0x00000000#32

theorem scr_at (x : Vec F S16x640 .f32) (b : Fin 16) (r : Fin 14) (t : Fin 50) : scr x b (at14 r t) = words x b r t := by
  unfold scr
  rw [dif_pos (show ((at14 r t) 1).val < 50 from t.isLt)]
  rfl

/-- The state of the loop before trip `k`. -/
abbrev stOf (k : ℕ) : F .f32 × List (View.Piece (Elt F) S14x128 .f32) :=
  st_k0_t1 Variants.none c none i arg2 harg2 arg3 harg3 arg4 harg4 arg5 harg5 arg6 harg6 (BitVec.ofNat 32 (i 0).val) hc0
    (harg2.unread x0) (lit 0x3F800000#32) k

theorem st_facts : ∀ k : ℕ, k ≤ k0_t1_loop.trips →
    (stOf c i arg2 harg2 arg3 harg3 arg4 harg4 arg5 harg5 arg6 harg6 hc0 x0 k).1 = vAcc x0 (img i) k
    ∧ (∀ p ∈ (stOf c i arg2 harg2 arg3 harg3 arg4 harg4 arg5 harg5 arg6 harg6 hc0 x0 k).2, ∀ x, p.2 x = scr x0 (img i) (p.1.emb x))
    ∧ ∀ (r : Fin 14) (t : Fin 50), t.val < k →
      ∃ p ∈ (stOf c i arg2 harg2 arg3 harg3 arg4 harg4 arg5 harg5 arg6 harg6 hc0 x0 k).2, at14 r t ∈ p.1.set
  | 0, _ => ⟨rfl, fun p hp => absurd hp List.not_mem_nil, fun r t h => absurd h (Nat.not_lt_zero _)⟩
  | k + 1, hk => by
    obtain ⟨h1, h2, h3⟩ := st_facts k (Nat.le_of_succ_le hk)
    have h50 : k < 50 := Nat.lt_of_lt_of_le hk k0_t1_abs.2.1
    have hs := st_k0_t1_succ (F := F) Variants.none c none i arg2 harg2 arg3 harg3 arg4 harg4 arg5 harg5 arg6 harg6
      (BitVec.ofNat 32 (i 0).val) hc0 (harg2.unread x0) (lit 0x3F800000#32) ⟨k, hk⟩
    have e : stOf c i arg2 harg2 arg3 harg3 arg4 harg4 arg5 harg5 arg6 harg6 hc0 x0 (k + 1) = _ := hs
    have b0 := k0_off1_inb i ⟨k, hk⟩ hc0 0
    have b1 := k0_off1_inb i ⟨k, hk⟩ hc0 1
    have b2 := k0_off1_inb i ⟨k, hk⟩ hc0 2
    have b3 := k0_off1_inb i ⟨k, hk⟩ hc0 3
    have b4 := k0_off1_inb i ⟨k, hk⟩ hc0 4
    rw [e, tripR_eq c i arg2 harg2 arg3 harg3 arg4 harg4 arg5 harg5 arg6 harg6 hc0 x0 ⟨k, hk⟩ _ b1,
      tripL_eq c i arg2 harg2 arg3 harg3 arg4 harg4 arg5 harg5 arg6 harg6 hc0 x0 ⟨k, hk⟩ _ b0 b1 b2 b3 b4,
      ld_eq i arg2 harg2 x0 ⟨k, hk⟩ 0 0#32 rfl b0, ld_eq i arg2 harg2 x0 ⟨k, hk⟩ 1 128#32 rfl b1,
      ld_eq i arg2 harg2 x0 ⟨k, hk⟩ 2 256#32 rfl b2, ld_eq i arg2 harg2 x0 ⟨k, hk⟩ 3 384#32 rfl b3,
      ld_eq i arg2 harg2 x0 ⟨k, hk⟩ 4 512#32 rfl b4]
    have hv : k0_pay3 (stOf c i arg2 harg2 arg3 harg3 arg4 harg4 arg5 harg5 arg6 harg6 hc0 x0 k).1 (x0 (at640 (img i) 1 ⟨k, h50⟩))
        = vAcc x0 (img i) (k + 1) := by
      rw [h1, vAcc, dif_pos h50]
    rw [show (st_k0_t1 Variants.none c none i arg2 harg2 arg3 harg3 arg4 harg4 arg5 harg5 arg6 harg6 (BitVec.ofNat 32 (i 0).val) hc0
      (harg2.unread x0) (lit 0x3F800000#32) (⟨k, hk⟩ : Fin k0_t1_loop.trips).val) = stOf c i arg2 harg2 arg3 harg3 arg4 harg4 arg5 harg5 arg6 harg6 hc0 x0 k from rfl, hv]
    refine ⟨rfl, fun p hp => ?_, fun r t ht => ?_⟩
    · rcases List.mem_append.mp hp with hp | hp
      · obtain ⟨r, -, rfl⟩ := List.mem_map.mp hp
        intro x
        show _ = scr x0 (img i) ((cell i hc0 ⟨k, hk⟩ r).emb x)
        exact ((congrArg (scr x0 (img i)) (cell_emb i hc0 ⟨k, hk⟩ r x)).trans (scr_at x0 (img i) r ⟨k, h50⟩)).symm
      · exact h2 p hp
    · by_cases hlt : t.val < k
      · obtain ⟨p, hp, hm⟩ := h3 r t hlt
        exact ⟨p, List.mem_append_right _ hp, hm⟩
      · obtain rfl : t = ⟨k, h50⟩ := Fin.ext (by show t.val = k; omega)
        exact ⟨_, List.mem_append_left _ (List.mem_map.mpr ⟨r, by fin_cases r <;> decide, rfl⟩), cell_mem i hc0 ⟨k, hk⟩ r⟩

/-- What the scratch's words are after the prepass. -/
theorem wordsOf_loopOut (s : Vec F S14x128 .f32) :
    wordsOf arg6 (loopOut c i arg2 harg2 arg3 harg3 arg4 harg4 arg5 harg5 arg6 harg6 hc0 x0 s) = words x0 (img i) := by
  funext r t
  obtain ⟨-, h2, h3⟩ := st_facts c i arg2 harg2 arg3 harg3 arg4 harg4 arg5 harg5 arg6 harg6 hc0 x0 k0_t1_loop.trips le_rfl
  have ht : k0_t1_loop.trips = 50 := by decide
  have e := View.read_writes_apply_of_pieces arg6.view (harg6.unread s) (scr x0 (img i)) _ h2 (at14 r t) (h3 r t (lt_of_lt_of_eq t.isLt ht.symm))
  refine Eq.trans ?_ (e.trans (scr_at x0 (img i) r t))
  refine congrArg (arg6.view.read (Elt F) _) ?_
  funext a
  apply Fin.ext
  fin_cases a <;> rfl

end Trip

end Cert.KernelIdeal.Hand

end
-- ==== Proof.Anchors.lean ====
/-
The float literals as real numbers, and the anchors: the shape's overlap ratio with each anchor over the reals, and the
first anchor that has the largest.
-/
module

public import proofs.«01_k».proof.Proof.Prepass
public import Idealize.ShloMosaic.PureOps.Ideal.Laws
public import Idealize.ShloMosaic.Lib.ValueIdx
public import Mathlib.Tactic.NormNum
public import Mathlib.Tactic.Linarith
public import Mathlib.Tactic.Positivity
public import Mathlib.Tactic.FieldSimp
public import Mathlib.Tactic.Ring

@[expose] public section

noncomputable section

namespace Cert.KernelIdeal.Hand

open Cert.KernelIdeal Cert.KernelIdeal.Gen
open Idealize.ShloMosaic Idealize.ShloMosaic.TcCoe

/-! ## Literals -/

theorem lit_zero : Ideal.ofBits .f32 0x00000000#32 = ((0 : ℝ) : EReal) := by
  simp [Ideal.ofBits, Ideal.ieee, -EReal.coe_mul]
theorem lit_one : Ideal.ofBits .f32 0x3F800000#32 = ((1 : ℝ) : EReal) := by
  simp [Ideal.ofBits, Ideal.ieee, -EReal.coe_mul]; norm_num
theorem lit_neg_one : Ideal.ofBits .f32 0xBF800000#32 = ((-1 : ℝ) : EReal) := by
  simp [Ideal.ofBits, Ideal.ieee, -EReal.coe_mul]; norm_num
theorem lit_two : Ideal.ofBits .f32 0x40000000#32 = ((2 : ℝ) : EReal) := by
  simp [Ideal.ofBits, Ideal.ieee, -EReal.coe_mul]; norm_num
theorem lit_three : Ideal.ofBits .f32 0x40400000#32 = ((3 : ℝ) : EReal) := by
  simp [Ideal.ofBits, Ideal.ieee, -EReal.coe_mul]; norm_num
theorem lit_four : Ideal.ofBits .f32 0x40800000#32 = ((4 : ℝ) : EReal) := by
  simp [Ideal.ofBits, Ideal.ieee, -EReal.coe_mul]; norm_num
theorem lit_five : Ideal.ofBits .f32 0x40A00000#32 = ((5 : ℝ) : EReal) := by
  simp [Ideal.ofBits, Ideal.ieee, -EReal.coe_mul]; norm_num
theorem lit_half : Ideal.ofBits .f32 0x3F000000#32 = ((1 / 2 : ℝ) : EReal) := by
  simp [Ideal.ofBits, Ideal.ieee, -EReal.coe_mul]; norm_num
theorem lit_neg_half : Ideal.ofBits .f32 0xBF000000#32 = ((-(1 / 2) : ℝ) : EReal) := by
  simp [Ideal.ofBits, Ideal.ieee, -EReal.coe_mul]; norm_num
theorem lit_64 : Ideal.ofBits .f32 0x42800000#32 = ((64 : ℝ) : EReal) := by
  simp [Ideal.ofBits, Ideal.ieee, -EReal.coe_mul]; norm_num
theorem lit_128 : Ideal.ofBits .f32 0x43000000#32 = ((128 : ℝ) : EReal) := by
  simp [Ideal.ofBits, Ideal.ieee, -EReal.coe_mul]; norm_num
theorem lit_threeEighths : Ideal.ofBits .f32 0x3EC00000#32 = ((3 / 8 : ℝ) : EReal) := by
  simp [Ideal.ofBits, Ideal.ieee, -EReal.coe_mul]; norm_num
theorem lit_top : Ideal.ofBits .f32 0x7F800000#32 = (⊤ : EReal) := by
  simp [Ideal.ofBits, Ideal.ieee, -EReal.coe_mul]
theorem lit_bot : Ideal.ofBits .f32 0xFF800000#32 = (⊥ : EReal) := by
  simp [Ideal.ofBits, Ideal.ieee, -EReal.coe_mul]

/-- The anchors' widths, heights and areas (the rationals of the float words). -/
def awR : Fin 5 → ℝ := ![11090579 / 8388608, 13391364 / 4194304, 10602928 / 2097152, 9931189 / 1048576, 11782219 / 1048576]
def ahR : Fin 5 → ℝ := ![14524455 / 8388608, 8408405 / 2097152, 8492333 / 1048576, 10151327 / 2097152, 10493205 / 1048576]
def areaR : Fin 5 → ℝ := ![9601391 / 4194304, 13422968 / 1048576, 10734033 / 262144, 12018055 / 262144, 14738231 / 131072]

theorem awR_pos (n : Fin 5) : 0 < awR n := by fin_cases n <;> norm_num [awR]
theorem ahR_pos (n : Fin 5) : 0 < ahR n := by fin_cases n <;> norm_num [ahR]
theorem areaR_pos (n : Fin 5) : 0 < areaR n := by fin_cases n <;> norm_num [areaR]

theorem lit_aw (n : Fin 5) : Ideal.ofBits .f32 (awW n) = (awR n : EReal) := by
  fin_cases n <;> (simp [awW, awR, Ideal.ofBits, Ideal.ieee, -EReal.coe_mul]; try norm_num)
theorem lit_ah (n : Fin 5) : Ideal.ofBits .f32 (ahW n) = (ahR n : EReal) := by
  fin_cases n <;> (simp [ahW, ahR, Ideal.ofBits, Ideal.ieee, -EReal.coe_mul]; try norm_num)
theorem lit_hw (n : Fin 5) : Ideal.ofBits .f32 (hwW n) = ((awR n / 2 : ℝ) : EReal) := by
  fin_cases n <;> (simp [hwW, awR, Ideal.ofBits, Ideal.ieee, -EReal.coe_mul]; try norm_num)
theorem lit_hh (n : Fin 5) : Ideal.ofBits .f32 (hhW n) = ((ahR n / 2 : ℝ) : EReal) := by
  fin_cases n <;> (simp [hhW, ahR, Ideal.ofBits, Ideal.ieee, -EReal.coe_mul]; try norm_num)
theorem lit_nw (n : Fin 5) : Ideal.ofBits .f32 (nwW n) = ((-(awR n / 2) : ℝ) : EReal) := by
  fin_cases n <;> (simp [nwW, awR, Ideal.ofBits, Ideal.ieee, -EReal.coe_mul]; try norm_num)
theorem lit_nh (n : Fin 5) : Ideal.ofBits .f32 (nhW n) = ((-(ahR n / 2) : ℝ) : EReal) := by
  fin_cases n <;> (simp [nhW, ahR, Ideal.ofBits, Ideal.ieee, -EReal.coe_mul]; try norm_num)
theorem lit_area (n : Fin 5) : Ideal.ofBits .f32 (areaW n) = (areaR n : EReal) := by
  fin_cases n <;> (simp [areaW, areaR, Ideal.ofBits, Ideal.ieee, -EReal.coe_mul]; try norm_num)
theorem lit_num (n : Fin 5) : Ideal.ofBits .f32 (numW n) = ((n.val : ℝ) : EReal) := by
  fin_cases n <;> (simp [numW, Ideal.ofBits, Ideal.ieee, -EReal.coe_mul]; try norm_num)

/-! ## Words -/

theorem ofBool_decide_eq_one (p : Prop) [Decidable p] : (BitVec.ofBool (decide p) = 1) ↔ p := by
  by_cases h : p <;> simp [h]

theorem ofBool_and (p q : Prop) [Decidable p] [Decidable q] :
    BitVec.ofBool (decide p) &&& BitVec.ofBool (decide q) = BitVec.ofBool (decide (p ∧ q)) := by
  by_cases hp : p <;> by_cases hq : q <;> simp [hp, hq]

theorem ofBool_or (p q : Prop) [Decidable p] [Decidable q] :
    BitVec.ofBool (decide p) ||| BitVec.ofBool (decide q) = BitVec.ofBool (decide (p ∨ q)) := by
  by_cases hp : p <;> by_cases hq : q <;> simp [hp, hq]

theorem coe_max' (x y : ℝ) : max (x : EReal) (y : EReal) = ((max x y : ℝ) : EReal) := (EReal.coe_strictMono.monotone.map_max).symm
theorem coe_min' (x y : ℝ) : min (x : EReal) (y : EReal) = ((min x y : ℝ) : EReal) := (EReal.coe_strictMono.monotone.map_min).symm

/-! ## The shape's overlap with an anchor -/

/-- The extent of the overlap of two centred intervals. -/
def extR (g A : ℝ) : ℝ := g + A - (max (g / 2) (A / 2) - min (-(g / 2)) (-(A / 2)))

/-- The overlap area with anchor `n`, -/
def interR (gw gh : ℝ) (n : Fin 5) : ℝ :=
  if 0 < extR gw (awR n) ∧ 0 < extR gh (ahR n) then extR gw (awR n) * extR gh (ahR n) else 0

/-- and the ratio. -/
def iouR (gw gh : ℝ) (n : Fin 5) : EReal :=
  Ideal.div (interR gw gh n : EReal) ((gw * gh + areaR n - interR gw gh n : ℝ) : EReal)

theorem ext_eq (g : ℝ) (a h n : BitVec 32) (A : ℝ) (ha : Ideal.ofBits .f32 a = (A : EReal))
    (hh : Ideal.ofBits .f32 h = ((A / 2 : ℝ) : EReal)) (hn : Ideal.ofBits .f32 n = ((-(A / 2) : ℝ) : EReal)) :
    ext (F := Ideal) (g : EReal) a h n = (extR g A : EReal) := by
  show (g : EReal) + Ideal.ofBits .f32 a - (max (Ideal.ofBits .f32 0x3F000000#32 * (g : EReal)) (Ideal.ofBits .f32 h)
    - min (Ideal.ofBits .f32 0xBF000000#32 * (g : EReal)) (Ideal.ofBits .f32 n)) = _
  rw [ha, hh, hn, lit_half, lit_neg_half, ← EReal.coe_mul, ← EReal.coe_mul, coe_max', coe_min', ← EReal.coe_add, ← EReal.coe_sub, ← EReal.coe_sub,
    show 1 / 2 * g = g / 2 by ring, show -(1 / 2) * g = -(g / 2) by ring]
  rfl

theorem aInter_eq (gw gh : ℝ) (n : Fin 5) : aInter (F := Ideal) (gw : EReal) (gh : EReal) n = (interR gw gh n : EReal) := by
  unfold aInter
  rw [ext_eq gw _ _ _ _ (lit_aw n) (lit_hw n) (lit_nw n), ext_eq gh _ _ _ _ (lit_ah n) (lit_hh n) (lit_nh n)]
  show (if (BitVec.ofBool (decide (Ideal.ofBits .f32 0x00000000#32 < (extR gw (awR n) : EReal))) &&& BitVec.ofBool (decide (Ideal.ofBits .f32 0x00000000#32 < (extR gh (ahR n) : EReal)))) = 1
    then (extR gw (awR n) : EReal) * (extR gh (ahR n) : EReal) else Ideal.ofBits .f32 0x00000000#32) = _
  rw [lit_zero, ofBool_and, ← EReal.coe_mul]
  simp only [ofBool_decide_eq_one, EReal.coe_lt_coe_iff, interR]
  split_ifs <;> rfl

theorem aIou_eq (gw gh : ℝ) (n : Fin 5) : aIou (F := Ideal) (gw : EReal) (gh : EReal) n = iouR gw gh n := by
  unfold aIou
  rw [aInter_eq]
  show Ideal.div (interR gw gh n : EReal) ((gw : EReal) * (gh : EReal) + Ideal.ofBits .f32 (areaW n) - (interR gw gh n : EReal)) = _
  rw [lit_area, ← EReal.coe_mul, ← EReal.coe_add, ← EReal.coe_sub]
  rfl

/-- Both running values of the search up to anchor `k`. -/
theorem best_facts (gw gh : ℝ) : ∀ (k : ℕ) (h : k < 5), ∃ n : Fin 5, n.val ≤ k ∧
    bn (F := Ideal) (gw : EReal) (gh : EReal) k h = ((n.val : ℝ) : EReal)
    ∧ best (F := Ideal) (gw : EReal) (gh : EReal) k h = iouR gw gh n
    ∧ (∀ l : Fin 5, l.val ≤ k → iouR gw gh l ≤ iouR gw gh n) ∧ ∀ l < n, iouR gw gh l < iouR gw gh n
  | 0, h => ⟨0, le_rfl, lit_num 0, aIou_eq gw gh 0, fun l hl => by
      obtain rfl : l = 0 := Fin.ext (Nat.le_zero.mp hl)
      exact le_rfl, fun l hl => absurd hl (Fin.not_lt_zero l)⟩
  | k + 1, h => by
    obtain ⟨n, hn, e1, e2, h3, h4⟩ := best_facts gw gh k (Nat.lt_of_succ_lt h)
    have hc : Scalar.cmpf (F := Ideal) .ogt (aIou (F := Ideal) (gw : EReal) (gh : EReal) ⟨k + 1, h⟩) (best (F := Ideal) (gw : EReal) (gh : EReal) k (Nat.lt_of_succ_lt h))
        = BitVec.ofBool (decide (iouR gw gh n < iouR gw gh ⟨k + 1, h⟩)) := by
      rw [aIou_eq, e2]; rfl
    have s1 : bn (F := Ideal) (gw : EReal) (gh : EReal) (k + 1) h
        = if iouR gw gh n < iouR gw gh ⟨k + 1, h⟩ then (((k + 1 : ℕ) : ℝ) : EReal) else ((n.val : ℝ) : EReal) := by
      rw [bn, hc, e1]
      show (if BitVec.ofBool _ = 1 then Ideal.ofBits .f32 (numW ⟨k + 1, h⟩) else _) = _
      rw [lit_num]
      simp only [ofBool_decide_eq_one]
    have s2 : best (F := Ideal) (gw : EReal) (gh : EReal) (k + 1) h
        = if iouR gw gh n < iouR gw gh ⟨k + 1, h⟩ then iouR gw gh ⟨k + 1, h⟩ else iouR gw gh n := by
      rw [best, hc, e2, aIou_eq]
      show (if BitVec.ofBool _ = 1 then _ else _) = _
      simp only [ofBool_decide_eq_one]
    by_cases hlt : iouR gw gh n < iouR gw gh ⟨k + 1, h⟩
    · refine ⟨⟨k + 1, h⟩, le_rfl, s1.trans (if_pos hlt), s2.trans (if_pos hlt), fun l hl => ?_, fun l hl => ?_⟩
      · rcases Nat.lt_or_ge l.val (k + 1) with h' | h'
        · exact (h3 l (Nat.le_of_lt_succ h')).trans hlt.le
        · obtain rfl : l = ⟨k + 1, h⟩ := Fin.ext (le_antisymm hl h')
          exact le_rfl
      · exact (h3 l (Nat.le_of_lt_succ hl)).trans_lt hlt
    · refine ⟨n, Nat.le_succ_of_le hn, s1.trans (if_neg hlt), s2.trans (if_neg hlt), fun l hl => ?_, h4⟩
      rcases Nat.lt_or_ge l.val (k + 1) with h' | h'
      · exact h3 l (Nat.le_of_lt_succ h')
      · obtain rfl : l = ⟨k + 1, h⟩ := Fin.ext (le_antisymm hl h')
        exact not_lt.mp hlt

/-- The first anchor that has the largest ratio. -/
def bnI (gw gh : ℝ) : Fin 5 := (best_facts gw gh 4 (by decide)).choose

theorem bn_eq (gw gh : ℝ) : bn (F := Ideal) (gw : EReal) (gh : EReal) 4 (by decide) = (((bnI gw gh).val : ℝ) : EReal) :=
  (best_facts gw gh 4 (by decide)).choose_spec.2.1
theorem best_eq (gw gh : ℝ) : best (F := Ideal) (gw : EReal) (gh : EReal) 4 (by decide) = iouR gw gh (bnI gw gh) :=
  (best_facts gw gh 4 (by decide)).choose_spec.2.2.1
theorem iouR_le (gw gh : ℝ) (l : Fin 5) : iouR gw gh l ≤ iouR gw gh (bnI gw gh) :=
  (best_facts gw gh 4 (by decide)).choose_spec.2.2.2.1 l (Nat.le_of_lt_succ l.isLt)
theorem iouR_lt (gw gh : ℝ) (l : Fin 5) (h : l < bnI gw gh) : iouR gw gh l < iouR gw gh (bnI gw gh) :=
  (best_facts gw gh 4 (by decide)).choose_spec.2.2.2.2 l h

theorem natCoe_inj (m n : ℕ) : (((m : ℝ) : EReal) = ((n : ℝ) : EReal)) ↔ m = n := by
  rw [EReal.coe_eq_coe_iff, Nat.cast_inj]

/-- A table's entry at an anchor number. -/
theorem pickA_eq (w : Fin 5 → BitVec 32) (r : Fin 5 → ℝ) (hr : ∀ n, Ideal.ofBits .f32 (w n) = (r n : EReal)) (n : Fin 5) :
    pickA (F := Ideal) w ((n.val : ℝ) : EReal) = (r n : EReal) := by
  have hc (k : Fin 5) : Scalar.cmpf (F := Ideal) .oeq ((n.val : ℝ) : EReal) (lit (numW k)) = BitVec.ofBool (decide (n = k)) := by
    show BitVec.ofBool (decide (((n.val : ℝ) : EReal) = Ideal.ofBits .f32 (numW k))) = _
    rw [lit_num]
    simp only [natCoe_inj, Fin.ext_iff]
  unfold pickA
  simp only [hc, Scalar.select, ofBool_decide_eq_one]
  rw [← hr n]
  fin_cases n <;> rfl

end Cert.KernelIdeal.Hand

end
-- ==== Proof.Cell.lean ====
/-
One cell of the grid: the targets that hit it, the last of them, and the cell's six loss terms, over the reals (an
unassigned target's logarithm may be infinite, so the terms are extended reals).
-/
module

public import proofs.«01_k».proof.Proof.Anchors

@[expose] public section

noncomputable section

namespace Cert.KernelIdeal.Hand

open Cert.KernelIdeal Cert.KernelIdeal.Gen
open Idealize.ShloMosaic Idealize.ShloMosaic.TcCoe

/-- The targets' entries: image, target, entry. -/
abbrev Boxes : Type := Fin 16 → Fin 50 → Fin 5 → ℝ
/-- The logits: image, anchor, channel, row, column. -/
abbrev Logits : Type := Fin 16 → Fin 5 → Fin 85 → Fin 64 → Fin 64 → ℝ

/-- A sigmoid. -/
def sg (x : ℝ) : ℝ := 1 / (1 + Real.exp (-x))

theorem logistic_real (x : ℝ) : Ideal.div 1 (1 + Ideal.exp (-(x : EReal))) = (sg x : EReal) := by
  have h : (1 + Real.exp (-x)) ≠ 0 := by positivity
  have e : (1 : EReal) + Ideal.exp (-(x : EReal)) = ((1 + Real.exp (-x) : ℝ) : EReal) := by
    rw [EReal.coe_add, EReal.coe_one]; rfl
  rw [e, Ideal.div_coe h, one_mul]
  rfl

section Targets

variable (T : Boxes) (b : Fin 16)

/-- An entry in cells. -/
def gR (t : Fin 50) (c : Fin 5) : ℝ := T b t c * 64

/-- No target up to `t` is the zero that ends the list. -/
def Valid (t : Fin 50) : Prop := ∀ u ≤ t, T b u 1 ≠ 0

/-- The best anchor of target `t`. -/
def bA (t : Fin 50) : Fin 5 := bnI (gR T b t 3) (gR T b t 4)

/-- Target `t` is assigned to anchor `a` of the cell in row `j`, column `i`. -/
def Hit (a : Fin 5) (j i : Fin 64) (t : Fin 50) : Prop :=
  Valid T b t ∧ bA T b t = a ∧ ⌊gR T b t 2⌋ = (j.val : ℤ) ∧ ⌊gR T b t 1⌋ = (i.val : ℤ)

/-- The values that target `t` asks of its cell. -/
def txE (t : Fin 50) : EReal := ((gR T b t 1 - (⌊gR T b t 1⌋ : ℝ) : ℝ) : EReal)
def tyE (t : Fin 50) : EReal := ((gR T b t 2 - (⌊gR T b t 2⌋ : ℝ) : ℝ) : EReal)
def twE (t : Fin 50) : EReal := Ideal.log (Ideal.div (gR T b t 3 : EReal) (awR (bA T b t) : EReal))
def thE (t : Fin 50) : EReal := Ideal.log (Ideal.div (gR T b t 4 : EReal) (ahR (bA T b t) : EReal))
def confE (t : Fin 50) : EReal := iouR (gR T b t 3) (gR T b t 4) (bA T b t)

end Targets

/-! ## The last target that hits -/

/-- `t` is the last of those with property `p`. -/
def IsLast (p : Fin 50 → Prop) (t : Fin 50) : Prop := p t ∧ ∀ u, t < u → ¬p u

theorem IsLast.unique {p : Fin 50 → Prop} {t u : Fin 50} (ht : IsLast p t) (hu : IsLast p u) : t = u := by
  rcases lt_trichotomy t u with h | h | h
  · exact absurd hu.1 (ht.2 u h)
  · exact h
  · exact absurd ht.1 (hu.2 t h)

theorem exists_last (p : Fin 50 → Prop) (h : ∃ t, p t) : ∃ t, IsLast p t := by
  classical
  obtain ⟨t, ht⟩ := h
  have hne : (Finset.univ.filter p).Nonempty := ⟨t, by simpa using ht⟩
  refine ⟨(Finset.univ.filter p).max' hne, by simpa using Finset.max'_mem _ hne, fun u hu hp => ?_⟩
  exact absurd (Finset.le_max' (Finset.univ.filter p) u (by simpa using hp)) (not_le.mpr hu)

open Classical in
/-- The value of the last target with property `p`, else 0. -/
def lastv (p : Fin 50 → Prop) (v : Fin 50 → EReal) : EReal := if h : ∃ t, IsLast p t then v h.choose else 0

theorem lastv_last {p : Fin 50 → Prop} {t : Fin 50} (h : IsLast p t) (v : Fin 50 → EReal) : lastv p v = v t := by
  have he : ∃ t, IsLast p t := ⟨t, h⟩
  rw [lastv, dif_pos he, he.choose_spec.unique h]

theorem lastv_none {p : Fin 50 → Prop} (h : ¬∃ t, p t) (v : Fin 50 → EReal) : lastv p v = 0 := by
  rw [lastv, dif_neg fun ⟨t, ht⟩ => h ⟨t, ht.1⟩]

/-- The running choice over the first `k` targets. -/
theorem lastv_rec (p : Fin 50 → Prop) (v : Fin 50 → EReal) (f : (k : ℕ) → k ≤ 50 → EReal) (h0 : f 0 (Nat.zero_le _) = 0)
    (hp : ∀ k h, p ⟨k, h⟩ → f (k + 1) h = v ⟨k, h⟩) (hn : ∀ k h, ¬p ⟨k, h⟩ → f (k + 1) h = f k (Nat.le_of_succ_le h)) :
    f 50 le_rfl = lastv p v := by
  have key : ∀ (k : ℕ) (hk : k ≤ 50), (∀ t, (IsLast (fun t => p t ∧ t.val < k) t → f k hk = v t)) ∧ ((¬∃ t, p t ∧ t.val < k) → f k hk = 0) := by
    intro k
    induction k with
    | zero => exact fun hk => ⟨fun t ht => absurd ht.1.2 (Nat.not_lt_zero _), fun _ => h0⟩
    | succ k ih =>
      intro hk
      obtain ⟨i1, i2⟩ := ih (Nat.le_of_succ_le hk)
      by_cases hh : p ⟨k, hk⟩
      · refine ⟨fun t ht => ?_, fun hne => absurd ⟨⟨k, hk⟩, hh, Nat.lt_succ_self k⟩ hne⟩
        rw [hp k hk hh]
        congr 1
        refine IsLast.unique (p := fun t => p t ∧ t.val < k + 1) ⟨⟨hh, Nat.lt_succ_self k⟩, fun u hu hu' => ?_⟩ ht
        have : k < u.val := hu
        omega
      · rw [hn k hk hh]
        have hlt : ∀ t : Fin 50, p t → t.val < k + 1 → t.val < k := fun t ht h' => by
          rcases Nat.lt_succ_iff_lt_or_eq.mp h' with h' | h'
          · exact h'
          · exact absurd (show p ⟨k, hk⟩ from (Fin.ext h' : t = ⟨k, hk⟩) ▸ ht) hh
        refine ⟨fun t ht => i1 t ⟨⟨ht.1.1, hlt t ht.1.1 ht.1.2⟩, fun u hu hu' => ht.2 u hu ⟨hu'.1, Nat.lt_succ_of_lt hu'.2⟩⟩, fun hne => i2 ?_⟩
        rintro ⟨t, ht, h'⟩
        exact hne ⟨t, ht, Nat.lt_succ_of_lt h'⟩
  obtain ⟨k1, k2⟩ := key 50 le_rfl
  by_cases h : ∃ t, p t
  · obtain ⟨t, ht⟩ := exists_last p h
    rw [lastv_last ht, k1 t ⟨⟨ht.1, t.isLt⟩, fun u hu hu' => ht.2 u hu hu'.1⟩]
  · rw [lastv_none h, k2 fun ⟨t, ht⟩ => h ⟨t, ht.1⟩]

/-! ## The predicted box and the background mask -/

section Cell

variable (T : Boxes) (X : Logits) (b : Fin 16) (a : Fin 5) (j i : Fin 64)

def pxR : ℝ := sg (X b a 0 j i) + i.val
def pyR : ℝ := sg (X b a 1 j i) + j.val
def pwR : ℝ := Real.exp (X b a 2 j i) * awR a
def phR : ℝ := Real.exp (X b a 3 j i) * ahR a

theorem pwR_pos : 0 < pwR X b a j i := mul_pos (Real.exp_pos _) (awR_pos a)
theorem phR_pos : 0 < phR X b a j i := mul_pos (Real.exp_pos _) (ahR_pos a)

/-- The overlap of two intervals given by centre and extent. -/
def ovl (p w g v : ℝ) : ℝ := min (p + w / 2) (g + v / 2) - max (p - w / 2) (g - v / 2)

/-- Some valid target overlaps the predicted box by more than three eighths of the two areas' sum. -/
def Sil : Prop := ∃ t, Valid T b t ∧
  3 / 8 * pwR X b a j i * phR X b a j i + 3 / 8 * gR T b t 3 * gR T b t 4
    < max (ovl (pxR X b a j i) (pwR X b a j i) (gR T b t 1) (gR T b t 3)) 0 * ovl (pyR X b a j i) (phR X b a j i) (gR T b t 2) (gR T b t 4)

open Classical in
/-- The mask, -/
def mR : ℝ := if ∃ t, Hit T b a j i t then 1 else 0
open Classical in
/-- the confidence's weight, -/
def scR : ℝ := if ∃ t, Hit T b a j i t then 5 else if Sil T X b a j i then 0 else 1

/-- a value per target spread over the cells, -/
abbrev lv (v : Fin 50 → EReal) : EReal := lastv (Hit T b a j i) v

/-- a masked square, -/
def sqm (m : ℝ) (s t : EReal) : EReal := (m : EReal) * ((s - t) * (s - t))

/-- a masked class logit, -/
def mc (c : Fin 80) : ℝ := X b a ⟨5 + c.val, by omega⟩ j i * mR T b a j i

/-- and the cell's six loss terms. -/
def term : Fin 6 → EReal := ![
  sqm (mR T b a j i) (sg (X b a 0 j i) : EReal) (lv T b a j i (txE T b)),
  sqm (mR T b a j i) (sg (X b a 1 j i) : EReal) (lv T b a j i (tyE T b)),
  sqm (mR T b a j i) (X b a 2 j i : EReal) (lv T b a j i (twE T b)),
  sqm (mR T b a j i) (X b a 3 j i : EReal) (lv T b a j i (thE T b)),
  ((scR T X b a j i : EReal) * ((sg (X b a 4 j i) : EReal) - lv T b a j i (confE T b)))
    * ((scR T X b a j i : EReal) * ((sg (X b a 4 j i) : EReal) - lv T b a j i (confE T b))),
  ((Real.log (∑ c, Real.exp (mc T X b a j i c)) - mc T X b a j i 0 : ℝ) : EReal)]

theorem lv_one : lv T b a j i (fun _ => 1) = (mR T b a j i : EReal) := by
  unfold lv mR
  by_cases h : ∃ t, Hit T b a j i t
  · obtain ⟨t, ht⟩ := exists_last _ h
    rw [lastv_last ht, if_pos h, EReal.coe_one]
  · rw [lastv_none h, if_neg h, EReal.coe_zero]

end Cell

/-- The reference's spelling of a masked square. -/
theorem sqm_eq (T : Boxes) (b : Fin 16) (a : Fin 5) (j i : Fin 64) (s t : EReal) :
    (s * (mR T b a j i : EReal) - t * (mR T b a j i : EReal)) * (s * (mR T b a j i : EReal) - t * (mR T b a j i : EReal)) = sqm (mR T b a j i) s t := by
  unfold mR sqm
  split_ifs <;> simp

/-- A nonnegative real factor distributes over a difference. -/
theorem mul_sub_ereal (s : ℝ) (hs : 0 ≤ s) (x y : EReal) : x * (s : EReal) - y * (s : EReal) = (s : EReal) * (x - y) := by
  rw [sub_eq_add_neg, sub_eq_add_neg, EReal.left_distrib_of_nonneg_of_ne_top (by exact_mod_cast hs) (EReal.coe_ne_top s), mul_neg, mul_comm x, mul_comm y]

theorem scR_nonneg (T : Boxes) (X : Logits) (b : Fin 16) (a : Fin 5) (j i : Fin 64) : 0 ≤ scR T X b a j i := by
  unfold scR; split_ifs <;> norm_num

/-- The overlap's extent, as the reference spells it. -/
theorem ovl_eq (p w g v : ℝ) :
    w + v - (max (p + w / 2) (g + v / 2) - min (p - w / 2) (g - v / 2)) = ovl p w g v := by
  unfold ovl
  have h1 := min_add_max (p + w / 2) (g + v / 2)
  have h2 := min_add_max (p - w / 2) (g - v / 2)
  linarith

theorem ovl_le_left (p w g v : ℝ) : ovl p w g v ≤ w := by
  unfold ovl
  have h1 := min_le_left (p + w / 2) (g + v / 2)
  have h2 := le_max_left (p - w / 2) (g - v / 2)
  linarith

theorem ovl_le_right (p w g v : ℝ) : ovl p w g v ≤ v := by
  unfold ovl
  have h1 := min_le_right (p + w / 2) (g + v / 2)
  have h2 := le_max_right (p - w / 2) (g - v / 2)
  linarith

/-- The intersection, as the reference spells it. -/
def inter (cw ch : ℝ) : ℝ := if 0 < cw ∧ 0 < ch then cw * ch else 0

/-- The union is positive, -/
theorem union_pos (cw ch w h v u : ℝ) (hw : 0 < w) (hh : 0 < h) (hv : 0 ≤ v) (hu : 0 ≤ u) (h1 : cw ≤ v) (h2 : ch ≤ u) :
    0 < w * h + v * u - inter cw ch := by
  have hp : 0 < w * h := mul_pos hw hh
  unfold inter
  split_ifs with hc
  · have : cw * ch ≤ v * u := mul_le_mul h1 h2 hc.2.le hv
    linarith
  · have : 0 ≤ v * u := mul_nonneg hv hu
    linarith

/-- and the ratio is above three fifths exactly where the overlap's product is above three eighths of the areas' sum. -/
theorem ratio_iff (cw ch w h v u : ℝ) (hw : 0 < w) (hh : 0 < h) (hv : 0 ≤ v) (hu : 0 ≤ u) (h1 : cw ≤ v) (h2 : ch ≤ u) :
    3 / 5 < inter cw ch / (w * h + v * u - inter cw ch) ↔ 3 / 8 * w * h + 3 / 8 * v * u < max cw 0 * ch := by
  have hpos := union_pos cw ch w h v u hw hh hv hu h1 h2
  have hp : 0 < w * h := mul_pos hw hh
  have hq : 0 ≤ v * u := mul_nonneg hv hu
  rw [lt_div_iff₀ hpos]
  unfold inter at *
  split_ifs with hc
  · rw [max_eq_left hc.1.le]
    constructor <;> intro hx <;> nlinarith
  · have hle : max cw 0 * ch ≤ 0 := by
      rcases not_and_or.mp hc with h' | h'
      · rw [max_eq_right (not_lt.mp h'), zero_mul]
      · exact mul_nonpos_of_nonneg_of_nonpos (le_max_right _ _) (not_lt.mp h')
    constructor <;> intro hx <;> nlinarith

end Cert.KernelIdeal.Hand

end
-- ==== Proof.KernelCell.lean ====
/-
The kernel's words and cells at the ideal values: what the prepass leaves for each target, and what each of the body's
per-cell vectors holds, in the terms of `Cell`.
-/
module

public import proofs.«01_k».proof.Proof.Cell
public import Idealize.ShloMosaic.Lib.Pipeline.Value

@[expose] public section

noncomputable section

namespace Cert.KernelIdeal.Hand

open Cert.KernelIdeal Cert.KernelIdeal.Gen
open Idealize.ShloMosaic Idealize.ShloMosaic.TcCoe Idealize.ShloMosaic.ValueIdx

section Words

variable (T : Boxes) (b : Fin 16) (x : Vec Ideal S16x640 .f32) (hx : ∀ c t, x (at640 b c t) = (T b t c : EReal))

include hx in
open Classical in
theorem vAcc_eq : ∀ (k : ℕ), k ≤ 50 → vAcc (F := Ideal) x b k = (((if ∀ u : Fin 50, u.val < k → T b u 1 ≠ 0 then 1 else 0) : ℝ) : EReal)
  | 0, _ => by
    rw [if_pos fun u h => absurd h (Nat.not_lt_zero _)]
    exact lit_one
  | k + 1, hk => by
    have hk' : k < 50 := hk
    rw [vAcc, dif_pos hk', vAcc_eq k (Nat.le_of_succ_le hk), hx]
    show ((_ : ℝ) : EReal) * (if BitVec.ofBool (decide ((T b ⟨k, hk⟩ 1 : EReal) ≠ Ideal.ofBits .f32 0x00000000#32)) = 1 then Ideal.ofBits .f32 0x3F800000#32 else Ideal.ofBits .f32 0x00000000#32) = _
    rw [lit_zero, lit_one]
    simp only [ofBool_decide_eq_one, ne_eq, EReal.coe_eq_coe_iff]
    have hiff : (∀ u : Fin 50, u.val < k + 1 → ¬T b u 1 = 0) ↔ ((∀ u : Fin 50, u.val < k → ¬T b u 1 = 0) ∧ ¬T b ⟨k, hk⟩ 1 = 0) := by
      refine ⟨fun h => ⟨fun u hu => h u (Nat.lt_succ_of_lt hu), h ⟨k, hk⟩ (Nat.lt_succ_self k)⟩, fun h u hu => ?_⟩
      rcases Nat.lt_succ_iff_lt_or_eq.mp hu with h' | h'
      · exact h.1 u h'
      · obtain rfl : u = ⟨k, hk⟩ := Fin.ext h'
        exact h.2
    by_cases h1 : ∀ u : Fin 50, u.val < k → ¬T b u 1 = 0 <;> by_cases h2 : T b ⟨k, hk⟩ 1 = 0 <;>
      simp only [hiff, h1, h2, if_true, if_false, and_true, and_false, not_true, not_false_iff, implies_true, mul_one, mul_zero, one_mul, zero_mul, EReal.coe_zero, EReal.coe_one]

include hx in
open Classical in
theorem vAcc_valid (t : Fin 50) : vAcc (F := Ideal) x b (t.val + 1) = (((if Valid T b t then 1 else 0) : ℝ) : EReal) := by
  rw [vAcc_eq T b x hx _ t.isLt]
  have : (∀ u : Fin 50, u.val < t.val + 1 → T b u 1 ≠ 0) ↔ Valid T b t :=
    ⟨fun h u hu => h u (Nat.lt_succ_of_le hu), fun h u hu => h u (Nat.le_of_lt_succ hu)⟩
  simp only [this]

theorem up_eq (r : ℝ) : up (F := Ideal) (r : EReal) = ((r * 64 : ℝ) : EReal) := by
  show (r : EReal) * Ideal.ofBits .f32 0x42800000#32 = _
  rw [lit_64, ← EReal.coe_mul]

include hx in
theorem up_x (t : Fin 50) (c : Fin 5) : up (F := Ideal) (x (at640 b c t)) = (gR T b t c : EReal) := by
  rw [hx, up_eq]; rfl

theorem valid_gt (p : Prop) [Decidable p] :
    Scalar.cmpf (F := Ideal) .ogt (((if p then 1 else 0 : ℝ)) : EReal) (lit 0x00000000#32) = BitVec.ofBool (decide p) := by
  show BitVec.ofBool (decide (Ideal.ofBits .f32 0x00000000#32 < _)) = _
  simp only [lit_zero]
  by_cases h : p <;> simp [h]

include hx in
theorem word_gxl (t : Fin 50) : words (F := Ideal) x b 0 t = ((gR T b t 1 - gR T b t 3 / 2 : ℝ) : EReal) := by
  show up (F := Ideal) (x (at640 b 1 t)) - Ideal.ofBits .f32 0x3F000000#32 * up (F := Ideal) (x (at640 b 3 t)) = _
  rw [up_x T b x hx, up_x T b x hx, lit_half, ← EReal.coe_mul, ← EReal.coe_sub]
  congr 1; ring
include hx in
theorem word_gxr (t : Fin 50) : words (F := Ideal) x b 1 t = ((gR T b t 1 + gR T b t 3 / 2 : ℝ) : EReal) := by
  show up (F := Ideal) (x (at640 b 1 t)) + Ideal.ofBits .f32 0x3F000000#32 * up (F := Ideal) (x (at640 b 3 t)) = _
  rw [up_x T b x hx, up_x T b x hx, lit_half, ← EReal.coe_mul, ← EReal.coe_add]
  congr 1; ring
include hx in
theorem word_gyt (t : Fin 50) : words (F := Ideal) x b 2 t = ((gR T b t 2 - gR T b t 4 / 2 : ℝ) : EReal) := by
  show up (F := Ideal) (x (at640 b 2 t)) - Ideal.ofBits .f32 0x3F000000#32 * up (F := Ideal) (x (at640 b 4 t)) = _
  rw [up_x T b x hx, up_x T b x hx, lit_half, ← EReal.coe_mul, ← EReal.coe_sub]
  congr 1; ring
include hx in
theorem word_gyb (t : Fin 50) : words (F := Ideal) x b 3 t = ((gR T b t 2 + gR T b t 4 / 2 : ℝ) : EReal) := by
  show up (F := Ideal) (x (at640 b 2 t)) + Ideal.ofBits .f32 0x3F000000#32 * up (F := Ideal) (x (at640 b 4 t)) = _
  rw [up_x T b x hx, up_x T b x hx, lit_half, ← EReal.coe_mul, ← EReal.coe_add]
  congr 1; ring

include hx in
open Classical in
theorem word_g375 (t : Fin 50) : words (F := Ideal) x b 4 t
    = if Valid T b t then ((3 / 8 * gR T b t 3 * gR T b t 4 : ℝ) : EReal) else ⊤ := by
  show Scalar.select (Scalar.cmpf .ogt (vAcc x b (t.val + 1)) (lit 0x00000000#32))
    (Ideal.ofBits .f32 0x3EC00000#32 * up (F := Ideal) (x (at640 b 3 t)) * up (F := Ideal) (x (at640 b 4 t))) (Ideal.ofBits .f32 0x7F800000#32) = _
  rw [vAcc_valid T b x hx, valid_gt, up_x T b x hx, up_x T b x hx, lit_threeEighths, lit_top, ← EReal.coe_mul, ← EReal.coe_mul]
  simp only [Scalar.select, ofBool_decide_eq_one]

include hx in
theorem word_jj (t : Fin 50) : words (F := Ideal) x b 5 t = ((⌊gR T b t 2⌋ : ℝ) : EReal) := by
  show Ideal.liftRound Int.floor (up (F := Ideal) (x (at640 b 2 t))) = _
  rw [up_x T b x hx]; rfl
include hx in
theorem word_ii (t : Fin 50) : words (F := Ideal) x b 7 t = ((⌊gR T b t 1⌋ : ℝ) : EReal) := by
  show Ideal.liftRound Int.floor (up (F := Ideal) (x (at640 b 1 t))) = _
  rw [up_x T b x hx]; rfl
include hx in
open Classical in
theorem word_bnv (t : Fin 50) : words (F := Ideal) x b 6 t
    = (((if Valid T b t then ((bA T b t).val : ℝ) else -1) : ℝ) : EReal) := by
  show Scalar.select (Scalar.cmpf .ogt (vAcc x b (t.val + 1)) (lit 0x00000000#32))
    (bn (F := Ideal) (up (F := Ideal) (x (at640 b 3 t))) (up (F := Ideal) (x (at640 b 4 t))) 4 (by decide)) (Ideal.ofBits .f32 0xBF800000#32) = _
  rw [vAcc_valid T b x hx, valid_gt, up_x T b x hx, up_x T b x hx, bn_eq, lit_neg_one]
  simp only [Scalar.select, ofBool_decide_eq_one]
  split_ifs <;> rfl
include hx in
theorem word_tx (t : Fin 50) : words (F := Ideal) x b 8 t = txE T b t := by
  show up (F := Ideal) (x (at640 b 1 t)) - Ideal.liftRound Int.floor (up (F := Ideal) (x (at640 b 1 t))) = _
  rw [up_x T b x hx, Ideal.liftRound_coe, ← EReal.coe_sub]; rfl
include hx in
theorem word_ty (t : Fin 50) : words (F := Ideal) x b 9 t = tyE T b t := by
  show up (F := Ideal) (x (at640 b 2 t)) - Ideal.liftRound Int.floor (up (F := Ideal) (x (at640 b 2 t))) = _
  rw [up_x T b x hx, Ideal.liftRound_coe, ← EReal.coe_sub]; rfl
include hx in
theorem word_tw (t : Fin 50) : words (F := Ideal) x b 10 t = twE T b t := by
  show Ideal.log (Ideal.div (up (F := Ideal) (x (at640 b 3 t))) (pickA (F := Ideal) awW (bn (F := Ideal) (up (F := Ideal) (x (at640 b 3 t))) (up (F := Ideal) (x (at640 b 4 t))) 4 (by decide)))) = _
  rw [up_x T b x hx, up_x T b x hx, bn_eq, pickA_eq awW awR lit_aw]; rfl
include hx in
theorem word_th (t : Fin 50) : words (F := Ideal) x b 11 t = thE T b t := by
  show Ideal.log (Ideal.div (up (F := Ideal) (x (at640 b 4 t))) (pickA (F := Ideal) ahW (bn (F := Ideal) (up (F := Ideal) (x (at640 b 3 t))) (up (F := Ideal) (x (at640 b 4 t))) 4 (by decide)))) = _
  rw [up_x T b x hx, up_x T b x hx, bn_eq, pickA_eq ahW ahR lit_ah]; rfl
include hx in
theorem word_conf (t : Fin 50) : words (F := Ideal) x b 12 t = confE T b t := by
  show best (F := Ideal) (up (F := Ideal) (x (at640 b 3 t))) (up (F := Ideal) (x (at640 b 4 t))) 4 (by decide) = _
  rw [up_x T b x hx, up_x T b x hx, best_eq]; rfl
include hx in
theorem word_cls (h01 : ∀ t c, 0 ≤ T b t c ∧ T b t c < 1) (t : Fin 50) : words (F := Ideal) x b 13 t = 0 := by
  show Ideal.liftRound Int.floor (x (at640 b 0 t)) = _
  rw [hx, Ideal.liftRound_coe, Int.floor_eq_zero_iff.mpr ⟨(h01 t 0).1, (h01 t 0).2⟩]
  simp

end Words

/-! ## The cells of a block -/

/-- The row and the column of the grid at a place of a 32 × 128 block. -/
def jOf (y : S32x128.Idx) : Fin 64 := ⟨2 * (y 0).val + (y 1).val / 64, by
  have h0 : (y 0).val < 32 := (y 0).isLt
  have h1 : (y 1).val < 128 := (y 1).isLt
  omega⟩
def iOf (y : S32x128.Idx) : Fin 64 := ⟨(y 1).val % 64, Nat.mod_lt _ (by decide)⟩

/-- The anchor of a grid point. -/
def anc (i : grid0.Coords) : Fin 5 := i 1

theorem pay45_apply (y : S32x128.Idx) : k0_pay45 (F := Ideal) y = (((iOf y).val : ℝ) : EReal) := by
  have key : ∀ l : Fin 128, (BitVec.ofNat 32 (0 * 128 + l.val) &&& 63#32).toInt = (l.val % 64 : ℕ) := by decide
  show (((BitVec.ofNat 32 (0 * 128 + (y 1).val) &&& 63#32).toInt : ℝ) : EReal) = _
  rw [key (y 1)]
  rfl

theorem pay46_apply (y : S32x128.Idx) : k0_pay46 (F := Ideal) y = (((jOf y).val : ℝ) : EReal) := by
  have key : ∀ (r : Fin 32) (l : Fin 128), (IntOp.addi (IntOp.muli (BitVec.ofNat 32 (0 * 32 + r.val)) 2#32) (IntOp.shrsi .vector (BitVec.ofNat 32 (0 * 128 + l.val)) 6#32)).toInt = (2 * r.val + l.val / 64 : ℕ) := by
    decide +kernel
  show (((IntOp.addi (IntOp.muli (BitVec.ofNat 32 (0 * 32 + (y 0).val)) 2#32) (IntOp.shrsi .vector (BitVec.ofNat 32 (0 * 128 + (y 1).val)) 6#32)).toInt : ℝ) : EReal) = _
  rw [key (y 0) (y 1)]
  rfl

theorem pay42_apply (i : grid0.Coords) : k0_pay42 (F := Ideal) i = (((anc i).val : ℝ) : EReal) := by
  have key : ∀ n : Fin 5, (BitVec.ofNat 32 n.val).toInt = (n.val : ℕ) := by decide
  show (((BitVec.ofNat 32 (i 1).val).toInt : ℝ) : EReal) = _
  rw [key (i 1)]
  rfl

theorem pay43_apply (i : grid0.Coords) : k0_pay43 (F := Ideal) i = (awR (anc i) : EReal) := by
  rw [← lit_aw]
  have key : ∀ n : Fin 5, (Scalar.select (IntOp.cmpi .eq (BitVec.ofNat 32 n.val) 0#32) (Ideal.ofBits .f32 0x3FA93A93#32) (Scalar.select (IntOp.cmpi .eq (BitVec.ofNat 32 n.val) 1#32) (Ideal.ofBits .f32 0x404C5604#32) (Scalar.select (IntOp.cmpi .eq (BitVec.ofNat 32 n.val) 2#32) (Ideal.ofBits .f32 0x40A1C9B0#32) (Scalar.select (IntOp.cmpi .eq (BitVec.ofNat 32 n.val) 3#32) (Ideal.ofBits .f32 0x411789B5#32) (Ideal.ofBits .f32 0x4133C84B#32))))) = Ideal.ofBits .f32 (awW n) := by
    intro n; fin_cases n <;> rfl
  exact key (anc i)

theorem pay44_apply (i : grid0.Coords) : k0_pay44 (F := Ideal) i = (ahR (anc i) : EReal) := by
  rw [← lit_ah]
  have key : ∀ n : Fin 5, (Scalar.select (IntOp.cmpi .eq (BitVec.ofNat 32 n.val) 0#32) (Ideal.ofBits .f32 0x3FDDA027#32) (Scalar.select (IntOp.cmpi .eq (BitVec.ofNat 32 n.val) 1#32) (Ideal.ofBits .f32 0x40804D55#32) (Scalar.select (IntOp.cmpi .eq (BitVec.ofNat 32 n.val) 2#32) (Ideal.ofBits .f32 0x4101952D#32) (Scalar.select (IntOp.cmpi .eq (BitVec.ofNat 32 n.val) 3#32) (Ideal.ofBits .f32 0x409AE59F#32) (Ideal.ofBits .f32 0x41201D15#32))))) = Ideal.ofBits .f32 (ahW n) := by
    intro n; fin_cases n <;> rfl
  exact key (anc i)

section Cells

variable (T : Boxes) (b : Fin 16) (x : Vec Ideal S16x640 .f32) (hx : ∀ c t, x (at640 b c t) = (T b t c : EReal))
  (i : grid0.Coords) (y : S32x128.Idx)

include hx in
open Classical in
theorem hit_apply (t : Fin 50) : hit (words (F := Ideal) x b) i t y = BitVec.ofBool (decide (Hit T b (anc i) (jOf y) (iOf y) t)) := by
  show (BitVec.ofBool (decide (k0_pay46 (F := Ideal) y = words (F := Ideal) x b 5 t)) &&& BitVec.ofBool (decide (k0_pay45 (F := Ideal) y
    = (if BitVec.ofBool (decide (words (F := Ideal) x b 6 t = k0_pay42 (F := Ideal) i)) = 1 then words (F := Ideal) x b 7 t else Ideal.ofBits .f32 0xBF800000#32)))) = _
  rw [pay46_apply, pay45_apply, pay42_apply, word_jj T b x hx, word_bnv T b x hx, word_ii T b x hx, lit_neg_one, ofBool_and]
  simp only [ofBool_decide_eq_one]
  congr 1
  rw [decide_eq_decide]
  simp only [EReal.coe_eq_coe_iff]
  unfold Hit
  have c1 : ∀ (n : ℕ) (z : ℤ), ((n : ℝ) = (z : ℝ)) ↔ z = (n : ℤ) := fun n z => by
    rw [← Int.cast_natCast, Int.cast_inj]; exact eq_comm
  by_cases hv : Valid T b t
  · rw [if_pos hv]
    by_cases ha : bA T b t = anc i
    · rw [if_pos (by rw [ha]), EReal.coe_eq_coe_iff, c1, c1]
      exact ⟨fun h => ⟨hv, ha, h.1, h.2⟩, fun h => ⟨h.2.2.1, h.2.2.2⟩⟩
    · rw [if_neg fun h => ha (Fin.ext (Nat.cast_inj.mp h)), EReal.coe_eq_coe_iff]
      refine ⟨fun h => ?_, fun h => absurd h.2.1 ha⟩
      have := h.2
      have h0 : (0 : ℝ) ≤ ((iOf y).val : ℝ) := Nat.cast_nonneg _
      linarith
  · have hne : ¬((-1 : ℝ) = ((anc i).val : ℝ)) := fun h => by
      have h0 : (0 : ℝ) ≤ ((anc i).val : ℝ) := Nat.cast_nonneg _
      linarith
    rw [if_neg hv, if_neg hne, EReal.coe_eq_coe_iff]
    refine ⟨fun h => ?_, fun h => absurd h.1 hv⟩
    have := h.2
    have h0 : (0 : ℝ) ≤ ((iOf y).val : ℝ) := Nat.cast_nonneg _
    linarith

include hx in
theorem sel_apply (v : Fin 50 → EReal) : sel (F := Ideal) (words (F := Ideal) x b) i v 50 le_rfl y = lv T b (anc i) (jOf y) (iOf y) v := by
  classical
  refine lastv_rec _ v (fun k hk => sel (F := Ideal) (words (F := Ideal) x b) i v k hk y) ?_ ?_ ?_
  · show Ideal.ofBits .f32 0x00000000#32 = 0
    rw [lit_zero]; rfl
  · intro k h hp
    show (if hit (words (F := Ideal) x b) i ⟨k, h⟩ y = 1 then v ⟨k, h⟩ else _) = _
    rw [hit_apply T b x hx, if_pos ((ofBool_decide_eq_one _).mpr hp)]
  · intro k h hp
    show (if hit (words (F := Ideal) x b) i ⟨k, h⟩ y = 1 then v ⟨k, h⟩ else _) = _
    rw [hit_apply T b x hx, if_neg (fun h' => hp ((ofBool_decide_eq_one _).mp h'))]

include hx in
theorem maskc_apply : maskc (F := Ideal) (words (F := Ideal) x b) i y = (mR T b (anc i) (jOf y) (iOf y) : EReal) := by
  rw [← lv_one, ← sel_apply T b x hx]
  have : (fun _ : Fin 50 => (Scalar.ofBits .f32 0x3F800000#32 : Ideal .f32)) = fun _ => (1 : EReal) := funext fun _ => by
    show Ideal.ofBits .f32 0x3F800000#32 = 1
    rw [lit_one]; rfl
  unfold maskc
  rw [this]

end Cells

end Cert.KernelIdeal.Hand

end
-- ==== Proof.KernelRow.lean ====
/-
A cell of the kernel's block in real numbers: its predicted box, whether the background weight falls away, and its
class loss.
-/
module

public import proofs.«01_k».proof.Proof.KernelCell

@[expose] public section

noncomputable section

namespace Cert.KernelIdeal.Hand

open Cert.KernelIdeal Cert.KernelIdeal.Gen
open Idealize.ShloMosaic Idealize.ShloMosaic.TcCoe Idealize.ShloMosaic.ValueIdx

/-- A float word whose exponent field is not zero is not the number zero. -/
theorem ofBits_ne_zero (w : BitVec 32) (h : (w.extractLsb' 23 8).toNat ≠ 0) : Ideal.ofBits .f32 w ≠ 0 := by
  show Ideal.ieee 8 23 w ≠ 0
  unfold Ideal.ieee
  simp only [h, if_false]
  split_ifs <;> first
    | exact EReal.bot_ne_zero
    | exact EReal.top_ne_zero
    | (refine fun h0 => absurd (EReal.coe_eq_zero.mp h0) ?_
       refine mul_ne_zero (mul_ne_zero (by norm_num) ?_) (zpow_ne_zero _ (by norm_num))
       positivity)

theorem clsWord_ne_zero (k : ℕ) (hk : k < 80) (h0 : k ≠ 0) : Ideal.ofBits .f32 (clsWord k) ≠ 0 := by
  refine ofBits_ne_zero _ ?_
  have key : ∀ n : Fin 80, n.val ≠ 0 → ((clsWord n.val).extractLsb' 23 8).toNat ≠ 0 := by decide +kernel
  exact key ⟨k, hk⟩ h0

section Cells

variable (T : Boxes) (X : Logits) (b : Fin 16) (x : Vec Ideal S16x640 .f32) (hx : ∀ c t, x (at640 b c t) = (T b t c : EReal))
  (i : grid0.Coords) (B : Fin 85 → Vec Ideal S1x1x32x128 .f32)
  (hC : ∀ k y, shapeCast S32x128 (B k) shapeCasts_S1x1x32x128_S32x128 y = (X b (anc i) k (jOf y) (iOf y) : EReal))
  (y : S32x128.Idx)

theorem logistic_coe_sg (r : ℝ) : Ideal.logistic (r : EReal) = (sg r : EReal) := by
  rw [Ideal.logistic_coe, sg, one_div]

include hC in
theorem pay47_apply : k0_pay47 (B 0) y = (sg (X b (anc i) 0 (jOf y) (iOf y)) : EReal) := by
  show Ideal.logistic (shapeCast S32x128 (B 0) shapeCasts_S1x1x32x128_S32x128 y) = _
  rw [hC, logistic_coe_sg]
include hC in
theorem pay48_apply : k0_pay48 (B 1) y = (sg (X b (anc i) 1 (jOf y) (iOf y)) : EReal) := by
  show Ideal.logistic (shapeCast S32x128 (B 1) shapeCasts_S1x1x32x128_S32x128 y) = _
  rw [hC, logistic_coe_sg]
include hC in
theorem pay567_apply : k0_pay567 (B 4) y = (sg (X b (anc i) 4 (jOf y) (iOf y)) : EReal) := by
  show Ideal.logistic (shapeCast S32x128 (B 4) shapeCasts_S1x1x32x128_S32x128 y) = _
  rw [hC, logistic_coe_sg]
include hC in
theorem pay49_apply : k0_pay49 (k0_pay43 i) (B 2) y = (pwR X b (anc i) (jOf y) (iOf y) : EReal) := by
  show Ideal.exp (shapeCast S32x128 (B 2) shapeCasts_S1x1x32x128_S32x128 y) * k0_pay43 (F := Ideal) i = _
  rw [hC, pay43_apply]; rfl
include hC in
theorem pay50_apply : k0_pay50 (k0_pay44 i) (B 3) y = (phR X b (anc i) (jOf y) (iOf y) : EReal) := by
  show Ideal.exp (shapeCast S32x128 (B 3) shapeCasts_S1x1x32x128_S32x128 y) * k0_pay44 (F := Ideal) i = _
  rw [hC, pay44_apply]; rfl
include hC in
theorem pay51_apply : k0_pay51 k0_pay45 (B 0) y = (pxR X b (anc i) (jOf y) (iOf y) : EReal) := by
  show k0_pay47 (B 0) y + k0_pay45 (F := Ideal) y = _
  rw [pay47_apply X b i B hC, pay45_apply, ← EReal.coe_add]; rfl
include hC in
theorem pay52_apply : k0_pay52 k0_pay46 (B 1) y = (pyR X b (anc i) (jOf y) (iOf y) : EReal) := by
  show k0_pay48 (B 1) y + k0_pay46 (F := Ideal) y = _
  rw [pay48_apply X b i B hC, pay46_apply, ← EReal.coe_add]; rfl

include hC in
theorem pay53_apply : k0_pay53 (k0_pay43 i) k0_pay45 (B 0) (B 2) y
    = ((pxR X b (anc i) (jOf y) (iOf y) - pwR X b (anc i) (jOf y) (iOf y) / 2 : ℝ) : EReal) := by
  show k0_pay51 k0_pay45 (B 0) y - Ideal.ofBits .f32 0x3F000000#32 * k0_pay49 (k0_pay43 i) (B 2) y = _
  rw [pay51_apply X b i B hC, pay49_apply X b i B hC, lit_half, ← EReal.coe_mul, ← EReal.coe_sub]
  congr 1; ring
include hC in
theorem pay54_apply : k0_pay54 (k0_pay43 i) k0_pay45 (B 0) (B 2) y
    = ((pxR X b (anc i) (jOf y) (iOf y) + pwR X b (anc i) (jOf y) (iOf y) / 2 : ℝ) : EReal) := by
  show k0_pay51 k0_pay45 (B 0) y + Ideal.ofBits .f32 0x3F000000#32 * k0_pay49 (k0_pay43 i) (B 2) y = _
  rw [pay51_apply X b i B hC, pay49_apply X b i B hC, lit_half, ← EReal.coe_mul, ← EReal.coe_add]
  congr 1; ring
include hC in
theorem pay55_apply : k0_pay55 (k0_pay44 i) k0_pay46 (B 1) (B 3) y
    = ((pyR X b (anc i) (jOf y) (iOf y) - phR X b (anc i) (jOf y) (iOf y) / 2 : ℝ) : EReal) := by
  show k0_pay52 k0_pay46 (B 1) y - Ideal.ofBits .f32 0x3F000000#32 * k0_pay50 (k0_pay44 i) (B 3) y = _
  rw [pay52_apply X b i B hC, pay50_apply X b i B hC, lit_half, ← EReal.coe_mul, ← EReal.coe_sub]
  congr 1; ring
include hC in
theorem pay56_apply : k0_pay56 (k0_pay44 i) k0_pay46 (B 1) (B 3) y
    = ((pyR X b (anc i) (jOf y) (iOf y) + phR X b (anc i) (jOf y) (iOf y) / 2 : ℝ) : EReal) := by
  show k0_pay52 k0_pay46 (B 1) y + Ideal.ofBits .f32 0x3F000000#32 * k0_pay50 (k0_pay44 i) (B 3) y = _
  rw [pay52_apply X b i B hC, pay50_apply X b i B hC, lit_half, ← EReal.coe_mul, ← EReal.coe_add]
  congr 1; ring
include hC in
theorem pay57_apply : k0_pay57 (k0_pay43 i) (k0_pay44 i) (B 2) (B 3) y
    = ((3 / 8 * pwR X b (anc i) (jOf y) (iOf y) * phR X b (anc i) (jOf y) (iOf y) : ℝ) : EReal) := by
  show Ideal.ofBits .f32 0x3EC00000#32 * k0_pay49 (k0_pay43 i) (B 2) y * k0_pay50 (k0_pay44 i) (B 3) y = _
  rw [pay49_apply X b i B hC, pay50_apply X b i B hC, lit_threeEighths, ← EReal.coe_mul, ← EReal.coe_mul]

include hx hC in
/-- The overlap with target `t`. -/
theorem overlap_apply (t : Fin 50) :
    overlap (words x b) (k0_pay53 (k0_pay43 i) k0_pay45 (B 0) (B 2)) (k0_pay54 (k0_pay43 i) k0_pay45 (B 0) (B 2))
      (k0_pay55 (k0_pay44 i) k0_pay46 (B 1) (B 3)) (k0_pay56 (k0_pay44 i) k0_pay46 (B 1) (B 3)) t y
    = ((max (ovl (pxR X b (anc i) (jOf y) (iOf y)) (pwR X b (anc i) (jOf y) (iOf y)) (gR T b t 1) (gR T b t 3)) 0
        * ovl (pyR X b (anc i) (jOf y) (iOf y)) (phR X b (anc i) (jOf y) (iOf y)) (gR T b t 2) (gR T b t 4) : ℝ) : EReal) := by
  show max (min (k0_pay54 (k0_pay43 i) k0_pay45 (B 0) (B 2) y) (words x b 1 t) - max (k0_pay53 (k0_pay43 i) k0_pay45 (B 0) (B 2) y) (words x b 0 t)) (Ideal.ofBits .f32 0x00000000#32)
    * (min (k0_pay56 (k0_pay44 i) k0_pay46 (B 1) (B 3) y) (words x b 3 t) - max (k0_pay55 (k0_pay44 i) k0_pay46 (B 1) (B 3) y) (words x b 2 t)) = _
  rw [pay53_apply X b i B hC, pay54_apply X b i B hC, pay55_apply X b i B hC, pay56_apply X b i B hC,
    word_gxl T b x hx, word_gxr T b x hx, word_gyt T b x hx, word_gyb T b x hx, lit_zero]
  simp only [coe_min', coe_max', ← EReal.coe_sub, ← EReal.coe_mul]
  rfl

include hx hC in
open Classical in
theorem sil_apply : ∀ (k : ℕ) (hk : k ≤ 50),
    sil (words x b) (k0_pay53 (k0_pay43 i) k0_pay45 (B 0) (B 2)) (k0_pay54 (k0_pay43 i) k0_pay45 (B 0) (B 2))
      (k0_pay55 (k0_pay44 i) k0_pay46 (B 1) (B 3)) (k0_pay56 (k0_pay44 i) k0_pay46 (B 1) (B 3))
      (k0_pay57 (k0_pay43 i) (k0_pay44 i) (B 2) (B 3)) k hk y
    = BitVec.ofBool (decide (∃ t : Fin 50, t.val < k ∧ (Valid T b t ∧
        3 / 8 * pwR X b (anc i) (jOf y) (iOf y) * phR X b (anc i) (jOf y) (iOf y) + 3 / 8 * gR T b t 3 * gR T b t 4
          < max (ovl (pxR X b (anc i) (jOf y) (iOf y)) (pwR X b (anc i) (jOf y) (iOf y)) (gR T b t 1) (gR T b t 3)) 0
            * ovl (pyR X b (anc i) (jOf y) (iOf y)) (phR X b (anc i) (jOf y) (iOf y)) (gR T b t 2) (gR T b t 4))))
  | 0, _ => by
    show BitVec.ofBool (decide (Ideal.ofBits .f32 0x3F800000#32 < Ideal.ofBits .f32 0x00000000#32)) = _
    congr 1
    rw [decide_eq_decide, lit_one, lit_zero]
    constructor
    · intro h; exact absurd (EReal.coe_lt_coe_iff.mp h) (by norm_num)
    · rintro ⟨t, h, _⟩; exact absurd h (Nat.not_lt_zero _)
  | k + 1, hk => by
    have hk' : k < 50 := hk
    show (sil (words x b) _ _ _ _ _ k _ y ||| BitVec.ofBool (decide (k0_pay57 (k0_pay43 i) (k0_pay44 i) (B 2) (B 3) y + words x b 4 ⟨k, hk'⟩
      < overlap (words x b) _ _ _ _ ⟨k, hk'⟩ y))) = _
    rw [sil_apply k (Nat.le_of_succ_le hk), overlap_apply T X b x hx i B hC y, pay57_apply X b i B hC, word_g375 T b x hx, ofBool_or]
    congr 1
    rw [decide_eq_decide]
    constructor
    · rintro (⟨t, h1, h2⟩ | h)
      · exact ⟨t, Nat.lt_succ_of_lt h1, h2⟩
      · refine ⟨⟨k, hk'⟩, Nat.lt_succ_self k, ?_⟩
        by_cases hv : Valid T b ⟨k, hk'⟩
        · rw [if_pos hv, ← EReal.coe_add, EReal.coe_lt_coe_iff] at h
          exact ⟨hv, h⟩
        · rw [if_neg hv, EReal.coe_add_top] at h
          exact absurd h not_top_lt
    · rintro ⟨t, h1, hv, h2⟩
      rcases Nat.lt_succ_iff_lt_or_eq.mp h1 with h' | h'
      · exact Or.inl ⟨t, h', hv, h2⟩
      · obtain rfl : t = ⟨k, hk'⟩ := Fin.ext h'
        refine Or.inr ?_
        rw [if_pos hv, ← EReal.coe_add, EReal.coe_lt_coe_iff]
        exact h2

include hx hC in
open Classical in
theorem silAll_apply : silAll (words x b) i B y = BitVec.ofBool (decide (Sil T X b (anc i) (jOf y) (iOf y))) := by
  unfold silAll
  rw [sil_apply T X b x hx i B hC y 50 le_rfl]
  congr 1
  rw [decide_eq_decide]
  exact ⟨fun ⟨t, _, h⟩ => ⟨t, h⟩, fun ⟨t, h⟩ => ⟨t, t.isLt, h⟩⟩

include hx hC in
/-- The confidence's weight. -/
theorem pay572_apply : k0_pay572 (silAll (words x b) i B) (maskc (words x b) i) y = (scR T X b (anc i) (jOf y) (iOf y) : EReal) := by
  classical
  show (if BitVec.ofBool (decide (Ideal.ofBits .f32 0x00000000#32 < maskc (words x b) i y)) = 1 then Ideal.ofBits .f32 0x40A00000#32
    else if silAll (words x b) i B y = 1 then Ideal.ofBits .f32 0x00000000#32 else Ideal.ofBits .f32 0x3F800000#32) = _
  rw [maskc_apply T b x hx, silAll_apply T X b x hx i B hC]
  simp only [ofBool_decide_eq_one, lit_zero, lit_one, lit_five, EReal.coe_lt_coe_iff]
  unfold mR scR
  by_cases h : ∃ t, Hit T b (anc i) (jOf y) (iOf y) t
  · simp [h]
  · by_cases h' : Sil T X b (anc i) (jOf y) (iOf y) <;> simp [h, h']

/-! ### The class loss -/

include hx hC in
theorem mcls_apply (k : ℕ) (h : k < 80) : mcls B (maskc (words x b) i) k h y = (mc T X b (anc i) (jOf y) (iOf y) ⟨k, h⟩ : EReal) := by
  show shapeCast S32x128 (B ⟨5 + k, by omega⟩) shapeCasts_S1x1x32x128_S32x128 y * maskc (words x b) i y = _
  rw [hC, maskc_apply T b x hx, ← EReal.coe_mul]
  rfl

include hx hC in
theorem sexp_apply : ∀ (k : ℕ) (hk : k ≤ 80), sexp B (maskc (words x b) i) k hk y
    = ((∑ c : Fin k, Real.exp (mc T X b (anc i) (jOf y) (iOf y) ⟨c.val, Nat.lt_of_lt_of_le c.isLt hk⟩) : ℝ) : EReal)
  | 0, _ => by
    show Ideal.ofBits .f32 0x00000000#32 = _
    rw [lit_zero]; simp
  | k + 1, hk => by
    have hk' : k < 80 := hk
    show sexp B (maskc (words x b) i) k _ y + Ideal.exp (mcls B (maskc (words x b) i) k hk' y) = _
    rw [sexp_apply k (Nat.le_of_succ_le hk), mcls_apply T X b x hx i B hC, Fin.sum_univ_castSucc, EReal.coe_add]
    rfl

theorem clsWord_zero : clsWord 0 = 0#32 := if_pos rfl

theorem pick_succ (mask cls : FVec Ideal S32x128 .f32) (k : ℕ) (h : k + 1 ≤ 80) :
    pick B mask cls (k + 1) h y = if BitVec.ofBool (decide (cls y = Ideal.ofBits .f32 (clsWord k))) = 1 then mcls B mask k h y
      else pick B mask cls k (Nat.le_of_succ_le h) y := rfl

include hx hC in
/-- The cell's class is number 0, so the logit picked is the first. -/
theorem pick_apply (cls : FVec Ideal S32x128 .f32) (hcls : cls y = 0) (k : ℕ) (hk : k + 1 ≤ 80) :
    pick B (maskc (words x b) i) cls (k + 1) hk y = (mc T X b (anc i) (jOf y) (iOf y) ⟨0, by decide⟩ : EReal) := by
  induction k with
  | zero =>
    rw [pick_succ, clsWord_zero, if_pos, mcls_apply T X b x hx i B hC]
    rw [ofBool_decide_eq_one, hcls, lit_zero, EReal.coe_zero]
  | succ k ih =>
    rw [pick_succ, if_neg, ih (Nat.le_of_succ_le hk)]
    rw [ofBool_decide_eq_one, hcls]
    exact fun h => clsWord_ne_zero (k + 1) hk (Nat.succ_ne_zero k) h.symm

theorem log_sum_coe (f : Fin 80 → ℝ) : Ideal.log ((∑ c, Real.exp (f c) : ℝ) : EReal) = (Real.log (∑ c, Real.exp (f c)) : EReal) := by
  have h : 0 < ∑ c, Real.exp (f c) := Finset.sum_pos (fun c _ => Real.exp_pos _) Finset.univ_nonempty
  rw [Ideal.log_coe, if_neg (not_le.mpr h)]

end Cells

end Cert.KernelIdeal.Hand

end
-- ==== Proof.KernelOut.lean ====
/-
One call of the kernel's body at the ideal values: row `k` of the output block gains the block's sum of the `k`-th loss
term (rows 0 to 5), the valid targets' indicators (row 6, at the first anchor) and nothing (row 7).
-/
module

public import proofs.«01_k».proof.Proof.KernelRow

@[expose] public section

noncomputable section

namespace Cert.KernelIdeal.Hand

open Cert.KernelIdeal Cert.KernelIdeal.Gen
open Idealize.ShloMosaic Idealize.ShloMosaic.TcCoe Idealize.ShloMosaic.ValueIdx

theorem cast_1_8 (v : FVec Ideal S1x8x128 .f32) (c : Fin 8) (l : Fin 128) :
    shapeCast S8x128 v shapeCasts_S1x8x128_S8x128 (ix2 c l) = v (ix3 0 c l) :=
  shapeCast_apply _ _ _ _ (by
    rw [Shape.rowMajor_val_three, Shape.rowMajor_val_two]
    show ((0 : ℕ) * 8 + c.val) * 128 + l.val = c.val * 128 + l.val
    omega)

theorem cast_8_1 (v : FVec Ideal S8x128 .f32) (c : Fin 8) (l : Fin 128) :
    shapeCast S1x8x128 v shapeCasts_S8x128_S1x8x128 (ix3 0 c l) = v (ix2 c l) :=
  shapeCast_apply _ _ _ _ (by
    rw [Shape.rowMajor_val_three, Shape.rowMajor_val_two]
    show c.val * 128 + l.val = ((0 : ℕ) * 8 + c.val) * 128 + l.val
    omega)

theorem cast_128_1 (v : FVec Ideal S128 .f32) (l : Fin 128) :
    shapeCast S1x128 v shapeCasts_S128_S1x128 (ix2 0 l) = v (ix1 l) :=
  shapeCast_apply _ _ _ _ (by
    rw [Shape.rowMajor_val_one, Shape.rowMajor_val_two]
    show l.val = (0 : ℕ) * 128 + l.val
    omega)

/-- A row's sum over the block's 32 rows. -/
theorem colSum_apply (v : FVec Ideal S32x128 .f32) (l : Fin 128) :
    shapeCast S1x128 (multiReduction .add [0] S128 v 0x00000000#32 reduces_S32x128_S128 (.inl rfl) rfl) shapeCasts_S128_S1x128 (ix2 0 l)
      = ∑ r : Fin 32, v (ix2 r l) := by
  rw [cast_128_1]
  refine (Ideal.multiReduction_add_single v 0x00000000#32 reduces_S32x128_S128 (.inl rfl) rfl (ix1 l)).trans ?_
  refine Finset.sum_congr rfl fun r _ => congrArg v ?_
  funext a
  fin_cases a <;> rfl

/-- The rows the call adds. -/
theorem pay2_apply (r0 r1 r2 r3 r4 r5 : FVec Ideal S1x128 .f32) (p : IVec S1x128 1) (z : Ideal .f32) (o : FVec Ideal S1x128 .f32)
    (v : Vec Ideal S1x8x128 .f32) (c : Fin 8) (l : Fin 128) :
    k0_pay2 r0 r1 r2 r3 r4 r5 p z o v (ix3 0 c l)
      = v (ix3 0 c l) + (![r0, r1, r2, r3, r4, r5, select p o (broadcast S1x128 z), broadcast S1x128 (Scalar.ofBits .f32 0x00000000#32)] c) (ix2 0 l) := by
  have e : k0_pay2 r0 r1 r2 r3 r4 r5 p z o v = shapeCast S1x8x128 (addf (shapeCast S8x128 v shapeCasts_S1x8x128_S8x128)
      (concatenate S8x128 0 (List.ofFn fun n : Fin 8 => (⟨S1x128, ![r0, r1, r2, r3, r4, r5, select p o (broadcast S1x128 z), broadcast S1x128 (Scalar.ofBits .f32 0x00000000#32)] n⟩ : (s : Shape) × (s.Idx → Ideal .f32)))
        concatenates_S1x128_S1x128_S1x128_S1x128_S1x128_S1x128_S1x128_S1x128_S8x128_d0)) shapeCasts_S8x128_S1x8x128 := rfl
  rw [e, cast_8_1]
  show shapeCast S8x128 v shapeCasts_S1x8x128_S8x128 (ix2 c l) + _ = _
  rw [cast_1_8]
  congr 1
  refine concatenate_ofFn_unit_apply (t := S8x128) (s₁ := S1x128) 0 _ _ rfl rfl (ix2 c l) c rfl (ix2 0 l) fun b hb => ?_
  fin_cases b
  · exact absurd rfl hb
  · rfl

section Call

variable (T : Boxes) (X : Logits) (b : Fin 16) (x : Vec Ideal S16x640 .f32) (hx : ∀ c t, x (at640 b c t) = (T b t c : EReal))
  (h01 : ∀ t c, 0 ≤ T b t c ∧ T b t c < 1)
  (i : grid0.Coords) (B : Fin 85 → Vec Ideal S1x1x32x128 .f32)
  (hC : ∀ k y, shapeCast S32x128 (B k) shapeCasts_S1x1x32x128_S32x128 y = (X b (anc i) k (jOf y) (iOf y) : EReal))
  (R : Vec Ideal S1x1x128 .f32)
  (hR : ∀ l : Fin 128, R (ix3 0 0 l) = if h : l.val < 50 then (T b ⟨l.val, h⟩ 1 : EReal) else 0)

include hx h01 hC in
theorem lcls_apply (l : Fin 128) :
    lcls B (maskc (words x b) i) (sel (words x b) i (words x b 13) 50 le_rfl) (ix2 0 l)
      = ∑ r : Fin 32, term T X b (anc i) (jOf (ix2 r l)) (iOf (ix2 r l)) 5 := by
  unfold lcls
  rw [colSum_apply]
  refine Finset.sum_congr rfl fun r _ => ?_
  show Ideal.log (sexp B (maskc (words x b) i) 80 le_rfl (ix2 r l)) - pick B (maskc (words x b) i) _ (79 + 1) le_rfl (ix2 r l) = _
  rw [sexp_apply T X b x hx i B hC, pick_apply T X b x hx i B hC]
  · rw [log_sum_coe, ← EReal.coe_sub]; rfl
  · rw [sel_apply T b x hx, show words (F := Ideal) x b 13 = fun _ => (0 : EReal) from funext fun t => word_cls T b x hx h01 t]
    unfold lv
    by_cases h : ∃ t, Hit T b (anc i) (jOf (ix2 r l)) (iOf (ix2 r l)) t
    · obtain ⟨t, ht⟩ := exists_last _ h
      rw [lastv_last ht]
    · rw [lastv_none h]

include hx hC in
theorem row0_apply (l : Fin 128) :
    k0_pay568 (k0_pay47 (B 0)) (maskc (words x b) i) (sel (words x b) i (words x b 8) 50 le_rfl) (ix2 0 l)
      = ∑ r : Fin 32, term T X b (anc i) (jOf (ix2 r l)) (iOf (ix2 r l)) 0 := by
  refine (colSum_apply _ l).trans (Finset.sum_congr rfl fun r _ => ?_)
  show maskc (words x b) i (ix2 r l) * ((k0_pay47 (B 0) (ix2 r l) - sel (words x b) i (words x b 8) 50 le_rfl (ix2 r l)) * (k0_pay47 (B 0) (ix2 r l) - sel (words x b) i (words x b 8) 50 le_rfl (ix2 r l))) = _
  rw [maskc_apply T b x hx, sel_apply T b x hx, pay47_apply X b i B hC, show words (F := Ideal) x b 8 = txE T b from funext fun t => word_tx T b x hx t]
  rfl
include hx hC in
theorem row1_apply (l : Fin 128) :
    k0_pay569 (k0_pay48 (B 1)) (maskc (words x b) i) (sel (words x b) i (words x b 9) 50 le_rfl) (ix2 0 l)
      = ∑ r : Fin 32, term T X b (anc i) (jOf (ix2 r l)) (iOf (ix2 r l)) 1 := by
  refine (colSum_apply _ l).trans (Finset.sum_congr rfl fun r _ => ?_)
  show maskc (words x b) i (ix2 r l) * ((k0_pay48 (B 1) (ix2 r l) - sel (words x b) i (words x b 9) 50 le_rfl (ix2 r l)) * (k0_pay48 (B 1) (ix2 r l) - sel (words x b) i (words x b 9) 50 le_rfl (ix2 r l))) = _
  rw [maskc_apply T b x hx, sel_apply T b x hx, pay48_apply X b i B hC, show words (F := Ideal) x b 9 = tyE T b from funext fun t => word_ty T b x hx t]
  rfl
include hx hC in
theorem row2_apply (l : Fin 128) :
    k0_pay570 (maskc (words x b) i) (sel (words x b) i (words x b 10) 50 le_rfl) (B 2) (ix2 0 l)
      = ∑ r : Fin 32, term T X b (anc i) (jOf (ix2 r l)) (iOf (ix2 r l)) 2 := by
  refine (colSum_apply _ l).trans (Finset.sum_congr rfl fun r _ => ?_)
  show maskc (words x b) i (ix2 r l) * ((shapeCast S32x128 (B 2) shapeCasts_S1x1x32x128_S32x128 (ix2 r l) - sel (words x b) i (words x b 10) 50 le_rfl (ix2 r l)) * (shapeCast S32x128 (B 2) shapeCasts_S1x1x32x128_S32x128 (ix2 r l) - sel (words x b) i (words x b 10) 50 le_rfl (ix2 r l))) = _
  rw [maskc_apply T b x hx, sel_apply T b x hx, hC, show words (F := Ideal) x b 10 = twE T b from funext fun t => word_tw T b x hx t]
  rfl
include hx hC in
theorem row3_apply (l : Fin 128) :
    k0_pay571 (maskc (words x b) i) (sel (words x b) i (words x b 11) 50 le_rfl) (B 3) (ix2 0 l)
      = ∑ r : Fin 32, term T X b (anc i) (jOf (ix2 r l)) (iOf (ix2 r l)) 3 := by
  refine (colSum_apply _ l).trans (Finset.sum_congr rfl fun r _ => ?_)
  show maskc (words x b) i (ix2 r l) * ((shapeCast S32x128 (B 3) shapeCasts_S1x1x32x128_S32x128 (ix2 r l) - sel (words x b) i (words x b 11) 50 le_rfl (ix2 r l)) * (shapeCast S32x128 (B 3) shapeCasts_S1x1x32x128_S32x128 (ix2 r l) - sel (words x b) i (words x b 11) 50 le_rfl (ix2 r l))) = _
  rw [maskc_apply T b x hx, sel_apply T b x hx, hC, show words (F := Ideal) x b 11 = thE T b from funext fun t => word_th T b x hx t]
  rfl
include hx hC in
theorem row4_apply (l : Fin 128) :
    k0_pay573 (sel (words x b) i (words x b 12) 50 le_rfl) (k0_pay567 (B 4)) (k0_pay572 (silAll (words x b) i B) (maskc (words x b) i)) (ix2 0 l)
      = ∑ r : Fin 32, term T X b (anc i) (jOf (ix2 r l)) (iOf (ix2 r l)) 4 := by
  refine (colSum_apply _ l).trans (Finset.sum_congr rfl fun r _ => ?_)
  show (k0_pay572 (silAll (words x b) i B) (maskc (words x b) i) (ix2 r l) * (k0_pay567 (B 4) (ix2 r l) - sel (words x b) i (words x b 12) 50 le_rfl (ix2 r l))) * (k0_pay572 (silAll (words x b) i B) (maskc (words x b) i) (ix2 r l) * (k0_pay567 (B 4) (ix2 r l) - sel (words x b) i (words x b 12) 50 le_rfl (ix2 r l))) = _
  rw [sel_apply T b x hx, pay567_apply X b i B hC, pay572_apply T X b x hx i B hC, show words (F := Ideal) x b 12 = confE T b from funext fun t => word_conf T b x hx t]
  rfl

/-- Lane `l` holds a valid target. -/
def ValidLane (l : Fin 128) : Prop := ∃ h : l.val < 50, Valid T b ⟨l.val, h⟩

/-- A fold of minima is above `l` exactly where all its parts are. -/
theorem lt_fold_min (s : Finset (Fin 128)) (f : Fin 128 → EReal) (z v : EReal) :
    v < s.fold min z f ↔ v < z ∧ ∀ u ∈ s, v < f u := Finset.lt_fold_min v

/-- The least entry of a row, broadcast back along the row. -/
theorem rowMin_apply (v : FVec Ideal S1x128 .f32) (y : S1x128.Idx) :
    broadcastTo S1x128 (shapeCast S1x1 (multiReduction .minimumf [1] S1 v 0x7F800000#32 reduces_S1x128_S1 (.inl rfl) rfl) shapeCasts_S1_S1x1) broadcasts_S1x1_S1x128 y
      = Finset.univ.fold min ⊤ (fun u : Fin 128 => v (ix2 0 u)) := by
  have he : ∃ w, broadcastTo S1x128 (shapeCast S1x1 (multiReduction .minimumf [1] S1 v 0x7F800000#32 reduces_S1x128_S1 (.inl rfl) rfl) shapeCasts_S1_S1x1) broadcasts_S1x1_S1x128 y
      = multiReduction .minimumf [1] S1 v 0x7F800000#32 reduces_S1x128_S1 (.inl rfl) rfl w := ⟨_, rfl⟩
  obtain ⟨w, hw⟩ := he
  rw [hw]
  refine (multiReduction_minimumf_eq_fold v 0x7F800000#32 reduces_S1x128_S1 (.inl rfl) rfl w).trans ?_
  refine (reduces_S1x128_S1.fold_filter_drop_single _ _ v w).trans ?_
  show Finset.univ.fold min (Ideal.ofBits .f32 0x7F800000#32) _ = _
  rw [lit_top]
  congr 1
  funext u
  refine congrArg v ?_
  funext a
  fin_cases a
  · exact Subsingleton.elim (α := Fin 1) _ _
  · rfl

include hR in
open Classical in
theorem pay693_apply (l : Fin 128) :
    k0_pay693 (BitVec.ofNat 32 (i 1).val) R (ix2 0 l) = BitVec.ofBool (decide (ValidLane T b l ∧ anc i = 0)) := by
  let f : Fin 128 → EReal := fun u => if R (ix3 0 0 u) = 0 then ((u.val : ℝ) : EReal) else ((128 : ℝ) : EReal)
  have hiota : ∀ u : Fin 128, (BitVec.ofNat 32 (0 * 128 + u.val)).toInt = (u.val : ℕ) := by decide
  have hcast : ∀ u : Fin 128, shapeCast S1x128 R shapeCasts_S1x1x128_S1x128 (ix2 0 u) = R (ix3 0 0 u) := fun u =>
    shapeCast_apply _ _ _ _ (by
      rw [Shape.rowMajor_val_three, Shape.rowMajor_val_two]
      show ((0 : ℕ) * 1 + 0) * 128 + u.val = (0 : ℕ) * 128 + u.val
      omega)
  have hf : (fun u : Fin 128 => (select (cmpf (F := Ideal) .oeq (shapeCast S1x128 R shapeCasts_S1x1x128_S1x128) (broadcast S1x128 (Scalar.ofBits .f32 0x00000000#32)))
      (sitofp (F := Ideal) .f32 (iota .tc S1x128 32 [1] iota_S1x128_d1_w32)) (broadcast S1x128 (Scalar.ofBits .f32 0x43000000#32))) (ix2 0 u)) = f := by
    funext u
    show (if BitVec.ofBool (decide (shapeCast S1x128 R shapeCasts_S1x1x128_S1x128 (ix2 0 u) = Ideal.ofBits .f32 0x00000000#32)) = 1
      then (((BitVec.ofNat 32 (0 * 128 + u.val)).toInt : ℝ) : EReal) else Ideal.ofBits .f32 0x43000000#32) = f u
    rw [hcast, lit_zero, lit_128, hiota u]
    simp only [ofBool_decide_eq_one]
    rfl
  show (BitVec.ofBool (decide ((((BitVec.ofNat 32 (0 * 128 + l.val)).toInt : ℝ) : EReal) < broadcastTo S1x128 _ broadcasts_S1x1_S1x128 (ix2 0 l)))
    &&& BitVec.ofBool (BitVec.ofNat 32 (i 1).val == 0#32)) = _
  rw [rowMin_apply, hf, hiota l]
  have h0 : ∀ n : Fin 5, (BitVec.ofNat 32 n.val == 0#32) = decide (n = 0) := by decide
  rw [h0 (i 1), ofBool_and]
  congr 1
  rw [decide_eq_decide]
  refine and_congr ?_ Iff.rfl
  rw [lt_fold_min]
  have hz : ∀ u : Fin 128, R (ix3 0 0 u) = 0 ↔ ∀ h : u.val < 50, T b ⟨u.val, h⟩ 1 = 0 := by
    intro u
    rw [hR]
    by_cases h : u.val < 50
    · rw [dif_pos h, EReal.coe_eq_zero]; exact ⟨fun h' _ => h', fun h' => h' h⟩
    · rw [dif_neg h]; exact ⟨fun _ h' => absurd h' h, fun _ => rfl⟩
  constructor
  · rintro ⟨_, hu⟩
    have key : ∀ u : Fin 128, u ≤ l → R (ix3 0 0 u) ≠ 0 := by
      intro u hul h
      have := hu u (Finset.mem_univ _)
      simp only [f, h, if_true] at this
      rw [EReal.coe_lt_coe_iff] at this
      push_cast at this
      exact absurd (Nat.cast_lt.mp this) (not_lt.mpr hul)
    have hl : l.val < 50 := by
      by_contra h
      exact key l le_rfl ((hz l).mpr fun h' => absurd h' h)
    refine ⟨hl, fun u hu' h => ?_⟩
    have := key ⟨u.val, by omega⟩ hu'
    exact this ((hz _).mpr fun _ => h)
  · rintro ⟨hl, hv⟩
    refine ⟨EReal.coe_lt_top _, fun u _ => ?_⟩
    simp only [f]
    split_ifs with h
    · rw [EReal.coe_lt_coe_iff]
      have : l.val < u.val := by
        by_contra h'
        have hu50 : u.val < 50 := by omega
        exact hv ⟨u.val, hu50⟩ (by show u.val ≤ l.val; omega) ((hz u).mp h hu50)
      push_cast
      exact Nat.cast_lt.mpr this
    · rw [EReal.coe_lt_coe_iff]
      have : (l.val : ℝ) < 128 := by exact_mod_cast l.isLt
      exact_mod_cast this

open Classical in
/-- What the call adds at row `c`, lane `l`. -/
def gain (a : Fin 5) (c : Fin 8) (l : Fin 128) : EReal :=
  if h : c.val < 6 then ∑ r : Fin 32, term T X b a (jOf (ix2 r l)) (iOf (ix2 r l)) ⟨c.val, h⟩
  else if c.val = 6 ∧ ValidLane T b l ∧ a = 0 then 1 else 0

theorem gain_six (a : Fin 5) (l : Fin 128) (h : ValidLane T b l ∧ a = 0) : gain T X b a 6 l = 1 := by
  unfold gain
  rw [dif_neg (show ¬(6 : Fin 8).val < 6 by decide), if_pos ⟨rfl, h⟩]

theorem gain_six_not (a : Fin 5) (l : Fin 128) (h : ¬(ValidLane T b l ∧ a = 0)) : gain T X b a 6 l = 0 := by
  unfold gain
  rw [dif_neg (show ¬(6 : Fin 8).val < 6 by decide), if_neg fun h' => h h'.2]

include hx h01 hC hR in
open Classical in
theorem outVec_apply (v : Vec Ideal S1x8x128 .f32) (c : Fin 8) (l : Fin 128) :
    outVec (words x b) i B R v (ix3 0 c l) = v (ix3 0 c l) + gain T X b (anc i) c l := by
  unfold outVec outOf
  rw [pay2_apply]
  congr 1
  fin_cases c
  · exact row0_apply T X b x hx i B hC l
  · exact row1_apply T X b x hx i B hC l
  · exact row2_apply T X b x hx i B hC l
  · exact row3_apply T X b x hx i B hC l
  · exact row4_apply T X b x hx i B hC l
  · exact lcls_apply T X b x hx h01 i B hC l
  · show (if k0_pay693 (BitVec.ofNat 32 (i 1).val) R (ix2 0 l) = 1 then Ideal.ofBits .f32 0x3F800000#32 else Ideal.ofBits .f32 0x00000000#32) = _
    rw [pay693_apply T b i R hR, lit_one, lit_zero, EReal.coe_one, EReal.coe_zero]
    by_cases h : ValidLane T b l ∧ anc i = 0
    · rw [if_pos ((ofBool_decide_eq_one _).mpr h)]
      exact (gain_six T X b _ l h).symm
    · rw [if_neg fun h' => h ((ofBool_decide_eq_one _).mp h')]
      exact (gain_six_not T X b _ l h).symm
  · show Ideal.ofBits .f32 0x00000000#32 = _
    rw [lit_zero, EReal.coe_zero]
    simp [gain]

end Call

end Cert.KernelIdeal.Hand

end
-- ==== Proof.Run.lean ====
/-
The kernel's run: what the output block holds after each grid point, the body's obligation, and the launch.
-/
module

public import proofs.«01_k».proof.Proof.Prepass
public import proofs.«01_k».proof.Proof.Gen.KernelIdeal.Frame
public import Idealize.ShloMosaic.Lib.Claim
public import Idealize.ShloMosaic.Lib.Pipeline.Value
public import Idealize.ShloMosaic.Lib.WholeRead

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Channel `k` of an input block. -/
def chan (X : Vec F S1x85x32x128 .f32) (k : Fin 85) : Vec F S1x1x32x128 .f32 := fun j =>
  X ((Rect.unit (s := S1x85x32x128) ![0, k.val, 0, 0] S1x1x32x128.size (inbB k)).toLoadRect.idx j)

/-- Row one of the targets' block. -/
def row1 (X : Vec F S1x5x128 .f32) : Vec F S1x1x128 .f32 := fun j =>
  X ((Rect.unit (s := S1x5x128) ![0, 1, 0] S1x1x128.size inb_S1x5x128_S1x1x128_0_1_0).toLoadRect.idx j)

theorem blocksOf_unread (arg4 : Memref sig .tc .vmem S1x85x32x128 .f32) (harg4 : arg4.IsWhole) (X : Vec F S1x85x32x128 .f32) :
    blocksOf arg4 (harg4.unread X) = chan X := by
  funext k j; exact harg4.readAt_unread X (Rect.unit (s := S1x85x32x128) ![0, k.val, 0, 0] S1x1x32x128.size (inbB k)).toLoadRect j

theorem rowOf_unread (arg3 : Memref sig .tc .vmem S1x5x128 .f32) (harg3 : arg3.IsWhole) (X : Vec F S1x5x128 .f32) :
    rowOf arg3 (harg3.unread X) = row1 X := by
  funext j; exact harg3.readAt_unread X (Rect.unit (s := S1x5x128) ![0, 1, 0] S1x1x128.size inb_S1x5x128_S1x1x128_0_1_0).toLoadRect j

theorem off3 : (![0, 0, 0] : Fin 3 → ℕ) = fun _ => 0 := by funext a; fin_cases a <;> rfl

theorem rect5_idx (j : S1x8x128.Idx) : rect5.toLoadRect.idx j = j := by
  funext a; apply Fin.ext; fin_cases a <;> simp [LoadRect.idx, Rect.toLoadRect, rect5, Rect.unit] <;> first | omega | exact (Nat.lt_one_iff.mp (j 0).isLt).symm

theorem readAll (arg5 : Memref sig .tc .vmem S1x8x128 .f32) (harg5 : arg5.IsWhole) (X : Vec F S1x8x128 .f32) :
    arg5.view.readAt (Elt F) rect5.toLoadRect (harg5.unread X) = X := by
  funext j; exact (harg5.readAt_unread X _ j).trans (congrArg X (rect5_idx j))

theorem v3375_eq (c : Dev nD) (arg5 : Memref sig .tc .vmem S1x8x128 .f32) :
    runA.sl.v3375 (F := F) c arg5 = k0_pay1 :=
  View.readCov_unit_zero (Val := Elt F) arg5.view off3 _ _

/-- The whole block stored last is what the buffer reads as. -/
theorem read_head (arg5 : Memref sig .tc .vmem S1x8x128 .f32) (f : BufTy.Contents (Elt F) arg5.view.ty) (v : Vec F S1x8x128 .f32)
    (L : List (View.Piece (Elt F) S1x8x128 .f32)) :
    arg5.view.read (Elt F) (arg5.view.writes (Elt F) f (⟨rect5, v⟩ :: L)) = v := by
  rw [View.read_writes_eq_canon _ _ _ (fun y => ⟨⟨rect5, v⟩, List.mem_cons_self, View.mem_set_unit_zero off3 inb_S1x8x128_S1x8x128_0_0_0 y⟩)]
  exact View.canon_cons_unit_zero off3 _ v L

theorem owns_head (c : Dev nD) (arg5 : Memref sig .tc .vmem S1x8x128 .f32) (f : BufTy.Contents (Elt F) arg5.view.ty) (v : Vec F S1x8x128 .f32)
    (L : List (View.Piece (Elt F) S1x8x128 .f32)) :
    ((arg5.view.loc (c : Thread nD τ) ↦[arg5.view.set]{fullShare} arg5.view.writes (Elt F) f (⟨rect5, v⟩ :: L)) : sProp 𝕄)
      ⊢ owns (c : Thread nD τ) arg5 fullShare v := by
  iintro H
  unfold owns; iexists _; isplitr
  · ipureintro; exact read_head arg5 f v L
  iexact H

variable (m : (ℓ : Loc nD τ sig) → Buf (Elt F) ℓ) (ρ : Dev nD → PrngReg)

/-- What a point makes of the output block it finds. -/
def stepV (c : Dev nD) (t : Fin cfg0.N) (x : Vec F S1x8x128 .f32) : Vec F S1x8x128 .f32 :=
  outVec (words (iblk m c 0 t) (img (grid0.coords t))) (grid0.coords t) (chan (iblk m c 2 t)) (row1 (iblk m c 1 t)) x

/-- The output block after the first `n` points: each image starts from zeros. -/
def accV (c : Dev nD) : ℕ → Vec F S1x8x128 .f32
  | 0 => k0_pay1
  | n + 1 => if h : n < cfg0.N then stepV m c ⟨n, h⟩ (if n % 5 = 0 then k0_pay1 else accV c n) else k0_pay1

theorem accV_succ (c : Dev nD) (t : Fin cfg0.N) :
    accV m c (t.val + 1) = stepV m c t (if t.val % 5 = 0 then k0_pay1 else accV m c t.val) := by
  rw [accV, dif_pos t.isLt]

/-- The scratch. -/
abbrev scM : Memref sig .tc .smem S14x128 .f32 := Memref.whole cc0_scratch0
theorem hscM : scM.IsWhole := Memref.isWhole_whole _

theorem PhiA_eq (c : Dev nD) :
    (Pipeline.ΦA spec0 c : sProp 𝕄)
      = iprop(iprop((∃ d, owns (c : Thread nD τ) scM fullShare d)) ∗ (∃ r, prngReg c r)) := by
  unfold Pipeline.ΦA; rw [scopedRest0_eq]; simp only [scM, owns_whole]; try rfl

/-- Within an image the scratch holds the image's words. -/
def Held (c : Dev nD) (n : ℕ) (s : Vec F S14x128 .f32) : Prop :=
  ∀ (h : n < cfg0.N), n % 5 ≠ 0 → wordsOf scM (hscM.unread s) = words (iblk m c 0 ⟨n, h⟩) (img (grid0.coords ⟨n, h⟩))

/-- The proof data. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => accV m c (t.val + 1)
  Φ n := iprop((∃ s, ⌜Held m c n.val s⌝ ∗ owns (c : Thread nD τ) scM fullShare s) ∗ (∃ r, prngReg c r))
  q _ := fullShare
  owed _ := 0

theorem A_eq (c : Dev nD) (w : Fin cfg0.W) : (dats m 0 c).A w = V m c (Pipeline.arrRef spec0 w) := by
  dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = accV m c (t.val + 1) := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (h : t.val % 5 ≠ 0) (d) : (dats m 0 c).before 3 t d = accV m c t.val := by
  have ht : t.val ≠ 0 := fun h0 => h (by rw [h0])
  have hfl : (cfg0.win 3).flush ⟨t.val - 1, Nat.lt_of_le_of_lt (Nat.sub_le _ _) t.isLt⟩ = false := by
    rw [Bool.eq_false_iff]; intro hf
    have := (flush0_3 ⟨t.val - 1, Nat.lt_of_le_of_lt (Nat.sub_le _ _) t.isLt⟩).mp hf
    simp only at this; omega
  rw [(dats m 0 c).before_out_kept 3 rfl t ht hfl (fun _ => rfl) (fun _ _ => rfl) d, after0_3]
  congr 1; show t.val - 1 + 1 = t.val; omega

theorem hcond0 : ∀ t : Fin cfg0.N, cond0_0 (grid0.coords t) ↔ t.val % 5 = 0 :=
  (fun t => by
    have ht : t.val < 80 := Nat.lt_of_lt_of_eq t.isLt N_0
    have e0 : (grid0.coords t 0).val = t.val / 5 % 16 := Pipeline.Grid.coords_val t 0 (by decide) rfl
    have e1 : (grid0.coords t 1).val = t.val / 1 % 5 := Pipeline.Grid.coords_val t 1 (by decide) rfl
    simp only [cond0_0, k0_cond1, e0, e1]
    word_cmp
   : ∀ t : Fin grid0.N, cond0_0 (grid0.coords t) ↔ t.val % 5 = 0)

theorem hcond1 : ∀ t : Fin cfg0.N, cond0_1 (grid0.coords t) ↔ t.val % 5 = 0 :=
  (fun t => by
    have ht : t.val < 80 := Nat.lt_of_lt_of_eq t.isLt N_0
    have e0 : (grid0.coords t 0).val = t.val / 5 % 16 := Pipeline.Grid.coords_val t 0 (by decide) rfl
    have e1 : (grid0.coords t 1).val = t.val / 1 % 5 := Pipeline.Grid.coords_val t 1 (by decide) rfl
    simp only [cond0_1, e0, e1]
    word_cmp
   : ∀ t : Fin grid0.N, cond0_1 (grid0.coords t) ↔ t.val % 5 = 0)

/-- The image a point works on. -/
theorem img_val (t : Fin cfg0.N) : (img (grid0.coords t)).val = t.val / 5 % 16 :=
  (Pipeline.Grid.coords_val t 0 (by decide) rfl : (grid0.coords t 0).val = t.val / 5 % 16)

/-- The targets' table is staged whole. -/
theorem iblk0_eq (c : Dev nD) (t u : Fin cfg0.N) : iblk m c 0 t = iblk m c 0 u := rfl

theorem held_next (c : Dev nD) (t : Fin cfg0.N) (s : Vec F S14x128 .f32)
    (h : wordsOf scM (hscM.unread s) = words (iblk m c 0 t) (img (grid0.coords t))) : Held m c (t.val + 1) s := by
  intro hn h5
  rw [h, iblk0_eq m c t ⟨t.val + 1, hn⟩]
  congr 1
  apply Fin.ext
  rw [img_val, img_val]
  show t.val / 5 % 16 = (t.val + 1) / 5 % 16
  congr 1; omega

abbrev ms0_0 (t : Fin cfg0.N) : Memref sig .tc .smem S16x640 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x5x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x85x32x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x8x128 .f32 := win0_3.stage (cfg0.slots t 3)
abbrev hs0_3 (t : Fin cfg0.N) : (ms0_3 t).IsWhole := hstage0_3 ((cfg0.slots t 3).cast nbuf0_3)

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d)))

def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t))

theorem Phi_eq (c : Dev nD) (n) : (dats m 0 c).Φ n
    = iprop((∃ s, ⌜Held m c n.val s⌝ ∗ owns (c : Thread nD τ) scM fullShare s) ∗ (∃ r, prngReg c r)) := rfl

set_option maxHeartbeats 1600000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).owesAt () t.succ = (dats m 0 c).owesAt () t.castSucc from rfl,
    after0_0, after0_1, after0_2, after0_3, Phi_eq, Phi_eq]
  by_cases h0 : t.val % 5 = 0
  · iintro ⟨⟨⟨%s, %hs, HS0⟩, Hg⟩, Ho, ⟨%d0, H0⟩, ⟨%d1, H1⟩, ⟨%d2, H2⟩, ⟨%d3, H3⟩⟩
    iapply ((runA c (grid0.coords t) (ms0_0 t) (hs0_0 t) (ms0_1 t) (hs0_1 t) (ms0_2 t) (hs0_2 t) (ms0_3 t) (hs0_3 t) scM hscM ((hcond0 t).mpr h0) ((hcond1 t).mpr h0) (iblk m c 0 t) (iblk m c 1 t) (iblk m c 2 t) ((dats m 0 c).before 3 t d3) s).2.2 Set.univ _)
    isplitl [H0]; · iexact H0
    isplitl [H1]; · iexact H1
    isplitl [H2]; · iexact H2
    isplitl [H3]; · iexact H3
    isplitl [HS0]; · iexact HS0
    rw [runA_eq, runA_scratch, blocksOf_unread, rowOf_unread, v3375_eq, wordsOf_loopOut]
    iintro ⟨H0, H1, H2, H3, HS0⟩
    isplitl [HS0 Hg]
    · isplitl [HS0]
      · iexists _
        isplitr
        · ipureintro
          refine held_next m c t (scM.view.read (Elt F) (loopOut c (grid0.coords t) (ms0_0 t) (hs0_0 t) (ms0_1 t) (hs0_1 t) (ms0_2 t) (hs0_2 t) (ms0_3 t) (hs0_3 t) scM hscM ((hcond0 t).mpr h0) (iblk m c 0 t) s)) ?_
          exact (congrArg (wordsOf scM) (hscM.eq_unread rfl).symm).trans (wordsOf_loopOut (c := c) (i := grid0.coords t) (hc0 := (hcond0 t).mpr h0) ..)
        · unfold owns; iexists _; isplitr; · ipureintro; rfl
          iexact HS0
      iexact Hg
    isplitl [Ho]; · iexact Ho
    isplitl [H0]; · iexact H0
    isplitl [H1]; · iexact H1
    isplitl [H2]; · iexact H2
    rw [accV_succ, if_pos h0]
    iapply (owns_head c (ms0_3 t) _ _ _)
    iexact H3
  · simp only [before0_3 m c t h0]
    iintro ⟨⟨⟨%s, %hs, HS0⟩, Hg⟩, Ho, ⟨%d0, H0⟩, ⟨%d1, H1⟩, ⟨%d2, H2⟩, ⟨%d3, H3⟩⟩
    have hw := hs t.isLt h0
    iapply ((runB c (grid0.coords t) (ms0_0 t) (hs0_0 t) (ms0_1 t) (hs0_1 t) (ms0_2 t) (hs0_2 t) (ms0_3 t) (hs0_3 t) scM hscM (fun h => h0 ((hcond0 t).mp h)) (fun h => h0 ((hcond1 t).mp h)) (iblk m c 0 t) (iblk m c 1 t) (iblk m c 2 t) (accV m c t.val) s).2 Set.univ _)
    isplitl [H0]; · iexact H0
    isplitl [H1]; · iexact H1
    isplitl [H2]; · iexact H2
    isplitl [H3]; · iexact H3
    isplitl [HS0]; · iexact HS0
    rw [runB_eq, blocksOf_unread, rowOf_unread, readAll, hw]
    iintro ⟨H0, H1, H2, H3, HS0⟩
    isplitl [HS0 Hg]
    · isplitl [HS0]
      · iexists s
        isplitr
        · ipureintro
          exact held_next m c t s hw
        · iexact HS0
      iexact Hg
    isplitl [Ho]; · iexact Ho
    isplitl [H0]; · iexact H0
    isplitl [H1]; · iexact H1
    isplitl [H2]; · iexact H2
    rw [accV_succ, if_neg h0]
    iapply (owns_head c (ms0_3 t) _ _ _)
    iexact H3

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : (Pipeline.ΦA spec0 c : sProp 𝕄) ⊢ (dats m 0 c).Φ 0 := by
  rw [PhiA_eq, Phi_eq]
  iintro ⟨⟨%s, HS⟩, Hg⟩
  isplitl [HS]
  · iexists s; isplitr
    · ipureintro; intro h h5; exact absurd rfl h5
    iexact HS
  iexact Hg

theorem hout (c : Dev nD) : (dats m 0 c).Φ (Fin.last cfg0.N) ⊢ (Pipeline.ΦA spec0 c : sProp 𝕄) := by
  rw [PhiA_eq, Phi_eq]
  iintro ⟨⟨%s, %hs, HS⟩, Hg⟩
  isplitl [HS]
  · iexists s; iexact HS
  iexact Hg

set_option backward.isDefEq.respectTransparency.types false in
set_option maxHeartbeats 800000 in
/-- The launch. -/
theorem run_main_quiescent : θ_run defs (onTc (τ := τ) (main (F := F))) (s₀ m ρ) (fun r => Pipeline.FramePost cfgs (dats m) 0 (Pipeline.afterTail₀ cfgs (dats m) 0 (V0 m) [hostOps1]) r ∧ r.2.sem = fun _ => 0) :=
  Pipeline.θ_run_frame_around_track (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

theorem run_main : θ_run defs (onTc (τ := τ) (main (F := F))) (s₀ m ρ) (Pipeline.FramePost cfgs (dats m) 0 (Pipeline.afterTail₀ cfgs (dats m) 0 (V0 m) [hostOps1])) :=
  (θ_run defs _ _).mono (fun _ h => h.1) (run_main_quiescent m ρ)

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

/-- The frame. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_and (unchanged m ρ) ((θ_run defs _ _).mono (fun _ h => h.2) (run_main_quiescent m ρ))

end Cert.KernelIdeal.Hand

end
-- ==== Proof.KernelIn.lean ====
/-
What the region finds: the three arrays that the host operations before it prepare, and their blocks, read at
coordinates of the two arguments.
-/
module

public import proofs.«01_k».proof.Proof.KernelOut
public import proofs.«01_k».proof.Proof.Run
public import Idealize.ShloMosaic.Lib.KernelVsHost
public import Idealize.ShloMosaic.Lib.Pipeline.ValueKit.Geometry

@[expose] public section

noncomputable section

namespace Cert.KernelIdeal.Hand

open Cert.KernelIdeal Cert.KernelIdeal.Gen
open Idealize.ShloMosaic Idealize.ShloMosaic.TcCoe Idealize.ShloMosaic.ValueIdx

variable (m : (ℓ : Loc nD τ sig) → Buf (Elt Ideal) ℓ) (c : Dev nD)

/-- The two arguments on device `c`. -/
abbrev argO : Vec Ideal S16x425x64x64 .f32 := m ((c : Thread nD τ).loc main_arg0)
abbrev argT : Vec Ideal S16x250 .f32 := m ((c : Thread nD τ).loc main_arg1)

/-- The arguments hold real numbers. -/
def ReadsO (o : Vec Ideal S16x425x64x64 .f32) (X : Logits) : Prop :=
  ∀ (b : Fin 16) (a : Fin 5) (k : Fin 85) (j i : Fin 64), o (ix4 b ⟨85 * a.val + k.val, by omega⟩ j i) = (X b a k j i : EReal)
def ReadsT (o : Vec Ideal S16x250 .f32) (T : Boxes) : Prop :=
  ∀ (b : Fin 16) (t : Fin 50) (e : Fin 5), o (ix2 b ⟨5 * t.val + e.val, by omega⟩) = (T b t e : EReal)

/-- The padded, transposed targets. -/
def padT (o : Vec Ideal S16x250 .f32) : Vec Ideal S16x5x128 .f32 :=
  pad S16x5x128 ![0, 0, 0] ![0, 0, 78] ![0, 0, 0] (transpose S16x5x50 [0, 2, 1] (shapeCast S16x50x5 o shapeCasts_S16x250_S16x50x5) transposes_S16x50x5_S16x5x50_0_2_1)
    (sitofp (F := Ideal) .f32 (constantI S_ 32 0#32)) pads_S16x5x50_S16x5x128_000_000_0780 h_S_

theorem V_main_v0 : V m c main_v0 = shapeCast S16x425x32x128 (argO m c) shapeCasts_S16x425x64x64_S16x425x32x128 := by
  show StableHlo.after (List.flatten [hostOps0, hostOps0_1, hostOps0_2]) _ (Proc.devRef .tc main_v0) = _
  simp only [List.flatten_cons, List.flatten_nil, List.append_nil, List.cons_append, List.nil_append, hostOps0, hostOps0_1, hostOps0_2]
  after_results
  rfl
theorem V_main_v3 : V m c main_v3 = padT (argT m c) := by
  show StableHlo.after (List.flatten [hostOps0, hostOps0_1, hostOps0_2]) _ (Proc.devRef .tc main_v3) = _
  simp only [List.flatten_cons, List.flatten_nil, List.append_nil, List.cons_append, List.nil_append, hostOps0, hostOps0_1, hostOps0_2]
  after_results
  rfl
theorem V_main_v4 : V m c main_v4 = shapeCast S16x640 (padT (argT m c)) shapeCasts_S16x5x128_S16x640 := by
  show StableHlo.after (List.flatten [hostOps0, hostOps0_1, hostOps0_2]) _ (Proc.devRef .tc main_v4) = _
  simp only [List.flatten_cons, List.flatten_nil, List.append_nil, List.cons_append, List.nil_append, hostOps0, hostOps0_1, hostOps0_2]
  after_results
  rfl

theorem padT_apply (o : Vec Ideal S16x250 .f32) (T : Boxes) (h : ReadsT o T) (b : Fin 16) (e : Fin 5) (l : Fin 128) :
    padT o (ix3 b e l) = if h : l.val < 50 then (T b ⟨l.val, h⟩ e : EReal) else 0 := by
  unfold padT
  by_cases hl : l.val < 50
  · rw [dif_pos hl, pad_apply_of_inside _ _ _ _ _ _ _ (ix3 b e l) (ix3 b e ⟨l.val, hl⟩) (fun a => by fin_cases a <;> simp [ix3]),
      transpose_apply _ _ _ _ (ix3 b ⟨l.val, hl⟩ e) (fun a => by fin_cases a <;> rfl), ← h b ⟨l.val, hl⟩ e]
    refine shapeCast_apply _ _ _ _ ?_
    rw [Shape.rowMajor_val_two, Shape.rowMajor_val_three]
    show b.val * 250 + (5 * l.val + e.val) = (b.val * 50 + l.val) * 5 + e.val
    omega
  · rw [dif_neg hl, pad_apply_of_not_inside _ _ _ _ _ _ _ (ix3 b e l) 2 (fun h' => hl (by simpa [ix3] using h'.2.2))]
    show (((0#32 : BitVec 32).toInt : ℝ) : EReal) = 0
    simp

theorem toNat16 : ∀ n : Fin 16, (BitVec.ofNat 32 n.val).toNat = n.val := by decide
theorem toNat5 : ∀ n : Fin 5, (BitVec.ofNat 32 n.val).toNat = n.val := by decide

theorem blk0_apply (T : Boxes) (h : ReadsT (argT m c) T) (t : Fin cfg0.N) (b : Fin 16) (e : Fin 5) (u : Fin 50) :
    (iblk m c 0 t : Vec Ideal S16x640 .f32) (at640 b e u) = (T b u e : EReal) := by
  have e1 : (iblk m c 0 t : Vec Ideal S16x640 .f32) (at640 b e u) = V m c main_v4 (at640 b e u) := by
    refine congrArg (V m c main_v4) ?_
    funext a
    apply Fin.ext
    fin_cases a
    · blk_simp; show 0 * 16 + _ = _; omega
    · blk_simp; show 0 * 640 + _ = _; omega
  rw [e1, V_main_v4, shapeCast_apply _ _ _ (ix3 b e ⟨u.val, by omega⟩), padT_apply _ T h, dif_pos u.isLt]
  rw [Shape.rowMajor_val_two, Shape.rowMajor_val_three]
  show (b.val * 5 + e.val) * 128 + u.val = b.val * 640 + (128 * e.val + u.val)
  omega

theorem blk1_apply (T : Boxes) (h : ReadsT (argT m c) T) (t : Fin cfg0.N) (l : Fin 128) :
    row1 (iblk m c 1 t : Vec Ideal S1x5x128 .f32) (ix3 0 0 l)
      = if h : l.val < 50 then (T (img (grid0.coords t)) ⟨l.val, h⟩ 1 : EReal) else 0 := by
  rw [← padT_apply _ T h (img (grid0.coords t)) 1 l, ← V_main_v3]
  refine congrArg (V m c main_v3) ?_
  funext a
  apply Fin.ext
  fin_cases a
  · blk_simp
    exact toNat16 (grid0.coords t 0)
  · blk_simp
    rfl
  · blk_simp
    show 0 * 128 + (0 + 1 * l.val) = l.val
    omega

theorem blk2_apply (X : Logits) (h : ReadsO (argO m c) X) (t : Fin cfg0.N) (k : Fin 85) (y : S32x128.Idx) :
    shapeCast S32x128 (chan (iblk m c 2 t : Vec Ideal S1x85x32x128 .f32) k) shapeCasts_S1x1x32x128_S32x128 y
      = (X (img (grid0.coords t)) (anc (grid0.coords t)) k (jOf y) (iOf y) : EReal) := by
  have h0 : (y 0).val < 32 := (y 0).isLt
  have h1 : (y 1).val < 128 := (y 1).isLt
  refine (shapeCast_apply (t := S32x128) (chan (iblk m c 2 t : Vec Ideal S1x85x32x128 .f32) k) shapeCasts_S1x1x32x128_S32x128 y (ix4 0 0 (y 0) (y 1)) ?_).trans ?_
  · rw [Shape.rowMajor_val_two, Shape.rowMajor_val_four]
    show (((0 : ℕ) * 1 + 0) * 32 + (y 0).val) * 128 + (y 1).val = (y 0).val * 128 + (y 1).val
    omega
  have e1 : chan (iblk m c 2 t : Vec Ideal S1x85x32x128 .f32) k (ix4 0 0 (y 0) (y 1))
      = V m c main_v0 (ix4 (img (grid0.coords t)) ⟨85 * (anc (grid0.coords t)).val + k.val, by omega⟩ (y 0) (y 1)) := by
    refine congrArg (V m c main_v0) ?_
    funext a
    apply Fin.ext
    fin_cases a
    · blk_simp
      exact toNat16 (grid0.coords t 0)
    · blk_simp
      show (BitVec.ofNat 32 (grid0.coords t 1).val).toNat * 85 + (k.val + 0) = 85 * (grid0.coords t 1).val + k.val
      have := toNat5 (grid0.coords t 1)
      omega
    · blk_simp
      show 0 * 32 + (0 + 1 * (y 0).val) = (y 0).val
      omega
    · blk_simp
      show 0 * 128 + (0 + 1 * (y 1).val) = (y 1).val
      omega
  rw [e1, V_main_v0, ← h]
  refine shapeCast_apply _ _ _ _ ?_
  rw [Shape.rowMajor_val_four, Shape.rowMajor_val_four]
  show (((grid0.coords t 0).val * 425 + (85 * (grid0.coords t 1).val + k.val)) * 64 + (2 * (y 0).val + (y 1).val / 64)) * 64 + (y 1).val % 64
    = (((grid0.coords t 0).val * 425 + (85 * (grid0.coords t 1).val + k.val)) * 32 + (y 0).val) * 128 + (y 1).val
  omega

end Cert.KernelIdeal.Hand

end
-- ==== Proof.Sums.lean ====
/-
Sums over multi-indices of rank three, four and five, coordinate by coordinate.
-/
module

public import Idealize.ShloMosaic.Lib.ValueIdxCore
public import Mathlib.Algebra.BigOperators.Fin

@[expose] public section

namespace Cert.KernelIdeal.Hand

open Idealize.ShloMosaic Idealize.ShloMosaic.ValueIdx

variable {M : Type*} [AddCommMonoid M]

theorem sum3 {n0 n1 n2 : Nat} (f : (⟨3, ![n0, n1, n2]⟩ : Shape).Idx → M) :
    ∑ i, f i = ∑ a : Fin n0, ∑ b : Fin n1, ∑ c : Fin n2, f (ix3 a b c) := by
  simp only [← Fintype.sum_prod_type']
  exact (Fintype.sum_bijective (M := M) (fun p : Fin n0 × Fin n1 × Fin n2 => ix3 p.1 p.2.1 p.2.2)
    ⟨fun p q h => Prod.ext (congrFun h 0) (Prod.ext (congrFun h 1) (congrFun h 2)), fun i => ⟨(i 0, i 1, i 2), (eq_ix3 i).symm⟩⟩ _ f fun _ => rfl).symm

theorem sum4 {n0 n1 n2 n3 : Nat} (f : (⟨4, ![n0, n1, n2, n3]⟩ : Shape).Idx → M) :
    ∑ i, f i = ∑ a : Fin n0, ∑ b : Fin n1, ∑ c : Fin n2, ∑ d : Fin n3, f (ix4 a b c d) := by
  simp only [← Fintype.sum_prod_type']
  exact (Fintype.sum_bijective (M := M) (fun p : Fin n0 × Fin n1 × Fin n2 × Fin n3 => ix4 p.1 p.2.1 p.2.2.1 p.2.2.2)
    ⟨fun p q h => Prod.ext (congrFun h 0) (Prod.ext (congrFun h 1) (Prod.ext (congrFun h 2) (congrFun h 3))), fun i => ⟨(i 0, i 1, i 2, i 3), (eq_ix4 i).symm⟩⟩ _ f fun _ => rfl).symm

theorem sum5 {n0 n1 n2 n3 n4 : Nat} (f : (⟨5, ![n0, n1, n2, n3, n4]⟩ : Shape).Idx → M) :
    ∑ i, f i = ∑ a : Fin n0, ∑ b : Fin n1, ∑ c : Fin n2, ∑ d : Fin n3, ∑ e : Fin n4, f (ix5 a b c d e) := by
  simp only [← Fintype.sum_prod_type']
  exact (Fintype.sum_bijective (M := M) (fun p : Fin n0 × Fin n1 × Fin n2 × Fin n3 × Fin n4 => ix5 p.1 p.2.1 p.2.2.1 p.2.2.2.1 p.2.2.2.2)
    ⟨fun p q h => Prod.ext (congrFun h 0) (Prod.ext (congrFun h 1) (Prod.ext (congrFun h 2) (Prod.ext (congrFun h 3) (congrFun h 4)))), fun i => ⟨(i 0, i 1, i 2, i 3, i 4), (eq_ix5 i).symm⟩⟩ _ f fun _ => rfl).symm

end Cert.KernelIdeal.Hand
-- ==== Proof.KernelSum.lean ====
/-
The whole run: the output array's rows are the images' sums, and the host operations after the region divide the six
losses' total by the number of ground truths.
-/
module

public import proofs.«01_k».proof.Proof.KernelIn
public import proofs.«01_k».proof.Proof.Sums

@[expose] public section

noncomputable section

namespace Cert.KernelIdeal.Hand

open Cert.KernelIdeal Cert.KernelIdeal.Gen
open Idealize.ShloMosaic Idealize.ShloMosaic.TcCoe Idealize.ShloMosaic.ValueIdx

/-- The sum of the `k`-th loss term over all cells, -/
def lossS (T : Boxes) (X : Logits) (k : Fin 6) : EReal := ∑ b : Fin 16, ∑ a : Fin 5, ∑ j : Fin 64, ∑ i : Fin 64, term T X b a j i k

open Classical in
/-- and the number of valid targets. -/
def countV (T : Boxes) : EReal := ∑ b : Fin 16, ∑ t : Fin 50, if Valid T b t then 1 else 0

variable (m : (ℓ : Loc nD τ sig) → Buf (Elt Ideal) ℓ) (c : Dev nD)

/-- A row of the output array summed over images and lanes. -/
def rowS (A : Vec Ideal S16x8x128 .f32) (k : Fin 8) : EReal := ∑ b : Fin 16, ∑ l : Fin 128, A (ix3 b k l)

section Run

variable (T : Boxes) (X : Logits)

/-- What one grid point adds. -/
theorem stepV_apply (hT : ReadsT (argT m c) T) (hX : ReadsO (argO m c) X) (h01 : ∀ b t e, 0 ≤ T b t e ∧ T b t e < 1)
    (t : Fin cfg0.N) (x : Vec Ideal S1x8x128 .f32) (k : Fin 8) (l : Fin 128) :
    stepV m c t x (ix3 0 k l) = x (ix3 0 k l) + gain T X (img (grid0.coords t)) (anc (grid0.coords t)) k l :=
  outVec_apply T X (img (grid0.coords t)) _ (fun e u => blk0_apply m c T hT t _ e u) (h01 _) (grid0.coords t) _
    (fun k y => blk2_apply m c X hX t k y) _ (fun l => blk1_apply m c T hT t l) x k l

theorem img_eq (t : Fin cfg0.N) (b : Fin 16) (h : t.val / 5 = b.val) : img (grid0.coords t) = b := by
  apply Fin.ext
  rw [img_val, h]
  omega

theorem anc_eq (t : Fin cfg0.N) (a : Fin 5) (h : t.val % 5 = a.val) : anc (grid0.coords t) = a := by
  apply Fin.ext
  have : (grid0.coords t 1).val = t.val / 1 % 5 := Pipeline.Grid.coords_val t 1 (by decide) rfl
  show (grid0.coords t 1).val = a.val
  omega

/-- The block after the first `k + 1` anchors of image `b`. -/
theorem accV_apply (hT : ReadsT (argT m c) T) (hX : ReadsO (argO m c) X) (h01 : ∀ b t e, 0 ≤ T b t e ∧ T b t e < 1)
    (b : Fin 16) (k : Fin 8) (l : Fin 128) : ∀ n : ℕ, (hn : n < 5) →
    accV m c (5 * b.val + n + 1) (ix3 0 k l) = ∑ a : Fin (n + 1), gain T X b ⟨a.val, by omega⟩ k l := by
  intro n
  induction n with
  | zero =>
    intro hn
    have hb := b.isLt
    refine (congrFun (accV_succ m c (⟨5 * b.val + 0, Nat.lt_of_lt_of_eq (by omega) N_0.symm⟩ : Fin cfg0.N)) _).trans ?_
    rw [stepV_apply m c T X hT hX h01, if_pos (by show (5 * b.val + 0) % 5 = 0; omega),
      img_eq _ b (by show (5 * b.val + 0) / 5 = _; omega), anc_eq _ 0 (by show (5 * b.val + 0) % 5 = 0; omega)]
    have z : (k0_pay1 (F := Ideal)) (ix3 0 k l) = 0 := lit_zero.trans EReal.coe_zero
    rw [z, zero_add, Fin.sum_univ_one]
    rfl
  | succ n ih =>
    intro hn
    have hb := b.isLt
    refine (congrFun (accV_succ m c (⟨5 * b.val + (n + 1), Nat.lt_of_lt_of_eq (by omega) N_0.symm⟩ : Fin cfg0.N)) _).trans ?_
    rw [stepV_apply m c T X hT hX h01, if_neg (by show ¬(5 * b.val + (n + 1)) % 5 = 0; omega),
      img_eq _ b (by show (5 * b.val + (n + 1)) / 5 = _; omega), anc_eq _ ⟨n + 1, hn⟩ (by show (5 * b.val + (n + 1)) % 5 = n + 1; omega),
      Fin.sum_univ_castSucc]
    congr 1
    exact ih (by omega)

/-- What the output array ends holding. -/
def sums (T : Boxes) (X : Logits) : Vec Ideal S16x8x128 .f32 := fun z => ∑ a : Fin 5, gain T X (z 0) a (z 1) (z 2)

theorem arr_eq (hT : ReadsT (argT m c) T) (hX : ReadsO (argO m c) X) (h01 : ∀ b t e, 0 ≤ T b t e ∧ T b t e < 1) :
    (dats m 0 c).arrAt 3 cfg0.N = sums T X := by
  refine (dats m 0 c).arrAt_eq_of_covers 3 _ (by decide +kernel) fun t hf y => ?_
  blk_simp
  rw [after0_3]
  have h4 := (flush0_3 t).mp hf
  have hlt : t.val < 80 := Nat.lt_of_lt_of_eq t.isLt N_0
  have key := accV_apply m c T X hT hX h01 ⟨t.val / 5, by omega⟩ (y 1) (y 2) 4 (by omega)
  have e : 5 * (t.val / 5) + 4 + 1 = t.val + 1 := by omega
  simp only [e] at key
  have ey : y = ix3 0 (y 1) (y 2) := by
    refine (eq_ix3 (n0 := 1) (n1 := 8) (n2 := 128) y).trans ?_
    congr 1
    exact Subsingleton.elim (α := Fin 1) _ _
  refine (congrArg (accV m c (t.val + 1)) ey).trans (key.trans ?_)
  unfold sums
  refine Finset.sum_congr rfl fun a _ => ?_
  congr 1
  · apply Fin.ext
    blk_simp
    show t.val / 5 = (BitVec.ofNat 32 (grid0.coords t 0).val).toNat
    rw [toNat16 (grid0.coords t 0)]
    have : (grid0.coords t 0).val = t.val / 5 % 16 := Pipeline.Grid.coords_val t 0 (by decide) rfl
    omega
  · apply Fin.ext
    blk_simp
    exact (Nat.zero_add _).symm
  · apply Fin.ext
    blk_simp
    exact (Nat.zero_add _).symm

end Run

theorem rowS_eq (A : Vec Ideal S16x8x128 .f32) (k : Fin 8) :
    (Host.reduceAdd (F := Ideal) (A : FVec Ideal S16x8x128 .f32) (constant S_ FTy.f32 0#32) reducesTo_S16x8x128_S8_d0_2 h_S_) (ix1 k) = rowS A k := by
  show Ideal.hostReduceAdd _ A (constant (F := Ideal) S_ FTy.f32 0#32 _) (ix1 k) = _
  unfold Ideal.hostReduceAdd
  rw [show constant (F := Ideal) S_ FTy.f32 0#32 (Shape.Idx.first h_S_) = 0 from lit_zero.trans EReal.coe_zero, zero_add, Finset.sum_filter, sum3]
  unfold rowS
  refine Finset.sum_congr rfl fun b _ => ?_
  have e : ∀ (k' : Fin 8) (l : Fin 128), reducesTo_S16x8x128_S8_d0_2.drop (ix3 b k' l) = ix1 k' := fun k' l => by
    funext a
    fin_cases a
    exact Fin.ext (reducesTo_S16x8x128_S8_d0_2.drop_apply_val_of_eq (ix3 b k' l) 0 1)
  simp only [e]
  rw [Finset.sum_eq_single k]
  · simp
  · intro k' _ hk
    refine Finset.sum_eq_zero fun l _ => if_neg fun h => hk ?_
    exact congrFun h 0
  · simp

theorem pick_one (v : FVec Ideal S8 .f32) (k : Fin 8) (h : S8.Slices ![k.val] S1) (i : S_.Idx) :
    shapeCast S_ (extractStridedSlice S1 ![k.val] v h) shapeCasts_S1_S_ i = v (ix1 k) := by
  refine (shapeCast_apply (t := S_) _ _ i (ix1 0) ?_).trans ?_
  · have e1 : (S1.rowMajor (ix1 0)).val < 1 := Nat.lt_of_lt_of_eq (S1.rowMajor (ix1 0)).isLt (by decide)
    have e2 : (S_.rowMajor i).val < 1 := Nat.lt_of_lt_of_eq (S_.rowMajor i).isLt (by decide)
    exact (Nat.lt_one_iff.mp e1).trans (Nat.lt_one_iff.mp e2).symm
  · refine congrArg v ?_
    funext a
    fin_cases a
    rfl

theorem pick_row (A : FVec Ideal S16x8x128 .f32) (k : Fin 8) (h : S8.Slices ![k.val] S1) (i : S_.Idx) :
    shapeCast S_ (extractStridedSlice S1 ![k.val] (Host.reduceAdd A (constant S_ FTy.f32 0#32) reducesTo_S16x8x128_S8_d0_2 h_S_) h) shapeCasts_S1_S_ i
      = rowS A k :=
  (pick_one _ k h i).trans (rowS_eq A k)

theorem tail_eq (A : Vec Ideal S16x8x128 .f32) (hA : (dats m 0 c).arrAt 3 cfg0.N = A) :
    Pipeline.afterTail₀ cfgs (dats m) 0 (V0 m) [hostOps1] c main_v26 = fun _ =>
      Ideal.div (rowS A 0 + rowS A 1 + rowS A 2 + rowS A 3 + rowS A 4 + rowS A 5) (rowS A 6) := by
  unfold Pipeline.afterTail₀
  simp only [List.flatten_cons, List.flatten_nil, List.append_nil, List.cons_append, List.nil_append, hostOps1]
  after_results
  rw [show Pipeline.withArrays (cfgs 0).spec c (V0 m c) (fun w => (dats m 0 c).arrAt w (cfgs 0).N) (Proc.tc.devRef main_v5) = A from
    (Pipeline.withArrays_arr spec0 launch0.win.arr_inj c (V0 m c) (fun w => (dats m 0 c).arrAt w cfg0.N) 3).trans hA]
  funext i
  exact congrArg₂ Ideal.div (congrArg₂ (· + ·) (congrArg₂ (· + ·) (congrArg₂ (· + ·) (congrArg₂ (· + ·) (congrArg₂ (· + ·)
    (pick_row A 0 slices_S8_S1_0 i) (pick_row A 1 slices_S8_S1_1 i)) (pick_row A 2 slices_S8_S1_2 i)) (pick_row A 3 slices_S8_S1_3 i))
    (pick_row A 4 slices_S8_S1_4 i)) (pick_row A 5 slices_S8_S1_5 i)) (pick_row A 6 slices_S8_S1_6 i)

/-! ## The rows' sums are the losses and the count -/

theorem sum_lanes (f : Fin 64 → Fin 64 → EReal) :
    ∑ l : Fin 128, ∑ r : Fin 32, f (jOf (ix2 r l)) (iOf (ix2 r l)) = ∑ j : Fin 64, ∑ i : Fin 64, f j i := by
  rw [← Fintype.sum_prod_type', ← Fintype.sum_prod_type']
  refine Finset.sum_bij' (fun p _ => (jOf (ix2 p.2 p.1), iOf (ix2 p.2 p.1)))
    (fun q _ => (⟨q.1.val % 2 * 64 + q.2.val, by omega⟩, ⟨q.1.val / 2, by omega⟩)) (by simp) (by simp) ?_ ?_ (fun _ _ => rfl)
  · rintro ⟨l, r⟩ -
    refine Prod.ext (Fin.ext ?_) (Fin.ext ?_)
    · show (2 * r.val + l.val / 64) % 2 * 64 + l.val % 64 = l.val
      omega
    · show (2 * r.val + l.val / 64) / 2 = r.val
      omega
  · rintro ⟨j, i⟩ -
    refine Prod.ext (Fin.ext ?_) (Fin.ext ?_)
    · show 2 * (j.val / 2) + (j.val % 2 * 64 + i.val) / 64 = j.val
      omega
    · show (j.val % 2 * 64 + i.val) % 64 = i.val
      omega

theorem rowS_sums (T : Boxes) (X : Logits) (k : Fin 6) : rowS (sums T X) ⟨k.val, by omega⟩ = lossS T X k := by
  unfold rowS lossS
  refine Finset.sum_congr rfl fun b _ => ?_
  show ∑ l : Fin 128, ∑ a : Fin 5, gain T X b a ⟨k.val, _⟩ l = _
  rw [Finset.sum_comm]
  refine Finset.sum_congr rfl fun a _ => ?_
  rw [← sum_lanes]
  refine Finset.sum_congr rfl fun l _ => ?_
  rw [gain, dif_pos (show (⟨k.val, _⟩ : Fin 8).val < 6 from k.isLt)]

theorem rowS_count (T : Boxes) (X : Logits) : rowS (sums T X) 6 = countV T := by
  classical
  unfold rowS countV
  refine Finset.sum_congr rfl fun b _ => ?_
  show ∑ l : Fin 128, ∑ a : Fin 5, gain T X b a 6 l = _
  have e : ∀ l : Fin 128, ∑ a : Fin 5, gain T X b a 6 l = if ValidLane T b l then 1 else 0 := by
    intro l
    rw [Finset.sum_eq_single 0]
    · by_cases h : ValidLane T b l
      · rw [gain, dif_neg (by decide), if_pos ⟨rfl, h, rfl⟩, if_pos h]
      · rw [gain, dif_neg (by decide), if_neg fun h' => h h'.2.1, if_neg h]
    · intro a _ ha
      rw [gain, dif_neg (by decide), if_neg fun h' => ha h'.2.2]
    · simp
  simp only [e]
  refine (Fin.sum_univ_add (a := 50) (b := 78) fun l : Fin 128 => if ValidLane T b l then (1 : EReal) else 0).trans ?_
  have z : ∑ l : Fin 78, (if ValidLane T b (Fin.natAdd 50 l) then (1 : EReal) else 0) = 0 :=
    Finset.sum_eq_zero fun l _ => if_neg fun ⟨h, _⟩ => by simp at h
  refine (congrArg₂ (· + ·) rfl z).trans ((add_zero _).trans (Finset.sum_congr rfl fun t _ => ?_))
  have hi : ValidLane T b (Fin.castAdd 78 t) ↔ Valid T b t := ⟨fun h => h.2, fun h => ⟨t.isLt, h⟩⟩
  simp only [hi]

/-- The result. -/
theorem result (T : Boxes) (X : Logits) (hT : ReadsT (argT m c) T) (hX : ReadsO (argO m c) X) (h01 : ∀ b t e, 0 ≤ T b t e ∧ T b t e < 1) :
    Pipeline.afterTail₀ cfgs (dats m) 0 (V0 m) [hostOps1] c main_v26 = fun _ =>
      Ideal.div (lossS T X 0 + lossS T X 1 + lossS T X 2 + lossS T X 3 + lossS T X 4 + lossS T X 5) (countV T) := by
  rw [tail_eq m c (sums T X) (arr_eq m c T X hT hX h01), rowS_count, ← rowS_sums T X 0, ← rowS_sums T X 1, ← rowS_sums T X 2,
    ← rowS_sums T X 3, ← rowS_sums T X 4, ← rowS_sums T X 5]
  rfl

end Cert.KernelIdeal.Hand

end
-- ==== Proof.RefIn.lean ====
/-
The reference's inputs: the anchors' tables, the logits' channels and the targets' columns, over the reals.
-/
module

public import proofs.«01_k».proof.Proof.KernelIn
public import proofs.«01_k».proof.Proof.Gen.ReferenceIdeal.Read

@[expose] public section

noncomputable section

namespace Cert.ReferenceIdeal.Hand

open Cert.ReferenceIdeal Cert.ReferenceIdeal.Gen Cert.ReferenceIdeal.Read
open Cert.KernelIdeal.Hand
open Idealize.ShloMosaic Idealize.ShloMosaic.TcCoe Idealize.ShloMosaic.ValueIdx

/-! ## The tables -/

theorem v5_apply (n : Fin 5) : val_main_v5 (F := Ideal) (ix1 n) = (awR n : EReal) := by
  have e : val_main_v5 (F := Ideal) = concatenate S5 0 (List.ofFn fun k : Fin 5 =>
      (⟨S1, ![val_main_v0 (F := Ideal), val_main_v1, val_main_v2, val_main_v3, val_main_v4] k⟩ : (s : Shape) × (s.Idx → Ideal .f32))) concatenates_S1_S1_S1_S1_S1_S5_d0 := rfl
  refine (congrFun e _).trans ((concatenate_ofFn_unit_apply (t := S5) (s₁ := S1) 0 _ _ rfl rfl (ix1 n) n rfl (ix1 0)
    (fun b hb => by fin_cases b; exact absurd rfl hb)).trans ?_)
  rw [← lit_aw]
  fin_cases n <;> rfl

theorem v11_apply (n : Fin 5) : val_main_v11 (F := Ideal) (ix1 n) = (ahR n : EReal) := by
  have e : val_main_v11 (F := Ideal) = concatenate S5 0 (List.ofFn fun k : Fin 5 =>
      (⟨S1, ![val_main_v6 (F := Ideal), val_main_v7, val_main_v8, val_main_v9, val_main_v10] k⟩ : (s : Shape) × (s.Idx → Ideal .f32))) concatenates_S1_S1_S1_S1_S1_S5_d0 := rfl
  refine (congrFun e _).trans ((concatenate_ofFn_unit_apply (t := S5) (s₁ := S1) 0 _ _ rfl rfl (ix1 n) n rfl (ix1 0)
    (fun b hb => by fin_cases b; exact absurd rfl hb)).trans ?_)
  rw [← lit_ah]
  fin_cases n <;> rfl

theorem v17_apply (n : Fin 5) : val_main_v17 (F := Ideal) (ix1 n) = (areaR n : EReal) := by
  have e : val_main_v17 (F := Ideal) = concatenate S5 0 (List.ofFn fun k : Fin 5 =>
      (⟨S1, ![val_main_v12 (F := Ideal), val_main_v13, val_main_v14, val_main_v15, val_main_v16] k⟩ : (s : Shape) × (s.Idx → Ideal .f32))) concatenates_S1_S1_S1_S1_S1_S5_d0 := rfl
  refine (congrFun e _).trans ((concatenate_ofFn_unit_apply (t := S5) (s₁ := S1) 0 _ _ rfl rfl (ix1 n) n rfl (ix1 0)
    (fun b hb => by fin_cases b; exact absurd rfl hb)).trans ?_)
  rw [← lit_area]
  fin_cases n <;> rfl

theorem v5_at (z : S5.Idx) : val_main_v5 (F := Ideal) z = (awR (z 0) : EReal) := (congrArg _ (eq_ix1 z)).trans (v5_apply (z 0))
theorem v11_at (z : S5.Idx) : val_main_v11 (F := Ideal) z = (ahR (z 0) : EReal) := (congrArg _ (eq_ix1 z)).trans (v11_apply (z 0))
theorem v17_at (z : S5.Idx) : val_main_v17 (F := Ideal) z = (areaR (z 0) : EReal) := (congrArg _ (eq_ix1 z)).trans (v17_apply (z 0))

/-! ## The channels and the columns -/

section Args

variable {x0 : (⟨S16x425x64x64, .f32⟩ : BufTy).Contents (Elt Ideal)} {x1 : (⟨S16x250, .f32⟩ : BufTy).Contents (Elt Ideal)} {T : Boxes} {X : Logits}

theorem v18_at (hX : ReadsO x0 X) (z : S16x5x85x64x64.Idx) :
    val_main_v18 (F := Ideal) x0 z = (X (z 0) (z 1) (z 2) (z 3) (z 4) : EReal) := by
  refine Eq.trans ?_ (hX (z 0) (z 1) (z 2) (z 3) (z 4))
  refine shapeCast_apply (t := S16x5x85x64x64) _ _ z _ ?_
  rw [Shape.rowMajor_val_four, Shape.rowMajor_val_five]
  show (((z 0).val * 425 + (85 * (z 1).val + (z 2).val)) * 64 + (z 3).val) * 64 + (z 4).val
    = ((((z 0).val * 5 + (z 1).val) * 85 + (z 2).val) * 64 + (z 3).val) * 64 + (z 4).val
  omega

theorem chan_at (hX : ReadsO x0 X) (k : Fin 85) (h : S16x5x85x64x64.Slices ![0, 0, k.val, 0, 0] S16x5x1x64x64) (z : S16x5x64x64.Idx) :
    shapeCast S16x5x64x64 (extractStridedSlice S16x5x1x64x64 ![0, 0, k.val, 0, 0] (val_main_v18 (F := Ideal) x0) h) shapeCasts_S16x5x1x64x64_S16x5x64x64 z
      = (X (z 0) (z 1) k (z 2) (z 3) : EReal) := by
  refine (shapeCast_apply (t := S16x5x64x64) _ _ z (ix5 (z 0) (z 1) 0 (z 2) (z 3)) ?_).trans ?_
  · rw [Shape.rowMajor_val_four, Shape.rowMajor_val_five]
    show ((((z 0).val * 5 + (z 1).val) * 1 + 0) * 64 + (z 2).val) * 64 + (z 3).val = (((z 0).val * 5 + (z 1).val) * 64 + (z 2).val) * 64 + (z 3).val
    omega
  · exact (extractStridedSlice_apply (s := S16x5x85x64x64) (t := S16x5x1x64x64) ![0, 0, k.val, 0, 0] _ h (ix5 (z 0) (z 1) 0 (z 2) (z 3)) (ix5 (z 0) (z 1) k (z 2) (z 3))
      (fun a => by fin_cases a <;> first | exact (Nat.zero_add _).symm | exact (Nat.add_zero _).symm)).trans (v18_at hX _)

theorem v20_at (hX : ReadsO x0 X) (z : S16x5x64x64.Idx) : val_main_v20 (F := Ideal) x0 z = (X (z 0) (z 1) 0 (z 2) (z 3) : EReal) := chan_at hX 0 _ z
theorem v28_at (hX : ReadsO x0 X) (z : S16x5x64x64.Idx) : val_main_v28 (F := Ideal) x0 z = (X (z 0) (z 1) 1 (z 2) (z 3) : EReal) := chan_at hX 1 _ z
theorem v36_at (hX : ReadsO x0 X) (z : S16x5x64x64.Idx) : val_main_v36 (F := Ideal) x0 z = (X (z 0) (z 1) 2 (z 2) (z 3) : EReal) := chan_at hX 2 _ z
theorem v38_at (hX : ReadsO x0 X) (z : S16x5x64x64.Idx) : val_main_v38 (F := Ideal) x0 z = (X (z 0) (z 1) 3 (z 2) (z 3) : EReal) := chan_at hX 3 _ z
theorem v40_at (hX : ReadsO x0 X) (z : S16x5x64x64.Idx) : val_main_v40 (F := Ideal) x0 z = (X (z 0) (z 1) 4 (z 2) (z 3) : EReal) := chan_at hX 4 _ z

theorem sig_at (x : EReal) (r : ℝ) (h : x = (r : EReal)) :
    Ideal.div (Ideal.ofBits .f32 0x3F800000#32) (Ideal.ofBits .f32 0x3F800000#32 + Ideal.exp (-x)) = (sg r : EReal) := by
  rw [h, lit_one, EReal.coe_one, logistic_real]

theorem v26_at (hX : ReadsO x0 X) (z : S16x5x64x64.Idx) : val_main_v26 (F := Ideal) x0 z = (sg (X (z 0) (z 1) 0 (z 2) (z 3)) : EReal) := sig_at _ _ (v20_at hX z)
theorem v34_at (hX : ReadsO x0 X) (z : S16x5x64x64.Idx) : val_main_v34 (F := Ideal) x0 z = (sg (X (z 0) (z 1) 1 (z 2) (z 3)) : EReal) := sig_at _ _ (v28_at hX z)
theorem v46_at (hX : ReadsO x0 X) (z : S16x5x64x64.Idx) : val_main_v46 (F := Ideal) x0 z = (sg (X (z 0) (z 1) 4 (z 2) (z 3)) : EReal) := sig_at _ _ (v40_at hX z)

theorem v66_at (hT : ReadsT x1 T) (z : S16x50x5.Idx) : val_main_v66 (F := Ideal) x1 z = (T (z 0) (z 1) (z 2) : EReal) := by
  refine Eq.trans ?_ (hT (z 0) (z 1) (z 2))
  refine shapeCast_apply (t := S16x50x5) _ _ z _ ?_
  rw [Shape.rowMajor_val_two, Shape.rowMajor_val_three]
  show (z 0).val * 250 + (5 * (z 1).val + (z 2).val) = ((z 0).val * 50 + (z 1).val) * 5 + (z 2).val
  omega

theorem col_at (hT : ReadsT x1 T) (k : Fin 5) (h : S16x50x5.Slices ![0, 0, k.val] S16x50x1) (z : S16x50.Idx) :
    shapeCast S16x50 (extractStridedSlice S16x50x1 ![0, 0, k.val] (val_main_v66 (F := Ideal) x1) h) shapeCasts_S16x50x1_S16x50 z
      = (T (z 0) (z 1) k : EReal) := by
  refine (shapeCast_apply (t := S16x50) _ _ z (ix3 (z 0) (z 1) 0) ?_).trans ?_
  · rw [Shape.rowMajor_val_two, Shape.rowMajor_val_three]
    show ((z 0).val * 50 + (z 1).val) * 1 + 0 = (z 0).val * 50 + (z 1).val
    omega
  · exact (extractStridedSlice_apply (s := S16x50x5) (t := S16x50x1) ![0, 0, k.val] _ h (ix3 (z 0) (z 1) 0) (ix3 (z 0) (z 1) k)
      (fun a => by fin_cases a <;> first | exact (Nat.zero_add _).symm | exact (Nat.add_zero _).symm)).trans (v66_at hT _)

theorem v68_at (hT : ReadsT x1 T) (z : S16x50.Idx) : val_main_v68 (F := Ideal) x1 z = (T (z 0) (z 1) 1 : EReal) := col_at hT 1 _ z
theorem v322_at (hT : ReadsT x1 T) (z : S16x50.Idx) : val_main_v322 (F := Ideal) x1 z = (T (z 0) (z 1) 0 : EReal) := col_at hT 0 _ z

theorem scaled (x : EReal) (r : ℝ) (h : x = (r : EReal)) : x * Ideal.ofBits .f32 0x42800000#32 = ((r * 64 : ℝ) : EReal) := by
  rw [h, lit_64, EReal.coe_mul]

theorem v79_at (hT : ReadsT x1 T) (z : S16x50.Idx) : val_main_v79 (F := Ideal) x1 z = (gR T (z 0) (z 1) 1 : EReal) := scaled _ _ (col_at hT 1 _ z)
theorem v83_at (hT : ReadsT x1 T) (z : S16x50.Idx) : val_main_v83 (F := Ideal) x1 z = (gR T (z 0) (z 1) 2 : EReal) := scaled _ _ (col_at hT 2 _ z)
theorem v87_at (hT : ReadsT x1 T) (z : S16x50.Idx) : val_main_v87 (F := Ideal) x1 z = (gR T (z 0) (z 1) 3 : EReal) := scaled _ _ (col_at hT 3 _ z)
theorem v91_at (hT : ReadsT x1 T) (z : S16x50.Idx) : val_main_v91 (F := Ideal) x1 z = (gR T (z 0) (z 1) 4 : EReal) := scaled _ _ (col_at hT 4 _ z)

/-! ## The predicted boxes -/

theorem add_iota (s : ℝ) (k : Fin 64) :
    (s : EReal) + (((BitVec.ofNat 32 k.val).toInt : ℝ) : EReal) = ((s + k.val : ℝ) : EReal) := by
  have e : ∀ k : Fin 64, (BitVec.ofNat 32 k.val).toInt = (k.val : ℕ) := by decide
  rw [e, EReal.coe_add]
  norm_cast

theorem v50_at (hX : ReadsO x0 X) (z : S16x5x64x64.Idx) : val_main_v50 (F := Ideal) x0 z = (pxR X (z 0) (z 1) (z 2) (z 3) : EReal) := by
  rw [val_main_v50_apply, v26_at hX, val_main_v49_apply, val_main_v48_apply]
  exact add_iota _ (z 3)

theorem v55_at (hX : ReadsO x0 X) (z : S16x5x64x64.Idx) : val_main_v55 (F := Ideal) x0 z = (pyR X (z 0) (z 1) (z 2) (z 3) : EReal) := by
  rw [val_main_v55_apply, v34_at hX, val_main_v54_apply, val_main_v53_apply, val_main_v52_apply]
  exact add_iota _ (z 2)

theorem v60_at (hX : ReadsO x0 X) (z : S16x5x64x64.Idx) : val_main_v60 (F := Ideal) x0 z = (pwR X (z 0) (z 1) (z 2) (z 3) : EReal) := by
  rw [val_main_v60_apply, val_main_v56_apply, v36_at hX, val_main_v59_apply, val_main_v58_apply, val_main_v57_apply, v5_at]
  unfold pwR
  rw [EReal.coe_mul]
  rfl

theorem v65_at (hX : ReadsO x0 X) (z : S16x5x64x64.Idx) : val_main_v65 (F := Ideal) x0 z = (phR X (z 0) (z 1) (z 2) (z 3) : EReal) := by
  rw [val_main_v65_apply, val_main_v61_apply, v38_at hX, val_main_v64_apply, val_main_v63_apply, val_main_v62_apply, v11_at]
  unfold phR
  rw [EReal.coe_mul]
  rfl

end Args

end Cert.ReferenceIdeal.Hand

end
-- ==== Proof.RefValid.lean ====
/-
The reference's target list: a target counts while no entry before it, nor its own, is the zero that ends the list. The
reference counts the zeros seen so far.
-/
module

public import proofs.«01_k».proof.Proof.RefIn

@[expose] public section

noncomputable section

namespace Cert.ReferenceIdeal.Hand

open Cert.ReferenceIdeal Cert.ReferenceIdeal.Gen Cert.ReferenceIdeal.Read
open Cert.KernelIdeal.Hand
open Idealize.ShloMosaic Idealize.ShloMosaic.TcCoe Idealize.ShloMosaic.ValueIdx

/-- A truth value as a float. -/
theorem flag_float (p : Prop) [Decidable p] :
    (((BitVec.ofBool (decide p)).toNat : ℝ) : EReal) = if p then 1 else 0 := by
  by_cases h : p <;> simp [h]

/-- A running sum of nonnegative values is zero when each is. -/
theorem foldl_eq_zero {ι : Type} (g : ι → EReal) (hg : ∀ n, 0 ≤ g n) (L : List ι) :
    L.foldl (fun r n => r + g n) 0 = 0 ↔ ∀ n ∈ L, g n = 0 := by
  have key : ∀ (L : List ι) (r : EReal), 0 ≤ r → (L.foldl (fun r n => r + g n) r = 0 ↔ r = 0 ∧ ∀ n ∈ L, g n = 0) := by
    intro L
    induction L with
    | nil => intro r _; simp
    | cons x L ih =>
      intro r hr
      rw [List.foldl_cons, ih _ (add_nonneg hr (hg x))]
      constructor
      · rintro ⟨h, hL⟩
        have hrx := (add_eq_zero_iff_of_nonneg hr (hg x)).1 h
        exact ⟨hrx.1, fun n hn => by rcases List.mem_cons.1 hn with rfl | hn; exacts [hrx.2, hL n hn]⟩
      · rintro ⟨h, hL⟩
        exact ⟨by rw [h, hL x List.mem_cons_self, add_zero], fun n hn => hL n (List.mem_cons_of_mem _ hn)⟩
  exact (key L 0 le_rfl).trans ⟨fun h => h.2, fun h => ⟨rfl, h⟩⟩

variable {x1 : (⟨S16x250, .f32⟩ : BufTy).Contents (Elt Ideal)} {T : Boxes}

theorem v71_at (hT : ReadsT x1 T) (z : S16x50.Idx) : val_main_v71 (F := Ideal) x1 z = if T (z 0) (z 1) 1 = 0 then 1 else 0 := by
  have e : val_main_v71 (F := Ideal) x1 z = (((BitVec.ofBool (decide (val_main_v68 (F := Ideal) x1 z = Ideal.ofBits .f32 0x00000000#32))).toNat : ℝ) : EReal) := by
    rw [val_main_v71_apply, val_main_v70_apply, val_main_v69_apply]; rfl
  rw [e, flag_float, v68_at hT, lit_zero]
  simp only [EReal.coe_eq_coe_iff]

open Classical in
theorem v72_zero (hT : ReadsT x1 T) (b : Fin 16) (t : Fin 50) : val_main_v72 (F := Ideal) x1 (ix2 b t) = 0 ↔ Valid T b t := by
  have h0 : val_main_call0_call0_v0 (F := Ideal) (Shape.Idx.first h_S_) = 0 := lit_zero.trans EReal.coe_zero
  unfold val_main_v72
  show Ideal.hostReduceWindowAdd ![1, 50] ![1, 1] ![0, 49] ![0, 0] reduceWindows_S16x50_S16x50_w1s1p0_0_w50s1p49_0
    (val_main_v71 (F := Ideal) x1) (val_main_call0_call0_v0 (F := Ideal) (Shape.Idx.first h_S_)) (ix2 b t) = 0 ↔ _
  rw [h0]
  unfold Ideal.hostReduceWindowAdd Host.reduceWindow
  refine (foldl_eq_zero _ (fun n => ?_) _).trans ?_
  · dsimp only
    split_ifs with h
    · rw [v71_at hT]; split_ifs <;> norm_num
    · exact le_rfl
  · constructor
    · intro h u hu hz
      have hn := h ((⟨2, ![1, 50]⟩ : Shape).rowMajor (ix2 0 ⟨49 + u.val - t.val, by have := t.isLt; have := u.isLt; have : u.val ≤ t.val := hu; omega⟩)) (List.mem_finRange _)
      simp only [Equiv.symm_apply_apply] at hn
      have hu' : u.val ≤ t.val := hu
      have ht := t.isLt
      have hb := b.isLt
      rw [dif_pos ?_, v71_at hT, if_pos] at hn
      · exact one_ne_zero hn
      · refine (congrArg₂ (fun (p : Fin 16) (q : Fin 50) => T p q 1) (Fin.ext ?_) (Fin.ext ?_)).trans hz
        · show b.val * 1 + 0 - 0 = b.val
          omega
        · show t.val * 1 + (49 + u.val - t.val) - 49 = u.val
          omega
      · intro a
        fin_cases a
        · show 0 ≤ b.val * 1 + 0 ∧ b.val * 1 + 0 - 0 < 16
          omega
        · show 49 ≤ t.val * 1 + (49 + u.val - t.val) ∧ t.val * 1 + (49 + u.val - t.val) - 49 < 50
          omega
    · intro h n _
      dsimp only
      split_ifs with hin
      · rw [v71_at hT, if_neg]
        have h0 := ((⟨2, ![1, 50]⟩ : Shape).rowMajor.symm n 0).isLt
        have h1 := ((⟨2, ![1, 50]⟩ : Shape).rowMajor.symm n 1).isLt
        have i0 := hin 0
        have i1 := hin 1
        obtain ⟨k, hk⟩ : ∃ k, k = (⟨2, ![1, 50]⟩ : Shape).rowMajor.symm n := ⟨_, rfl⟩
        rw [← hk] at h0 h1
        change 49 ≤ t.val * 1 + ((⟨2, ![1, 50]⟩ : Shape).rowMajor.symm n 1).val ∧ t.val * 1 + ((⟨2, ![1, 50]⟩ : Shape).rowMajor.symm n 1).val - 49 < 50 at i1
        rw [← hk] at i1
        change (k 0).val < 1 at h0
        change (k 1).val < 50 at h1
        intro hz
        refine h ⟨t.val * 1 + (k 1).val - 49, i1.2⟩ (Fin.mk_le_of_le_val (by omega)) (Eq.trans (congrArg₂ (fun (p : Fin 16) (q : Fin 50) => T p q 1) (Fin.ext ?_) (Fin.ext ?_)) hz)
        · show b.val = b.val * 1 + ((⟨2, ![1, 50]⟩ : Shape).rowMajor.symm n 0).val - 0
          rw [← hk]
          omega
        · show t.val * 1 + (k 1).val - 49 = t.val * 1 + ((⟨2, ![1, 50]⟩ : Shape).rowMajor.symm n 1).val - 49
          rw [← hk]
      · rfl

theorem v75_at (hT : ReadsT x1 T) (z : S16x50.Idx) [Decidable (Valid T (z 0) (z 1))] :
    val_main_v75 (F := Ideal) x1 z = if Valid T (z 0) (z 1) then 1 else 0 := by
  have e : val_main_v75 (F := Ideal) x1 z = (((BitVec.ofBool (decide (val_main_v72 (F := Ideal) x1 z = Ideal.ofBits .f32 0x00000000#32))).toNat : ℝ) : EReal) := by
    rw [val_main_v75_apply, val_main_v74_apply, val_main_v73_apply]; rfl
  rw [e, flag_float]
  have hz : val_main_v72 (F := Ideal) x1 z = Ideal.ofBits .f32 0x00000000#32 ↔ Valid T (z 0) (z 1) := by
    rw [lit_zero.trans EReal.coe_zero]
    exact (iff_of_eq (congrArg (fun w => val_main_v72 (F := Ideal) x1 w = 0) (eq_ix2 z))).trans (v72_zero hT (z 0) (z 1))
  simp only [hz]

end Cert.ReferenceIdeal.Hand

end
-- ==== Proof.RefIou.lean ====
/-
The reference's first part: a cell is not punished as background when its predicted box overlaps some target by more than
three fifths of their union.
-/
module

public import proofs.«01_k».proof.Proof.RefValid

@[expose] public section

noncomputable section

namespace Cert.ReferenceIdeal.Hand

open Cert.ReferenceIdeal Cert.ReferenceIdeal.Gen Cert.ReferenceIdeal.Read
open Cert.KernelIdeal.Hand
open Idealize.ShloMosaic Idealize.ShloMosaic.TcCoe Idealize.ShloMosaic.ValueIdx

theorem half_eq (r : ℝ) : Ideal.div (r : EReal) (Ideal.ofBits .f32 0x40000000#32) = ((r / 2 : ℝ) : EReal) := by
  rw [lit_two, Ideal.div_coe (by norm_num), ← EReal.coe_mul, mul_one_div]

/-- The overlap of two intervals, in the reference's spelling. -/
theorem cw_real (p w g v : ℝ) :
    ((w : EReal) + (v : EReal)) - (max ((p : EReal) + Ideal.div (w : EReal) (Ideal.ofBits .f32 0x40000000#32)) ((g : EReal) + Ideal.div (v : EReal) (Ideal.ofBits .f32 0x40000000#32))
      - min ((p : EReal) - Ideal.div (w : EReal) (Ideal.ofBits .f32 0x40000000#32)) ((g : EReal) - Ideal.div (v : EReal) (Ideal.ofBits .f32 0x40000000#32)))
      = (ovl p w g v : EReal) := by
  rw [← ovl_eq]
  simp only [half_eq, ← EReal.coe_add, ← EReal.coe_sub, coe_max', coe_min']

/-- The intersection, in the reference's spelling. -/
theorem inter_real (cw ch : ℝ) :
    Scalar.select (IntOp.andi (FloatOps.cmpf (F := Ideal) (φ := .f32) .ogt (cw : EReal) (Ideal.ofBits .f32 0x00000000#32)) (FloatOps.cmpf (F := Ideal) (φ := .f32) .ogt (ch : EReal) (Ideal.ofBits .f32 0x00000000#32)))
      ((cw : EReal) * (ch : EReal)) (Ideal.ofBits .f32 0x00000000#32) = (inter cw ch : EReal) := by
  show (if BitVec.ofBool (decide (Ideal.ofBits .f32 0x00000000#32 < (cw : EReal))) &&& BitVec.ofBool (decide (Ideal.ofBits .f32 0x00000000#32 < (ch : EReal))) = 1
    then (cw : EReal) * (ch : EReal) else Ideal.ofBits .f32 0x00000000#32) = _
  simp only [lit_zero, EReal.coe_lt_coe_iff]
  unfold inter
  by_cases h1 : 0 < cw <;> by_cases h2 : 0 < ch <;> simp [h1, h2]

variable {x0 : (⟨S16x425x64x64, .f32⟩ : BufTy).Contents (Elt Ideal)} {x1 : (⟨S16x250, .f32⟩ : BufTy).Contents (Elt Ideal)} {T : Boxes} {X : Logits}

/-- The overlaps of the predicted box `z` with the target, and the ratio. -/
def cwR (T : Boxes) (X : Logits) (b : Fin 16) (a : Fin 5) (j i : Fin 64) (t : Fin 50) : ℝ := ovl (pxR X b a j i) (pwR X b a j i) (gR T b t 1) (gR T b t 3)
def chR (T : Boxes) (X : Logits) (b : Fin 16) (a : Fin 5) (j i : Fin 64) (t : Fin 50) : ℝ := ovl (pyR X b a j i) (phR X b a j i) (gR T b t 2) (gR T b t 4)
def ratioR (T : Boxes) (X : Logits) (b : Fin 16) (a : Fin 5) (j i : Fin 64) (t : Fin 50) : ℝ :=
  inter (cwR T X b a j i t) (chR T X b a j i t)
    / (pwR X b a j i * phR X b a j i + gR T b t 3 * gR T b t 4 - inter (cwR T X b a j i t) (chR T X b a j i t))

theorem v144_at (hX : ReadsO x0 X) (hT : ReadsT x1 T) (z : S16x5x64x64x50.Idx) :
    val_main_v144 (F := Ideal) x0 x1 z = (cwR T X (z 0) (z 1) (z 2) (z 3) (z 4) : EReal) := by
  simp only [val_main_v92_apply, val_main_v94_apply, val_main_v98_apply, val_main_v100_apply, val_main_v104_apply, val_main_v105_apply, val_main_v106_apply, val_main_v107_apply, val_main_v108_apply, val_main_v109_apply, val_main_v110_apply, val_main_v111_apply, val_main_v112_apply, val_main_v113_apply, val_main_v114_apply, val_main_v115_apply, val_main_v116_apply, val_main_v117_apply, val_main_v118_apply, val_main_v119_apply, val_main_v120_apply, val_main_v121_apply,
    val_main_cst_26_apply, val_main_cst_27_apply, val_main_cst_28_apply, val_main_cst_29_apply, val_main_v140_apply, val_main_v141_apply, val_main_v142_apply, val_main_v143_apply, val_main_v144_apply, v50_at hX, v60_at hX, v79_at hT, v87_at hT]
  exact cw_real _ _ _ _

theorem v149_at (hX : ReadsO x0 X) (hT : ReadsT x1 T) (z : S16x5x64x64x50.Idx) :
    val_main_v149 (F := Ideal) x0 x1 z = (chR T X (z 0) (z 1) (z 2) (z 3) (z 4) : EReal) := by
  simp only [val_main_v93_apply, val_main_v95_apply, val_main_v99_apply, val_main_v101_apply, val_main_v122_apply, val_main_v123_apply, val_main_v124_apply, val_main_v125_apply, val_main_v126_apply, val_main_v127_apply, val_main_v128_apply, val_main_v129_apply, val_main_v130_apply, val_main_v131_apply, val_main_v132_apply, val_main_v133_apply, val_main_v134_apply, val_main_v135_apply, val_main_v136_apply, val_main_v137_apply, val_main_v138_apply, val_main_v139_apply,
    val_main_cst_30_apply, val_main_cst_31_apply, val_main_cst_32_apply, val_main_cst_33_apply, val_main_v145_apply, val_main_v146_apply, val_main_v147_apply, val_main_v148_apply, val_main_v149_apply, v55_at hX, v65_at hX, v83_at hT, v91_at hT]
  exact cw_real _ _ _ _

theorem v156_at (hX : ReadsO x0 X) (hT : ReadsT x1 T) (z : S16x5x64x64x50.Idx) :
    val_main_v156 (F := Ideal) x0 x1 z = (inter (cwR T X (z 0) (z 1) (z 2) (z 3) (z 4)) (chR T X (z 0) (z 1) (z 2) (z 3) (z 4)) : EReal) := by
  simp only [val_main_v150_apply, val_main_v151_apply, val_main_v152_apply, val_main_v153_apply, val_main_v154_apply, val_main_v155_apply, val_main_v156_apply, val_main_cst_34_apply, val_main_cst_35_apply, val_main_cst_36_apply, val_main_call1_v0_apply, val_main_call1_v1_apply, v144_at hX hT, v149_at hX hT]
  exact inter_real _ _

theorem v159_at (hX : ReadsO x0 X) (hT : ReadsT x1 T) (z : S16x5x64x64x50.Idx) :
    val_main_v159 (F := Ideal) x0 x1 z = ((pwR X (z 0) (z 1) (z 2) (z 3) * phR X (z 0) (z 1) (z 2) (z 3) + gR T (z 0) (z 4) 3 * gR T (z 0) (z 4) 4 : ℝ) : EReal) := by
  simp only [val_main_v96_apply, val_main_v97_apply, val_main_v102_apply, val_main_v103_apply, val_main_v157_apply, val_main_v158_apply, val_main_v159_apply, v60_at hX, v65_at hX, v87_at hT, v91_at hT]
  rw [EReal.coe_add, EReal.coe_mul, EReal.coe_mul]
  rfl

theorem g_nonneg (h01 : ∀ b t e, 0 ≤ T b t e ∧ T b t e < 1) (b : Fin 16) (t : Fin 50) (e : Fin 5) : 0 ≤ gR T b t e :=
  mul_nonneg (h01 b t e).1 (by norm_num)

theorem v161_at (hX : ReadsO x0 X) (hT : ReadsT x1 T) (h01 : ∀ b t e, 0 ≤ T b t e ∧ T b t e < 1) (z : S16x5x64x64x50.Idx) :
    val_main_v161 (F := Ideal) x0 x1 z = (ratioR T X (z 0) (z 1) (z 2) (z 3) (z 4) : EReal) := by
  rw [val_main_v161_apply, val_main_v160_apply, v156_at hX hT, v159_at hX hT]
  show Ideal.div _ (_ - _) = _
  rw [← EReal.coe_sub, Ideal.div_coe, ← EReal.coe_mul, mul_one_div]
  · rfl
  · exact (union_pos _ _ _ _ _ _ (pwR_pos _ _ _ _ _) (phR_pos _ _ _ _ _) (g_nonneg h01 _ _ _) (g_nonneg h01 _ _ _) (ovl_le_right _ _ _ _) (ovl_le_right _ _ _ _)).ne'

open Classical in
theorem v164_at (hX : ReadsO x0 X) (hT : ReadsT x1 T) (h01 : ∀ b t e, 0 ≤ T b t e ∧ T b t e < 1) (z : S16x5x64x64x50.Idx) :
    val_main_v164 (F := Ideal) x0 x1 z = (ratioR T X (z 0) (z 1) (z 2) (z 3) (z 4) : EReal) * if Valid T (z 0) (z 4) then 1 else 0 := by
  rw [val_main_v164_apply, v161_at hX hT h01, val_main_v163_apply, val_main_v162_apply, v75_at hT]
  rfl

theorem lift5 (hr : S16x5x64x64x50.Reduces [4] S16x5x64x64) (z : S16x5x64x64.Idx) (t : Fin 50) :
    hr.lift z t = ix5 (z 0) (z 1) (z 2) (z 3) t := by
  funext c
  fin_cases c <;> rfl

/-- A maximum over an axis of fifty, from −∞, exceeds `c` when some entry does. -/
theorem lt_max50 (v : FVec Ideal S16x5x64x64x50 .f32) (z : S16x5x64x64.Idx) (c : EReal) :
    c < Host.reduce (FloatOps.maximumf (F := Ideal) (φ := .f32)) v (val_main_cst_37 (F := Ideal)) reducesTo_S16x5x64x64x50_S16x5x64x64_d4 h_S_ z
      ↔ ∃ t : Fin 50, c < v (ix5 (z 0) (z 1) (z 2) (z 3) t) := by
  have hr : S16x5x64x64x50.Reduces [4] S16x5x64x64 := by decide
  rw [Host.reduce_eq_fold_single (FloatOps.maximumf (F := Ideal) (φ := .f32)) _ _ reducesTo_S16x5x64x64x50_S16x5x64x64_d4 hr h_S_ z]
  refine Iff.trans (iff_of_eq (congrArg (c < ·) (show _ = Finset.fold (max : EReal → EReal → EReal) (val_main_cst_37 (F := Ideal) (Shape.Idx.first h_S_))
    (v ∘ hr.lift z) Finset.univ from rfl))) ?_
  refine (Finset.lt_fold_max c).trans ?_
  have hb : ¬c < val_main_cst_37 (F := Ideal) (Shape.Idx.first h_S_) := by
    show ¬c < Ideal.ofBits .f32 0xFF800000#32
    rw [lit_bot]
    exact not_lt_bot
  constructor
  · rintro (h | ⟨t, _, h⟩)
    · exact absurd h hb
    · exact ⟨t, lt_of_lt_of_eq h (congrArg v (lift5 hr z t))⟩
  · rintro ⟨t, h⟩
    exact .inr ⟨t, Finset.mem_univ _, lt_of_lt_of_eq h (congrArg v (lift5 hr z t)).symm⟩

theorem lt_v165 (z : S16x5x64x64.Idx) (c : EReal) :
    c < val_main_v165 (F := Ideal) x0 x1 z ↔ ∃ t : Fin 50, c < val_main_v164 (F := Ideal) x0 x1 (ix5 (z 0) (z 1) (z 2) (z 3) t) :=
  lt_max50 _ z c

/-- The choice against three fifths. -/
theorem sel_three_fifths (x : EReal) :
    Scalar.select (FloatOps.cmpf (F := Ideal) (φ := .f32) .ogt x (FloatOps.hostDivf (F := Ideal) (φ := .f32) (FloatOps.ofBits .f32 0x40400000#32) (FloatOps.ofBits .f32 0x40A00000#32)))
      (FloatOps.ofBits (F := Ideal) .f32 0x00000000#32) (FloatOps.ofBits .f32 0x3F800000#32) = ((if ((3 / 5 : ℝ) : EReal) < x then 0 else 1 : ℝ) : EReal) := by
  have h : Ideal.div (Ideal.ofBits .f32 0x40400000#32) (Ideal.ofBits .f32 0x40A00000#32) = ((3 / 5 : ℝ) : EReal) := by
    rw [lit_three, lit_five, Ideal.div_coe (by norm_num), ← EReal.coe_mul, mul_one_div]
  show (if BitVec.ofBool (decide (Ideal.div (Ideal.ofBits .f32 0x40400000#32) (Ideal.ofBits .f32 0x40A00000#32) < x)) = 1
      then Ideal.ofBits .f32 0x00000000#32 else Ideal.ofBits .f32 0x3F800000#32) = _
  simp only [h]
  by_cases hx : ((3 / 5 : ℝ) : EReal) < x
  · rw [if_pos ((ofBool_decide_eq_one _).2 hx), if_pos hx, lit_zero]
  · rw [if_neg (fun h' => hx ((ofBool_decide_eq_one _).1 h')), if_neg hx, lit_one]

open Classical in
theorem sil_at (hX : ReadsO x0 X) (hT : ReadsT x1 T) (h01 : ∀ b t e, 0 ≤ T b t e ∧ T b t e < 1) (z : S16x5x64x64.Idx) :
    ((3 / 5 : ℝ) : EReal) < val_main_v165 (F := Ideal) x0 x1 z ↔ Sil T X (z 0) (z 1) (z 2) (z 3) := by
  refine (lt_v165 z _).trans (exists_congr fun t => ?_)
  rw [v164_at hX hT h01]
  have key : (3 / 5 : ℝ) < ratioR T X (z 0) (z 1) (z 2) (z 3) t ↔ _ := ratio_iff _ _ _ _ _ _ (pwR_pos _ _ _ _ _) (phR_pos _ _ _ _ _) (g_nonneg h01 _ _ _) (g_nonneg h01 _ _ _) (ovl_le_right _ _ _ _) (ovl_le_right _ _ _ _)
  show ((3 / 5 : ℝ) : EReal) < (ratioR T X (z 0) (z 1) (z 2) (z 3) t : EReal) * (if Valid T (z 0) t then 1 else 0) ↔ _
  by_cases hv : Valid T (z 0) t
  · rw [if_pos hv, mul_one, EReal.coe_lt_coe_iff, key]
    exact ⟨fun h => ⟨hv, h⟩, fun h => h.2⟩
  · rw [if_neg hv, mul_zero]
    refine iff_of_false (fun h => ?_) fun h => hv h.1
    have : ((3 / 5 : ℝ) : EReal) < ((0 : ℝ) : EReal) := by simpa using h
    rw [EReal.coe_lt_coe_iff] at this
    norm_num at this

theorem v169_sel (z : S16x5x64x64.Idx) : val_main_v169 (F := Ideal) x0 x1 z
    = Scalar.select (FloatOps.cmpf (F := Ideal) (φ := .f32) .ogt (val_main_v165 (F := Ideal) x0 x1 z) (FloatOps.hostDivf (F := Ideal) (φ := .f32) (FloatOps.ofBits .f32 0x40400000#32) (FloatOps.ofBits .f32 0x40A00000#32)))
      (FloatOps.ofBits (F := Ideal) .f32 0x00000000#32) (FloatOps.ofBits .f32 0x3F800000#32) := by
  rw [val_main_v169_apply, val_main_v168_apply, val_main_v167_apply, val_main_v166_apply, val_main_call2_v1_apply, val_main_call2_v2_apply]
  generalize val_main_v165 (F := Ideal) x0 x1 z = x
  rfl

open Classical in
theorem v169_at (hX : ReadsO x0 X) (hT : ReadsT x1 T) (h01 : ∀ b t e, 0 ≤ T b t e ∧ T b t e < 1) (z : S16x5x64x64.Idx) :
    val_main_v169 (F := Ideal) x0 x1 z = ((if Sil T X (z 0) (z 1) (z 2) (z 3) then 0 else 1 : ℝ) : EReal) := by
  rw [v169_sel]
  refine (sel_three_fifths _).trans ?_
  by_cases h : Sil T X (z 0) (z 1) (z 2) (z 3)
  · rw [if_pos ((sil_at hX hT h01 z).2 h), if_pos h]
  · rw [if_neg (fun h' => h ((sil_at hX hT h01 z).1 h')), if_neg h]

end Cert.ReferenceIdeal.Hand

end
-- ==== Proof.RefAnchor.lean ====
/-
The reference's second part, first half: the ratio of each target's box with each anchor's, the best ratio, and the first
anchor that attains it.
-/
module

public import proofs.«01_k».proof.Proof.RefIou

@[expose] public section

noncomputable section

namespace Cert.ReferenceIdeal.Hand

open Cert.ReferenceIdeal Cert.ReferenceIdeal.Gen Cert.ReferenceIdeal.Read
open Cert.KernelIdeal.Hand
open Idealize.ShloMosaic Idealize.ShloMosaic.TcCoe Idealize.ShloMosaic.ValueIdx

/-- The overlap of two intervals about zero, in the reference's spelling. -/
theorem ext_real (g A : ℝ) :
    ((g : EReal) + (A : EReal)) - (max (Ideal.ofBits .f32 0x00000000#32 + Ideal.div (g : EReal) (Ideal.ofBits .f32 0x40000000#32)) (Ideal.ofBits .f32 0x00000000#32 + Ideal.div (A : EReal) (Ideal.ofBits .f32 0x40000000#32))
      - min (Ideal.ofBits .f32 0x00000000#32 - Ideal.div (g : EReal) (Ideal.ofBits .f32 0x40000000#32)) (Ideal.ofBits .f32 0x00000000#32 - Ideal.div (A : EReal) (Ideal.ofBits .f32 0x40000000#32)))
      = (extR g A : EReal) := by
  simp only [half_eq, lit_zero, ← EReal.coe_add, ← EReal.coe_sub, coe_max', coe_min', zero_add, zero_sub]
  rfl

variable {x1 : (⟨S16x250, .f32⟩ : BufTy).Contents (Elt Ideal)} {T : Boxes}

theorem v227_at (hT : ReadsT x1 T) (z : S16x50x5.Idx) :
    val_main_v227 (F := Ideal) x1 z = (extR (gR T (z 0) (z 1) 3) (awR (z 2)) : EReal) := by
  simp only [val_main_v170_apply, val_main_v174_apply, val_main_v175_apply, val_main_v176_apply, val_main_v177_apply, val_main_v178_apply, val_main_v179_apply, val_main_v180_apply, val_main_v181_apply, val_main_v182_apply, val_main_v183_apply, val_main_v184_apply, val_main_v185_apply, val_main_v186_apply, val_main_v187_apply, val_main_v188_apply, val_main_v189_apply, val_main_v190_apply, val_main_v191_apply, val_main_v192_apply, val_main_v193_apply, val_main_v194_apply, val_main_v195_apply, val_main_v196_apply, val_main_v197_apply, val_main_cst_42_apply, val_main_cst_43_apply, val_main_cst_44_apply, val_main_cst_45_apply, val_main_cst_46_apply, val_main_cst_47_apply, val_main_cst_48_apply, val_main_cst_49_apply, val_main_v222_apply, val_main_v223_apply, val_main_v224_apply, val_main_v225_apply, val_main_v226_apply, val_main_v227_apply, v5_at, v87_at hT]
  exact ext_real _ _

theorem v233_at (hT : ReadsT x1 T) (z : S16x50x5.Idx) :
    val_main_v233 (F := Ideal) x1 z = (extR (gR T (z 0) (z 1) 4) (ahR (z 2)) : EReal) := by
  simp only [val_main_v171_apply, val_main_v198_apply, val_main_v199_apply, val_main_v200_apply, val_main_v201_apply, val_main_v202_apply, val_main_v203_apply, val_main_v204_apply, val_main_v205_apply, val_main_v206_apply, val_main_v207_apply, val_main_v208_apply, val_main_v209_apply, val_main_v210_apply, val_main_v211_apply, val_main_v212_apply, val_main_v213_apply, val_main_v214_apply, val_main_v215_apply, val_main_v216_apply, val_main_v217_apply, val_main_v218_apply, val_main_v219_apply, val_main_v220_apply, val_main_v221_apply, val_main_cst_50_apply, val_main_cst_51_apply, val_main_cst_52_apply, val_main_cst_53_apply, val_main_cst_54_apply, val_main_cst_55_apply, val_main_cst_56_apply, val_main_cst_57_apply, val_main_v228_apply, val_main_v229_apply, val_main_v230_apply, val_main_v231_apply, val_main_v232_apply, val_main_v233_apply, v11_at, v91_at hT]
  exact ext_real _ _

theorem v240_at (hT : ReadsT x1 T) (z : S16x50x5.Idx) :
    val_main_v240 (F := Ideal) x1 z = (interR (gR T (z 0) (z 1) 3) (gR T (z 0) (z 1) 4) (z 2) : EReal) := by
  simp only [val_main_v234_apply, val_main_v235_apply, val_main_v236_apply, val_main_v237_apply, val_main_v238_apply, val_main_v239_apply, val_main_v240_apply, val_main_cst_58_apply, val_main_cst_59_apply, val_main_cst_60_apply, val_main_call3_v0_apply, val_main_call3_v1_apply, v227_at hT, v233_at hT]
  exact inter_real _ _

theorem v244_at (hT : ReadsT x1 T) (z : S16x50x5.Idx) :
    val_main_v244 (F := Ideal) x1 z = ((gR T (z 0) (z 1) 3 * gR T (z 0) (z 1) 4 + areaR (z 2) : ℝ) : EReal) := by
  simp only [val_main_v172_apply, val_main_v173_apply, val_main_v241_apply, val_main_v242_apply, val_main_v243_apply, val_main_v244_apply, v17_at, v87_at hT, v91_at hT]
  rw [EReal.coe_add, EReal.coe_mul]
  rfl

theorem v246_at (hT : ReadsT x1 T) (z : S16x50x5.Idx) :
    val_main_v246 (F := Ideal) x1 z = iouR (gR T (z 0) (z 1) 3) (gR T (z 0) (z 1) 4) (z 2) := by
  rw [val_main_v246_apply, val_main_v245_apply, v240_at hT, v244_at hT]
  show Ideal.div _ (_ - _) = _
  rw [← EReal.coe_sub]
  rfl

/-! ## The best anchor -/

theorem lift3 (hr : S16x50x5.Reduces [2] S16x50) (z : S16x50.Idx) (n : Fin 5) : hr.lift z n = ix3 (z 0) (z 1) n := by
  funext c
  fin_cases c <;> rfl

theorem v247_fold (z : S16x50.Idx) : val_main_v247 (F := Ideal) x1 z
    = (Finset.univ : Finset (Fin 5)).fold (max : EReal → EReal → EReal) (Ideal.ofBits .f32 0xFF800000#32) (fun n => val_main_v246 (F := Ideal) x1 (ix3 (z 0) (z 1) n)) := by
  have hr : S16x50x5.Reduces [2] S16x50 := by decide
  unfold val_main_v247
  generalize val_main_v246 (F := Ideal) x1 = v
  rw [Host.reduce_eq_fold_single (FloatOps.maximumf (F := Ideal) (φ := .f32)) _ _ reducesTo_S16x50x5_S16x50_d2 hr h_S_ z]
  have hf : v ∘ hr.lift z = fun n : Fin 5 => v (ix3 (z 0) (z 1) n) := funext fun n => congrArg v (lift3 hr z n)
  exact congrArg (fun f => Finset.fold (max : EReal → EReal → EReal) (Ideal.ofBits .f32 0xFF800000#32) f (Finset.univ : Finset (Fin 5))) hf

theorem v247_at (hT : ReadsT x1 T) (z : S16x50.Idx) :
    val_main_v247 (F := Ideal) x1 z = confE T (z 0) (z 1) := by
  rw [v247_fold]
  simp only [v246_at hT]
  apply le_antisymm
  · refine Finset.fold_max_le _ |>.2 ⟨?_, fun n _ => iouR_le _ _ n⟩
    rw [lit_bot]
    exact bot_le
  · exact Finset.le_fold_max _ |>.2 (.inr ⟨bA T (z 0) (z 1), Finset.mem_univ _, le_rfl⟩)

/-- The least number among those of the anchors that attain the maximum, five standing for the others. -/
theorem first_of_five : ∀ (p0 p1 p2 p3 p4 : Bool) (n : Fin 5), (![p0, p1, p2, p3, p4] : Fin 5 → Bool) n = true →
    (∀ k < n, (![p0, p1, p2, p3, p4] : Fin 5 → Bool) k = false) →
    (Finset.univ : Finset (Fin 5)).fold IntOp.minsi 2147483647#32 (fun k => if (![p0, p1, p2, p3, p4] : Fin 5 → Bool) k = true then BitVec.ofNat 32 k.val else 5#32)
      = BitVec.ofNat 32 n.val := by
  decide

theorem first_where (p : Fin 5 → Bool) (n : Fin 5) (hn : p n = true) (hk : ∀ k < n, p k = false) :
    (Finset.univ : Finset (Fin 5)).fold IntOp.minsi 2147483647#32 (fun k => if p k = true then BitVec.ofNat 32 k.val else 5#32) = BitVec.ofNat 32 n.val := by
  have e : p = ![p 0, p 1, p 2, p 3, p 4] := by funext k; fin_cases k <;> rfl
  rw [e] at hn hk ⊢
  exact first_of_five _ _ _ _ _ n hn hk

open Classical in
theorem v252_at (hT : ReadsT x1 T) (z : S16x50x5.Idx) : val_main_v252 (F := Ideal) x1 z
    = if decide (iouR (gR T (z 0) (z 1) 3) (gR T (z 0) (z 1) 4) (z 2) = confE T (z 0) (z 1)) = true then BitVec.ofNat 32 (z 2).val else 5#32 := by
  have e : val_main_v252 (F := Ideal) x1 z = if BitVec.ofBool (decide (iouR (gR T (z 0) (z 1) 3) (gR T (z 0) (z 1) 4) (z 2) = confE T (z 0) (z 1))) = 1
      then BitVec.ofNat 32 (z 2).val else 5#32 := by
    rw [val_main_v252_apply, val_main_v250_apply, val_main_v249_apply, val_main_v248_apply, v246_at hT, v247_at hT, val_main_call4_v1_apply, val_main_call4_v2_apply]
    generalize hI : iouR (gR T (z 0) (z 1) 3) (gR T (z 0) (z 1) 4) (z 2) = I
    show Scalar.select (BitVec.ofBool (decide (I = confE T (z 0) (z 1)))) (BitVec.ofNat 32 (z 2).val) 5#32 = _
    unfold Scalar.select
    congr
  rw [e]
  by_cases h : iouR (gR T (z 0) (z 1) 3) (gR T (z 0) (z 1) 4) (z 2) = confE T (z 0) (z 1)
  · rw [if_pos ((ofBool_decide_eq_one _).2 h), if_pos (decide_eq_true h)]
  · rw [if_neg (fun h' => h ((ofBool_decide_eq_one _).1 h')), if_neg (fun h' => h (of_decide_eq_true h'))]

theorem v253_at (hT : ReadsT x1 T) (z : S16x50.Idx) : val_main_v253 (F := Ideal) x1 z = BitVec.ofNat 32 (bA T (z 0) (z 1)).val := by
  classical
  have hr : S16x50x5.Reduces [2] S16x50 := by decide
  have hv : ∀ n : Fin 5, val_main_v252 (F := Ideal) x1 (ix3 (z 0) (z 1) n)
      = if decide (iouR (gR T (z 0) (z 1) 3) (gR T (z 0) (z 1) 4) n = confE T (z 0) (z 1)) = true then BitVec.ofNat 32 n.val else 5#32 := fun n => v252_at hT _
  unfold val_main_v253
  generalize val_main_v252 (F := Ideal) x1 = v at hv ⊢
  rw [Host.reduce_eq_fold_single IntOp.minsi _ _ reducesTo_S16x50x5_S16x50_d2 hr h_S_ z]
  have hf : v ∘ hr.lift z = fun n : Fin 5 => if decide (iouR (gR T (z 0) (z 1) 3) (gR T (z 0) (z 1) 4) n = confE T (z 0) (z 1)) = true then BitVec.ofNat 32 n.val else 5#32 :=
    funext fun n => (congrArg v (lift3 hr z n)).trans (hv n)
  refine Eq.trans (congrArg (fun f => Finset.fold IntOp.minsi 2147483647#32 f (Finset.univ : Finset (Fin 5))) hf) ?_
  refine first_where (fun n => decide (iouR (gR T (z 0) (z 1) 3) (gR T (z 0) (z 1) 4) n = confE T (z 0) (z 1))) _ (decide_eq_true rfl) fun k hk => ?_
  exact decide_eq_false (iouR_lt _ _ k hk).ne

end Cert.ReferenceIdeal.Hand

end
-- ==== Proof.RefScatter.lean ====
/-
A scatter of one value per target into the grid of cells: the last target that lands at a cell stands there.
-/
module

public import proofs.«01_k».proof.Proof.RefIn
public import Idealize.ShloMosaic.Lib.Routing.OpsPair

@[expose] public section

noncomputable section

namespace Cert.ReferenceIdeal.Hand

open Cert.ReferenceIdeal Cert.ReferenceIdeal.Gen Cert.ReferenceIdeal.Read
open Cert.KernelIdeal.Hand
open Idealize.ShloMosaic Idealize.ShloMosaic.TcCoe Idealize.ShloMosaic.ValueIdx

section Fold

variable {ι α : Type} (p : ι → Prop) [DecidablePred p] (v : ι → α)

theorem foldl_miss (L : List ι) (x : α) (h : ∀ n ∈ L, ¬p n) : L.foldl (fun a n => if p n then v n else a) x = x := by
  induction L generalizing x with
  | nil => rfl
  | cons n L ih =>
    rw [List.foldl_cons, if_neg (h n List.mem_cons_self), ih _ fun m hm => h m (List.mem_cons_of_mem _ hm)]

/-- In an ordered list the last entry with the property gives the value. -/
theorem foldl_last [LinearOrder ι] (L : List ι) (hL : L.Pairwise (· < ·)) (x : α) (k : ι) (hk : k ∈ L) (hp : p k) (hlast : ∀ n, k < n → ¬p n) :
    L.foldl (fun a n => if p n then v n else a) x = v k := by
  obtain ⟨A, B, rfl⟩ := List.append_of_mem hk
  have hB : ∀ n ∈ B, k < n := (List.pairwise_cons.1 (List.pairwise_append.1 hL).2.1).1
  rw [List.foldl_append, List.foldl_cons, if_pos hp, foldl_miss p v B _ fun n hn => hlast n (hB n hn)]

end Fold

/-- The scatter's dimension numbers. -/
abbrev dims := scatter_S16x5x64x64_S16x50x4_S16x50_n_0123_0123_2

/-- An update lands at a cell exactly when its four index words are the cell's coordinates. -/
theorem lands (idx : IVec S16x50x4 32) (k : S16x50.Idx) (z : S16x5x64x64.Idx) :
    dims.resultIdx? k idx = some z ↔ ∀ q : Fin 4, (idx (ix3 (k 0) (k 1) q)).toInt = ((z q).val : ℤ) := by
  rw [Routing.resultIdx?_eq_some]
  have hm : ∀ q : Fin 4, q ∈ dims.scatterDimsToOperandDims := fun q => by fin_cases q <;> decide
  have hwin : ∀ q : Fin 4, dims.window k q = 0 := fun q => by
    unfold ScatterDims.window
    rw [dif_neg fun h => (of_decide_eq_true (List.mem_filter.1 h).2) (by fin_cases q <;> decide)]
  have hst : ∀ q : Fin 4, dims.start k idx q = (idx (ix3 (k 0) (k 1) q)).toInt := fun q => by
    unfold ScatterDims.start
    rw [dif_pos (hm q)]
    refine congrArg (fun w => (idx w).toInt) (funext fun c => Fin.ext ?_)
    fin_cases q <;> fin_cases c <;> rfl
  refine forall_congr' fun q => ?_
  rw [hwin, hst]
  simp

variable {α : Type} (x : S16x5x64x64.Idx → α) (idx : IVec S16x50x4 32) (upd : S16x50.Idx → α) (b : Fin 16) (a : Fin 5) (j i : Fin 64)
  (p : Fin 50 → Prop)
  (hp : ∀ c t, (∀ q : Fin 4, (idx (ix3 c t q)).toInt = ((ix4 b a j i q).val : ℤ)) ↔ c = b ∧ p t)

include hp

theorem scatter_miss (h : ∀ t, ¬p t) : Host.scatter dims (fun _ b => b) x idx upd (ix4 b a j i) = x (ix4 b a j i) := by
  rw [Routing.scatter_at]
  refine foldl_miss _ _ _ _ fun n _ hn => ?_
  rw [lands] at hn
  exact h _ ((hp _ _).1 hn).2

theorem scatter_last (t : Fin 50) (ht : p t) (hl : ∀ u, t < u → ¬p u) :
    Host.scatter dims (fun _ b => b) x idx upd (ix4 b a j i) = upd (ix2 b t) := by
  rw [Routing.scatter_at]
  have e : S16x50.rowMajor.symm (S16x50.rowMajor (ix2 b t)) = ix2 b t := Equiv.symm_apply_apply _ _
  refine (foldl_last _ (fun n => upd (S16x50.rowMajor.symm n)) _ (List.pairwise_lt_finRange _) _ (S16x50.rowMajor (ix2 b t)) (List.mem_finRange _) ?_ fun n hn hl' => ?_).trans (congrArg upd e)
  · rw [e, lands]
    exact (hp b t).2 ⟨rfl, ht⟩
  · rw [lands] at hl'
    obtain ⟨hb, hp'⟩ := (hp _ _).1 hl'
    refine hl _ ?_ hp'
    have hv : (S16x50.rowMajor (ix2 b t)).val < (S16x50.rowMajor (S16x50.rowMajor.symm n)).val := by
      rw [Equiv.apply_symm_apply]
      exact hn
    rw [Shape.rowMajor_val_two, Shape.rowMajor_val_two] at hv
    have hb' : (S16x50.rowMajor.symm n 0).val = b.val := congrArg Fin.val hb
    change b.val * 50 + t.val < (S16x50.rowMajor.symm n 0).val * 50 + (S16x50.rowMajor.symm n 1).val at hv
    show t.val < (S16x50.rowMajor.symm n 1).val
    omega

end Cert.ReferenceIdeal.Hand

end
-- ==== Proof.RefIndex.lean ====
/-
The reference's second part, second half: the four index words of each target, and the values it asks of its cell.
-/
module

public import proofs.«01_k».proof.Proof.RefAnchor
public import proofs.«01_k».proof.Proof.RefScatter

@[expose] public section

noncomputable section

namespace Cert.ReferenceIdeal.Hand

open Cert.ReferenceIdeal Cert.ReferenceIdeal.Gen Cert.ReferenceIdeal.Read
open Cert.KernelIdeal.Hand
open Idealize.ShloMosaic Idealize.ShloMosaic.TcCoe Idealize.ShloMosaic.ValueIdx

/-- A small nonnegative real as an integer word, its fraction dropped. -/
theorem fptosi_small (r : ℝ) (h0 : 0 ≤ r) (h1 : r < 64) : (Ideal.fptosi 32 (r : EReal)).toInt = ⌊r⌋ := by
  have hf0 : 0 ≤ ⌊r⌋ := Int.floor_nonneg.2 h0
  have hf1 : ⌊r⌋ < 64 := Int.floor_lt.2 (by exact_mod_cast h1)
  unfold Ideal.fptosi
  rw [Ideal.toIntClamped_coe, if_pos h0]
  generalize ⌊r⌋ = f at hf0 hf1
  have e : max (-((2 ^ (32 - 1) : ℕ) : ℤ)) (min (((2 ^ (32 - 1) : ℕ) : ℤ) - 1) f) = f := by
    norm_num
    omega
  rw [e]
  interval_cases f <;> decide

theorem fptosi_floor (r : ℝ) (h0 : 0 ≤ r) (h1 : r < 64) : (Ideal.fptosi 32 (Ideal.liftRound Int.floor (r : EReal))).toInt = ⌊r⌋ := by
  rw [Ideal.liftRound_coe, fptosi_small _ (by exact_mod_cast Int.floor_nonneg.2 h0) (by exact_mod_cast Int.floor_lt.2 (by exact_mod_cast h1 : r < ((64 : ℤ) : ℝ))), Int.floor_intCast]

variable {x1 : (⟨S16x250, .f32⟩ : BufTy).Contents (Elt Ideal)} {T : Boxes}

theorem g_lt (h01 : ∀ b t e, 0 ≤ T b t e ∧ T b t e < 1) (b : Fin 16) (t : Fin 50) (e : Fin 5) : gR T b t e < 64 := by
  have := (h01 b t e).2
  unfold gR
  linarith

theorem v255_at (hT : ReadsT x1 T) (h01 : ∀ b t e, 0 ≤ T b t e ∧ T b t e < 1) (z : S16x50.Idx) :
    (val_main_v255 (F := Ideal) x1 z).toInt = ⌊gR T (z 0) (z 1) 1⌋ := by
  rw [val_main_v255_apply, val_main_v254_apply, v79_at hT]
  exact fptosi_floor _ (g_nonneg h01 _ _ _) (g_lt h01 _ _ _)

theorem v257_at (hT : ReadsT x1 T) (h01 : ∀ b t e, 0 ≤ T b t e ∧ T b t e < 1) (z : S16x50.Idx) :
    (val_main_v257 (F := Ideal) x1 z).toInt = ⌊gR T (z 0) (z 1) 2⌋ := by
  rw [val_main_v257_apply, val_main_v256_apply, v83_at hT]
  exact fptosi_floor _ (g_nonneg h01 _ _ _) (g_lt h01 _ _ _)

theorem v253_int (hT : ReadsT x1 T) (z : S16x50.Idx) : (val_main_v253 (F := Ideal) x1 z).toInt = ((bA T (z 0) (z 1)).val : ℤ) := by
  have key : ∀ n : Fin 5, (BitVec.ofNat 32 n.val).toInt = (n.val : ℤ) := by decide
  rw [v253_at hT, key]

open Classical in
theorem v262_at (hT : ReadsT x1 T) (z : S16x50.Idx) :
    (val_main_v262 (F := Ideal) x1 z).toInt = if Valid T (z 0) (z 1) then ((z 0).val : ℤ) else 16 := by
  have key : ∀ n : Fin 16, (BitVec.ofNat 32 n.val).toInt = (n.val : ℤ) := by decide
  have e : val_main_v262 (F := Ideal) x1 z
      = if BitVec.ofBool (decide (Ideal.ofBits .f32 0x00000000#32 < val_main_v75 (F := Ideal) x1 z)) = 1 then BitVec.ofNat 32 (z 0).val else 16#32 := by
    rw [val_main_v262_apply, val_main_v259_apply, val_main_v258_apply, val_main_call5_v1_apply, val_main_call5_v2_apply]
    generalize val_main_v75 (F := Ideal) x1 z = v
    rfl
  rw [e, v75_at hT]
  by_cases h : Valid T (z 0) (z 1)
  · rw [if_pos h, if_pos ((ofBool_decide_eq_one _).2 (lt_of_eq_of_lt (lit_zero.trans EReal.coe_zero) zero_lt_one)), if_pos h]
    exact key (z 0)
  · rw [if_neg h, if_neg (fun h' => absurd ((ofBool_decide_eq_one _).1 h') (not_lt_of_ge (lit_zero.trans EReal.coe_zero).ge)), if_neg h]
    rfl

/-! ## The index words -/

theorem col_of (v : IVec S16x50 32) (f : S16x50x1.Idx → S16x50.Idx) (b : Fin 16) (t : Fin 50) (h : f (ix3 b t 0) = ix2 b t) : v (f (ix3 b t 0)) = v (ix2 b t) := by rw [h]

/-- Four columns side by side. -/
theorem words_at (w : IVec S16x50x4 32) (c : Fin 4 → IVec S16x50x1 32)
    (hw : w = concatenate S16x50x4 2 (List.ofFn fun k : Fin 4 => (⟨S16x50x1, c k⟩ : (s : Shape) × (s.Idx → BitVec 32))) concatenates_S16x50x1_S16x50x1_S16x50x1_S16x50x1_S16x50x4_d2)
    (b : Fin 16) (t : Fin 50) (q : Fin 4) : w (ix3 b t q) = c q (ix3 b t 0) :=
  (congrFun hw _).trans (concatenate_ofFn_unit_apply (t := S16x50x4) (s₁ := S16x50x1) 2 _ _ rfl rfl (ix3 b t q) q rfl (ix3 b t 0)
    (fun d hd => by fin_cases d <;> first | rfl | exact absurd rfl hd))

/-- The words of a target's index vector, whichever of its eight copies. -/
theorem hit_words (hT : ReadsT x1 T) (h01 : ∀ b t e, 0 ≤ T b t e ∧ T b t e < 1) (w : IVec S16x50x4 32)
    (h0 : ∀ b t, w (ix3 b t 0) = val_main_v262 (F := Ideal) x1 (ix2 b t)) (h1 : ∀ b t, w (ix3 b t 1) = val_main_v253 (F := Ideal) x1 (ix2 b t))
    (h2 : ∀ b t, w (ix3 b t 2) = val_main_v257 (F := Ideal) x1 (ix2 b t)) (h3 : ∀ b t, w (ix3 b t 3) = val_main_v255 (F := Ideal) x1 (ix2 b t))
    (b : Fin 16) (a : Fin 5) (j i : Fin 64) (c : Fin 16) (t : Fin 50) :
    (∀ q : Fin 4, (w (ix3 c t q)).toInt = ((ix4 b a j i q).val : ℤ)) ↔ c = b ∧ Hit T b a j i t := by
  classical
  have e0 : (w (ix3 c t 0)).toInt = if Valid T c t then (c.val : ℤ) else 16 := (congrArg BitVec.toInt (h0 c t)).trans (v262_at hT _)
  have e1 : (w (ix3 c t 1)).toInt = ((bA T c t).val : ℤ) := (congrArg BitVec.toInt (h1 c t)).trans (v253_int hT _)
  have e2 : (w (ix3 c t 2)).toInt = ⌊gR T c t 2⌋ := (congrArg BitVec.toInt (h2 c t)).trans (v257_at hT h01 _)
  have e3 : (w (ix3 c t 3)).toInt = ⌊gR T c t 1⌋ := (congrArg BitVec.toInt (h3 c t)).trans (v255_at hT h01 _)
  constructor
  · intro h
    have k0 : (if Valid T c t then (c.val : ℤ) else 16) = (b.val : ℤ) := e0.symm.trans (h 0)
    have k1 : ((bA T c t).val : ℤ) = (a.val : ℤ) := e1.symm.trans (h 1)
    have k2 : ⌊gR T c t 2⌋ = (j.val : ℤ) := e2.symm.trans (h 2)
    have k3 : ⌊gR T c t 1⌋ = (i.val : ℤ) := e3.symm.trans (h 3)
    have hb := b.isLt
    by_cases hv : Valid T c t
    · rw [if_pos hv] at k0
      have hc : c = b := Fin.ext (by exact_mod_cast k0)
      subst hc
      exact ⟨rfl, hv, Fin.ext (by exact_mod_cast k1), k2, k3⟩
    · rw [if_neg hv] at k0
      omega
  · rintro ⟨rfl, hv, k1, k2, k3⟩ q
    fin_cases q
    · exact e0.trans (if_pos hv)
    · exact e1.trans (by rw [k1])
    · exact e2.trans k2
    · exact e3.trans k3

/-! ## The values -/

theorem v279_at (hT : ReadsT x1 T) (h01 : ∀ b t e, 0 ≤ T b t e ∧ T b t e < 1) (b : Fin 16) (t : Fin 50) : val_main_v279 (F := Ideal) x1 (ix2 b t) = txE T b t := by
  rw [val_main_v279_apply, val_main_v278_apply, v79_at hT]
  show _ - (((val_main_v255 (F := Ideal) x1 (ix2 b t)).toInt : ℝ) : EReal) = _
  rw [v255_at hT h01, ← EReal.coe_sub]
  rfl

theorem v287_at (hT : ReadsT x1 T) (h01 : ∀ b t e, 0 ≤ T b t e ∧ T b t e < 1) (b : Fin 16) (t : Fin 50) : val_main_v287 (F := Ideal) x1 (ix2 b t) = tyE T b t := by
  rw [val_main_v287_apply, val_main_v286_apply, v83_at hT]
  show _ - (((val_main_v257 (F := Ideal) x1 (ix2 b t)).toInt : ℝ) : EReal) = _
  rw [v257_at hT h01, ← EReal.coe_sub]
  rfl

/-- An anchor's table read at a target's anchor number. -/
theorem take_at (v : S5.Idx → EReal) (idx : IVec S16x50x1 32) (z : S16x50.Idx) (n : Fin 5) (h : idx (ix3 (z 0) (z 1) 0) = BitVec.ofNat 32 n.val) :
    Host.gather gather_S5_S16x50x1_S16x50_n_0_n_n_0_2_1 v idx z = v (ix1 n) := by
  have key : ∀ n : Fin 5, min (BitVec.ofNat 32 n.val).toInt.toNat (5 - 1) = n.val := by decide
  refine (gather_take_apply (N := 5) (R := 16) (C := 50) (by decide) gather_S5_S16x50x1_S16x50_n_0_n_n_0_2_1_wf v idx z).trans (congrArg (fun k : Fin 5 => v (ix1 k)) (Fin.ext ?_))
  have e : takeIdx z = ix3 (z 0) (z 1) 0 := by funext c; fin_cases c <;> rfl
  have e' : idx (takeIdx z) = BitVec.ofNat 32 n.val := (congrArg idx e).trans h
  exact (congrArg (fun w : BitVec 32 => min w.toInt.toNat (5 - 1)) e').trans (key n)

theorem v297_at (hT : ReadsT x1 T) (b : Fin 16) (t : Fin 50) : val_main_v297 (F := Ideal) x1 (ix2 b t) = twE T b t := by
  have e : val_main_v295 (F := Ideal) x1 (ix2 b t) = (awR (bA T b t) : EReal) :=
    (take_at _ _ (ix2 b t) (bA T b t) ((val_main_v294_apply x1 _).trans (v253_at hT _))).trans (v5_apply _)
  rw [val_main_v297_apply, val_main_v296_apply, e, v87_at hT]
  rfl

theorem v307_at (hT : ReadsT x1 T) (b : Fin 16) (t : Fin 50) : val_main_v307 (F := Ideal) x1 (ix2 b t) = thE T b t := by
  have e : val_main_v305 (F := Ideal) x1 (ix2 b t) = (ahR (bA T b t) : EReal) :=
    (take_at _ _ (ix2 b t) (bA T b t) ((val_main_v304_apply x1 _).trans (v253_at hT _))).trans (v11_apply _)
  rw [val_main_v307_apply, val_main_v306_apply, e, v91_at hT]
  rfl

theorem v323_at (hT : ReadsT x1 T) (h01 : ∀ b t e, 0 ≤ T b t e ∧ T b t e < 1) (z : S16x50.Idx) : val_main_v323 (F := Ideal) x1 z = 0#32 := by
  rw [val_main_v323_apply, v322_at hT]
  have h := h01 (z 0) (z 1) 0
  refine BitVec.eq_of_toInt_eq ((fptosi_small _ h.1 (h.2.trans (by norm_num))).trans ?_)
  rw [Int.floor_eq_zero_iff.2 ⟨h.1, h.2⟩]
  rfl

end Cert.ReferenceIdeal.Hand

end
-- ==== Proof.RefGrid.lean ====
/-
The reference's second part, end: what each scattered grid holds at a cell.
-/
module

public import proofs.«01_k».proof.Proof.RefIndex
public import proofs.«01_k».proof.Proof.RefIou

@[expose] public section

noncomputable section

namespace Cert.ReferenceIdeal.Hand

open Cert.ReferenceIdeal Cert.ReferenceIdeal.Gen Cert.ReferenceIdeal.Read
open Cert.KernelIdeal.Hand
open Idealize.ShloMosaic Idealize.ShloMosaic.TcCoe Idealize.ShloMosaic.ValueIdx

variable {x0 : (⟨S16x425x64x64, .f32⟩ : BufTy).Contents (Elt Ideal)} {x1 : (⟨S16x250, .f32⟩ : BufTy).Contents (Elt Ideal)} {T : Boxes} {X : Logits}

/-- The index vectors hold, in turn, the image or 16, the anchor, the row and the column. -/
theorem v268_words (hT : ReadsT x1 T) (h01 : ∀ b t e, 0 ≤ T b t e ∧ T b t e < 1) (b : Fin 16) (a : Fin 5) (j i : Fin 64) (c : Fin 16) (t : Fin 50) :
    (∀ q : Fin 4, (val_main_v268 (F := Ideal) x1 (ix3 c t q)).toInt = ((ix4 b a j i q).val : ℤ)) ↔ c = b ∧ Hit T b a j i t := by
  have hw := words_at (val_main_v268 (F := Ideal) x1) ![val_main_v264 (F := Ideal) x1, val_main_v265 (F := Ideal) x1, val_main_v266 (F := Ideal) x1, val_main_v267 (F := Ideal) x1] rfl
  have hi : ∀ (b : Fin 16) (t : Fin 50), idx_main_v264 (ix3 b t 0) = ix2 b t := fun b t => by funext d; fin_cases d <;> rfl
  refine hit_words hT h01 _ (fun b t => ?_) (fun b t => ?_) (fun b t => ?_) (fun b t => ?_) b a j i c t
  · exact ((hw b t 0).trans (val_main_v264_apply x1 _)).trans (congrArg (val_main_v262 (F := Ideal) x1) (hi b t))
  · exact ((hw b t 1).trans (val_main_v265_apply x1 _)).trans (congrArg (val_main_v253 (F := Ideal) x1) (hi b t))
  · exact ((hw b t 2).trans (val_main_v266_apply x1 _)).trans (congrArg (val_main_v257 (F := Ideal) x1) (hi b t))
  · exact ((hw b t 3).trans (val_main_v267_apply x1 _)).trans (congrArg (val_main_v255 (F := Ideal) x1) (hi b t))

theorem v275_eq : val_main_v275 (F := Ideal) x1 = val_main_v268 (F := Ideal) x1 := rfl
theorem v284_eq : val_main_v284 (F := Ideal) x1 = val_main_v268 (F := Ideal) x1 := rfl
theorem v292_eq : val_main_v292 (F := Ideal) x1 = val_main_v268 (F := Ideal) x1 := rfl
theorem v302_eq : val_main_v302 (F := Ideal) x1 = val_main_v268 (F := Ideal) x1 := rfl
theorem v312_eq : val_main_v312 (F := Ideal) x1 = val_main_v268 (F := Ideal) x1 := rfl
theorem v318_eq : val_main_v318 (F := Ideal) x1 = val_main_v268 (F := Ideal) x1 := rfl
theorem v328_eq : val_main_v328 (F := Ideal) x1 = val_main_v268 (F := Ideal) x1 := rfl

theorem v263_at (z : S16x5x64x64.Idx) : val_main_v263 (F := Ideal) z = 0 := by
  rw [val_main_v263_apply]
  exact lit_zero.trans EReal.coe_zero
theorem v269_at (z : S16x50.Idx) : val_main_v269 (F := Ideal) z = 1 := by
  rw [val_main_v269_apply]
  exact lit_one.trans EReal.coe_one
theorem v276_at (z : S16x50.Idx) : val_main_v276 (F := Ideal) z = ((5 : ℝ) : EReal) := by
  rw [val_main_v276_apply]
  exact lit_five

/-- Values scattered over a grid of zeros. -/
theorem grid_lv (hT : ReadsT x1 T) (h01 : ∀ b t e, 0 ≤ T b t e ∧ T b t e < 1) (g : S16x5x64x64.Idx → EReal) (w : IVec S16x50x4 32) (u : S16x50.Idx → EReal)
    (hg : g = Host.scatter dims (fun _ b => b) (val_main_v263 (F := Ideal)) w u) (hw : w = val_main_v268 (F := Ideal) x1)
    (b : Fin 16) (a : Fin 5) (j i : Fin 64) (v : Fin 50 → EReal) (hu : ∀ t, u (ix2 b t) = v t) : g (ix4 b a j i) = lv T b a j i v := by
  subst hw hg
  by_cases h : ∃ t, Hit T b a j i t
  · obtain ⟨t, ht⟩ := exists_last _ h
    exact ((scatter_last _ _ u b a j i _ (v268_words hT h01 b a j i) t ht.1 ht.2).trans (hu t)).trans (lastv_last ht v).symm
  · exact ((scatter_miss _ _ u b a j i _ (v268_words hT h01 b a j i) fun t ht => h ⟨t, ht⟩).trans (v263_at _)).trans (lastv_none h v).symm

section

variable (hT : ReadsT x1 T) (h01 : ∀ b t e, 0 ≤ T b t e ∧ T b t e < 1) (b : Fin 16) (a : Fin 5) (j i : Fin 64)
include hT h01

theorem v270_at : val_main_v270 (F := Ideal) x1 (ix4 b a j i) = (mR T b a j i : EReal) :=
  (grid_lv hT h01 _ _ _ rfl rfl b a j i _ fun t => v269_at _).trans (lv_one T b a j i)

theorem v285_at : val_main_v285 (F := Ideal) x1 (ix4 b a j i) = lv T b a j i (txE T b) :=
  grid_lv hT h01 _ _ _ rfl v284_eq b a j i _ fun t => v279_at hT h01 b t
theorem v293_at : val_main_v293 (F := Ideal) x1 (ix4 b a j i) = lv T b a j i (tyE T b) :=
  grid_lv hT h01 _ _ _ rfl v292_eq b a j i _ fun t => v287_at hT h01 b t
theorem v303_at : val_main_v303 (F := Ideal) x1 (ix4 b a j i) = lv T b a j i (twE T b) :=
  grid_lv hT h01 _ _ _ rfl v302_eq b a j i _ fun t => v297_at hT b t
theorem v313_at : val_main_v313 (F := Ideal) x1 (ix4 b a j i) = lv T b a j i (thE T b) :=
  grid_lv hT h01 _ _ _ rfl v312_eq b a j i _ fun t => v307_at hT b t
theorem v319_at : val_main_v319 (F := Ideal) x1 (ix4 b a j i) = lv T b a j i (confE T b) :=
  grid_lv hT h01 _ _ _ rfl v318_eq b a j i _ fun t => v247_at hT (ix2 b t)

theorem v277_at (hX : ReadsO x0 X) : val_main_v277 (F := Ideal) x0 x1 (ix4 b a j i) = (scR T X b a j i : EReal) := by
  have hs := scatter_last (val_main_v169 (F := Ideal) x0 x1) (val_main_v275 (F := Ideal) x1) (val_main_v276 (F := Ideal)) b a j i _ (v268_words hT h01 b a j i)
  have hm := scatter_miss (val_main_v169 (F := Ideal) x0 x1) (val_main_v275 (F := Ideal) x1) (val_main_v276 (F := Ideal)) b a j i _ (v268_words hT h01 b a j i)
  unfold scR
  by_cases h : ∃ t, Hit T b a j i t
  · rw [if_pos h]
    obtain ⟨t, ht⟩ := exists_last _ h
    exact (hs t ht.1 ht.2).trans (v276_at _)
  · rw [if_neg h]
    exact (hm fun t ht => h ⟨t, ht⟩).trans (v169_at hX hT h01 _)

theorem v329_at : val_main_v329 (F := Ideal) x1 (ix4 b a j i) = 0#32 := by
  have hs := scatter_last (val_main_v320 (F := Ideal)) (val_main_v328 (F := Ideal) x1) (val_main_v323 (F := Ideal) x1) b a j i _ (v268_words hT h01 b a j i)
  have hm := scatter_miss (val_main_v320 (F := Ideal)) (val_main_v328 (F := Ideal) x1) (val_main_v323 (F := Ideal) x1) b a j i _ (v268_words hT h01 b a j i)
  by_cases h : ∃ t, Hit T b a j i t
  · obtain ⟨t, ht⟩ := exists_last _ h
    exact (hs t ht.1 ht.2).trans (v323_at hT h01 _)
  · exact (hm fun t ht => h ⟨t, ht⟩).trans (val_main_v320_apply _)

end

end Cert.ReferenceIdeal.Hand

end
-- ==== Proof.RefSoft.lean ====
/-
The reference's class term: the logarithm of the softmax, at a cell, of its eighty masked class logits.
-/
module

public import proofs.«01_k».proof.Proof.RefGrid
public import proofs.«01_k».proof.Proof.Sums
public import proofs.«01_k».proof.Proof.KernelSum

@[expose] public section

noncomputable section

namespace Cert.ReferenceIdeal.Hand

open Cert.ReferenceIdeal Cert.ReferenceIdeal.Gen Cert.ReferenceIdeal.Read
open Cert.KernelIdeal.Hand
open Idealize.ShloMosaic Idealize.ShloMosaic.TcCoe Idealize.ShloMosaic.ValueIdx

variable {x0 : (⟨S16x425x64x64, .f32⟩ : BufTy).Contents (Elt Ideal)} {x1 : (⟨S16x250, .f32⟩ : BufTy).Contents (Elt Ideal)} {T : Boxes} {X : Logits}

/-- A finite sum of reals, as extended reals. -/
theorem coe_sum {ι : Type} (s : Finset ι) (f : ι → ℝ) : ((∑ i ∈ s, f i : ℝ) : EReal) = ∑ i ∈ s, (f i : EReal) :=
  map_sum (⟨⟨Real.toEReal, EReal.coe_zero⟩, EReal.coe_add⟩ : ℝ →+ EReal) f s

/-- The logarithm of a sum of exponentials does not mind a shift. -/
theorem log_shift (f : Fin 80 → ℝ) (r : ℝ) : Real.log (∑ c, Real.exp (f c - r)) = Real.log (∑ c, Real.exp (f c)) - r := by
  have hp : 0 < ∑ c : Fin 80, Real.exp (f c) := Finset.sum_pos (fun c _ => Real.exp_pos _) ⟨0, Finset.mem_univ _⟩
  have e : ∑ c : Fin 80, Real.exp (f c - r) = (∑ c, Real.exp (f c)) * Real.exp (-r) := by
    rw [Finset.sum_mul]
    exact Finset.sum_congr rfl fun c _ => by rw [← Real.exp_add, sub_eq_add_neg]
  rw [e, Real.log_mul hp.ne' (Real.exp_pos _).ne', Real.log_exp, sub_eq_add_neg]

/-- A maximum over the eighty classes, from −∞, of reals is a real. -/
theorem max80 (v : FVec Ideal S16x5x80x64x64 .f32) (z : S16x5x64x64.Idx) (f : Fin 80 → ℝ)
    (hv : ∀ c, v (ix5 (z 0) (z 1) c (z 2) (z 3)) = (f c : EReal)) :
    ∃ r : ℝ, Host.reduce (FloatOps.maximumf (F := Ideal) (φ := .f32)) v (val_main_call6_cst (F := Ideal)) reducesTo_S16x5x80x64x64_S16x5x64x64_d2 h_S_ z = (r : EReal) := by
  have hr : S16x5x80x64x64.Reduces [2] S16x5x64x64 := by decide
  have hl : ∀ c : Fin 80, hr.lift z c = ix5 (z 0) (z 1) c (z 2) (z 3) := fun c => by
    funext d
    fin_cases d <;> rfl
  rw [Host.reduce_eq_fold_single (FloatOps.maximumf (F := Ideal) (φ := .f32)) _ _ reducesTo_S16x5x80x64x64_S16x5x64x64_d2 hr h_S_ z]
  have hi : val_main_call6_cst (F := Ideal) (Shape.Idx.first h_S_) = (⊥ : EReal) := lit_bot
  generalize hM : Finset.univ.fold (FloatOps.maximumf (F := Ideal) (φ := .f32)) (val_main_call6_cst (F := Ideal) (Shape.Idx.first h_S_)) (v ∘ hr.lift z) = M
  replace hM : Finset.fold (max : EReal → EReal → EReal) (val_main_call6_cst (F := Ideal) (Shape.Idx.first h_S_)) (v ∘ hr.lift z) Finset.univ = M := hM
  have h1 : (⊥ : EReal) < M := by
    rw [← hM]
    exact (Finset.lt_fold_max _).2 (.inr ⟨(0 : Fin 80), Finset.mem_univ _, lt_of_lt_of_eq (EReal.bot_lt_coe (f 0)) ((congrArg v (hl 0)).trans (hv 0)).symm⟩)
  have h2 : M < (⊤ : EReal) := by
    rw [← hM]
    exact (Finset.fold_max_lt _).2 ⟨lt_of_eq_of_lt hi bot_lt_top, fun c _ => lt_of_eq_of_lt ((congrArg v (hl c)).trans (hv c)) (EReal.coe_lt_top (f c))⟩
  exact ⟨M.toReal, (EReal.coe_toReal h2.ne h1.ne').symm⟩

section

variable (hX : ReadsO x0 X) (hT : ReadsT x1 T) (h01 : ∀ b t e, 0 ≤ T b t e ∧ T b t e < 1) (b : Fin 16) (a : Fin 5) (j i : Fin 64)
include hX hT h01

theorem v364_at (c : Fin 80) : val_main_v364 (F := Ideal) x0 x1 (ix5 b a c j i) = (mc T X b a j i c : EReal) := by
  have e1 : val_main_v361 (F := Ideal) x0 (ix5 b a c j i) = (X b a ⟨5 + c.val, by omega⟩ j i : EReal) := (val_main_v361_apply x0 _).trans (v18_at hX _)
  have hi : idx_main_v362 (idx_main_v363 (ix5 b a c j i)) = ix4 b a j i := by funext d; fin_cases d <;> rfl
  have e2 : val_main_v363 (F := Ideal) x1 (ix5 b a c j i) = (mR T b a j i : EReal) :=
    (((val_main_v363_apply x1 _).trans (val_main_v362_apply x1 _)).trans (congrArg _ hi)).trans (v270_at hT h01 b a j i)
  rw [val_main_v364_apply, e1, e2]
  exact (EReal.coe_mul _ _).symm

/-- The shift the reference takes is some real. -/
theorem shift : ∃ r : ℝ, ∀ c, val_main_call6_v5 (F := Ideal) x0 x1 (ix5 b a c j i) = ((mc T X b a j i c - r : ℝ) : EReal) := by
  obtain ⟨r, hr⟩ := max80 (val_main_v364 (F := Ideal) x0 x1) (ix4 b a j i) _ (v364_at hX hT h01 b a j i)
  have h2 : val_main_call6_v2 (F := Ideal) x0 x1 (ix4 b a j i) = (r : EReal) := by
    rw [val_main_call6_v2_apply, val_main_call6_v1_apply]
    have hb : val_main_call6_cst_0 (F := Ideal) (idx_main_call6_v1 (ix4 b a j i)) = (⊥ : EReal) := lit_bot
    rw [hb]
    exact (congrArg (max (⊥ : EReal)) hr).trans (max_eq_right bot_le)
  refine ⟨r, fun c => ?_⟩
  have hi : idx_main_call6_v3 (idx_main_call6_v4 (ix5 b a c j i)) = ix4 b a j i := by funext d; fin_cases d <;> rfl
  have h4 : val_main_call6_v4 (F := Ideal) x0 x1 (ix5 b a c j i) = (r : EReal) :=
    (((val_main_call6_v4_apply x0 x1 _).trans (val_main_call6_v3_apply x0 x1 _)).trans (congrArg _ hi)).trans h2
  rw [val_main_call6_v5_apply, v364_at hX hT h01, h4]
  exact (EReal.coe_sub _ _).symm

theorem v365_at : val_main_v365 (F := Ideal) x0 x1 (ix5 b a 0 j i)
    = ((-(Real.log (∑ c, Real.exp (mc T X b a j i c)) - mc T X b a j i 0) : ℝ) : EReal) := by
  obtain ⟨r, hr⟩ := shift hX hT h01 b a j i
  have hk : ∀ c, idx_main_call6_v7 (ix4 b a j i) c = ix5 b a c j i := fun c => by funext d; fin_cases d <;> rfl
  have h6 : ∀ c, val_main_call6_v6 (F := Ideal) x0 x1 (idx_main_call6_v7 (ix4 b a j i) c) = ((Real.exp (mc T X b a j i c - r) : ℝ) : EReal) := fun c => by
    rw [hk, val_main_call6_v6_apply, hr]
    rfl
  have h7 : val_main_call6_v7 (F := Ideal) x0 x1 (ix4 b a j i) = ((∑ c, Real.exp (mc T X b a j i c - r) : ℝ) : EReal) := by
    rw [val_main_call6_v7_apply, coe_sum]
    refine (congrArg₂ (· + ·) (show val_main_call6_cst_1 (F := Ideal) (Shape.Idx.first h_S_) = 0 from lit_zero.trans EReal.coe_zero) (Finset.sum_congr rfl fun c _ => h6 c)).trans (zero_add _)
  have hi : idx_main_call6_v8 (idx_main_call6_v10 (ix5 b a 0 j i)) = ix4 b a j i := by funext d; fin_cases d <;> rfl
  have h8 : val_main_call6_v8 (F := Ideal) x0 x1 (idx_main_call6_v10 (ix5 b a 0 j i)) = ((∑ c, Real.exp (mc T X b a j i c - r) : ℝ) : EReal) :=
    ((val_main_call6_v8_apply x0 x1 _).trans (congrArg _ hi)).trans h7
  have h10 : val_main_call6_v10 (F := Ideal) x0 x1 (ix5 b a 0 j i) = (Real.log (∑ c, Real.exp (mc T X b a j i c - r)) : EReal) := by
    rw [val_main_call6_v10_apply, val_main_call6_v9_apply, h8]
    exact log_sum_coe fun c => mc T X b a j i c - r
  rw [val_main_v365_apply, hr, h10, log_shift]
  refine (EReal.coe_sub _ _).symm.trans (congrArg Real.toEReal ?_)
  ring

open Classical in
/-- The picked class is the first. -/
theorem v373_at (c : Fin 80) : val_main_v373 (F := Ideal) x0 x1 (ix5 b a c j i)
    = if c = 0 then ((-(Real.log (∑ c, Real.exp (mc T X b a j i c)) - mc T X b a j i 0) : ℝ) : EReal) else 0 := by
  have hi : idx_main_v368 (idx_main_v371 (ix5 b a c j i)) = ix4 b a j i := by funext d; fin_cases d <;> rfl
  have h371 : val_main_v371 (F := Ideal) x1 (ix5 b a c j i) = 0#32 :=
    (((val_main_v371_apply x1 _).trans (val_main_v368_apply x1 _)).trans (congrArg _ hi)).trans (v329_at hT h01 b a j i)
  have h370 : val_main_v370 (F := Ideal) (ix5 b a c j i) = BitVec.ofNat 32 c.val :=
    ((val_main_v370_apply _).trans (val_main_v369_apply _)).trans ((val_main_v367_apply _).trans (val_main_v366_apply _))
  have h0 : val_main_call7_v1 (F := Ideal) (ix5 b a c j i) = (0 : EReal) := by
    rw [val_main_call7_v1_apply, val_main_call7_v0_apply]
    exact lit_zero.trans EReal.coe_zero
  have key : ∀ c : Fin 80, IntOp.cmpi .eq (BitVec.ofNat 32 c.val) 0#32 = if c = 0 then 1 else 0 := by decide
  rw [val_main_v373_apply, val_main_v372_apply, h371, h370, h0, key]
  by_cases hc : c = 0
  · subst hc
    rw [if_pos rfl, if_pos rfl, v365_at hX hT h01]
    rfl
  · rw [if_neg hc, if_neg hc]
    rfl

end

/-- The class loss. -/
theorem v375_at (hX : ReadsO x0 X) (hT : ReadsT x1 T) (h01 : ∀ b t e, 0 ≤ T b t e ∧ T b t e < 1) (z : S_.Idx) :
    val_main_v375 (F := Ideal) x0 x1 z = lossS T X 5 := by
  classical
  have h : val_main_v374 (F := Ideal) x0 x1 z
      = ((-(∑ b : Fin 16, ∑ a : Fin 5, ∑ j : Fin 64, ∑ i : Fin 64, (Real.log (∑ c, Real.exp (mc T X b a j i c)) - mc T X b a j i 0)) : ℝ) : EReal) := by
    rw [val_main_v374_apply]
    refine (congrArg₂ (· + ·) (show val_main_cst_76 (F := Ideal) (Shape.Idx.first h_S_) = 0 from lit_zero.trans EReal.coe_zero) (sum5 _)).trans ((zero_add _).trans ?_)
    simp only [← Finset.sum_neg_distrib, coe_sum]
    refine Finset.sum_congr rfl fun b _ => Finset.sum_congr rfl fun a _ => ?_
    refine (Finset.sum_eq_single (0 : Fin 80) (fun c _ hc => ?_) fun h => absurd (Finset.mem_univ _) h).trans ?_
    · exact Finset.sum_eq_zero fun j _ => Finset.sum_eq_zero fun i _ => (v373_at hX hT h01 b a j i c).trans (if_neg hc)
    · exact Finset.sum_congr rfl fun j _ => Finset.sum_congr rfl fun i _ => (v373_at hX hT h01 b a j i 0).trans (if_pos rfl)
  rw [val_main_v375_apply, h]
  refine (EReal.coe_neg _).symm.trans ?_
  rw [neg_neg]
  simp only [coe_sum]
  rfl

end Cert.ReferenceIdeal.Hand

end
-- ==== Proof.RefLoss.lean ====
/-
The reference's six losses and its result.
-/
module

public import proofs.«01_k».proof.Proof.RefSoft

@[expose] public section

noncomputable section

namespace Cert.ReferenceIdeal.Hand

open Cert.ReferenceIdeal Cert.ReferenceIdeal.Gen Cert.ReferenceIdeal.Read
open Cert.KernelIdeal.Hand
open Idealize.ShloMosaic Idealize.ShloMosaic.TcCoe Idealize.ShloMosaic.ValueIdx

variable {x0 : (⟨S16x425x64x64, .f32⟩ : BufTy).Contents (Elt Ideal)} {x1 : (⟨S16x250, .f32⟩ : BufTy).Contents (Elt Ideal)} {T : Boxes} {X : Logits}

/-- The sum of a grid over all cells, from a literal zero. -/
theorem grid_sum (v : S16x5x64x64.Idx → EReal) (k : Fin 6) (h : ∀ b a j i, v (ix4 b a j i) = term T X b a j i k) :
    Ideal.ofBits .f32 0x00000000#32 + ∑ z : S16x5x64x64.Idx, v z = lossS T X k := by
  refine (congrArg₂ (· + ·) (lit_zero.trans EReal.coe_zero) (sum4 v)).trans ((zero_add _).trans ?_)
  exact Finset.sum_congr rfl fun b _ => Finset.sum_congr rfl fun a _ => Finset.sum_congr rfl fun j _ => Finset.sum_congr rfl fun i _ => h b a j i

theorem v330_at (hT : ReadsT x1 T) (z : S_.Idx) : val_main_v330 (F := Ideal) x1 z = countV T := by
  classical
  rw [val_main_v330_apply]
  refine (congrArg₂ (· + ·) (show val_main_cst_69 (F := Ideal) (Shape.Idx.first h_S_) = 0 from lit_zero.trans EReal.coe_zero) (sum_idx2 _)).trans ((zero_add _).trans ?_)
  unfold countV
  exact Finset.sum_congr rfl fun b _ => Finset.sum_congr rfl fun t _ => v75_at hT (ix2 b t)

section

variable (hX : ReadsO x0 X) (hT : ReadsT x1 T) (h01 : ∀ b t e, 0 ≤ T b t e ∧ T b t e < 1)
include hX hT h01

theorem v335_at (z : S_.Idx) : val_main_v335 (F := Ideal) x0 x1 z = lossS T X 0 := by
  rw [val_main_v335_apply]
  refine grid_sum _ 0 fun b a j i => ?_
  rw [val_main_v334_apply, val_main_v333_apply, val_main_v331_apply, val_main_v332_apply, v26_at hX, v270_at hT h01, v285_at hT h01]
  exact sqm_eq T b a j i _ _

theorem v341_at (z : S_.Idx) : val_main_v341 (F := Ideal) x0 x1 z = lossS T X 1 := by
  rw [val_main_v341_apply]
  refine grid_sum _ 1 fun b a j i => ?_
  rw [val_main_v340_apply, val_main_v339_apply, val_main_v337_apply, val_main_v338_apply, v34_at hX, v270_at hT h01, v293_at hT h01]
  exact sqm_eq T b a j i _ _

theorem v347_at (z : S_.Idx) : val_main_v347 (F := Ideal) x0 x1 z = lossS T X 2 := by
  rw [val_main_v347_apply]
  refine grid_sum _ 2 fun b a j i => ?_
  rw [val_main_v346_apply, val_main_v345_apply, val_main_v343_apply, val_main_v344_apply, v36_at hX, v270_at hT h01, v303_at hT h01]
  exact sqm_eq T b a j i _ _

theorem v353_at (z : S_.Idx) : val_main_v353 (F := Ideal) x0 x1 z = lossS T X 3 := by
  rw [val_main_v353_apply]
  refine grid_sum _ 3 fun b a j i => ?_
  rw [val_main_v352_apply, val_main_v351_apply, val_main_v349_apply, val_main_v350_apply, v38_at hX, v270_at hT h01, v313_at hT h01]
  exact sqm_eq T b a j i _ _

theorem v359_at (z : S_.Idx) : val_main_v359 (F := Ideal) x0 x1 z = lossS T X 4 := by
  rw [val_main_v359_apply]
  refine grid_sum _ 4 fun b a j i => ?_
  rw [val_main_v358_apply, val_main_v357_apply, val_main_v355_apply, val_main_v356_apply, v46_at hX, v277_at hT h01 b a j i hX, v319_at hT h01]
  refine (congrArg (fun e : EReal => e * e) (mul_sub_ereal _ (scR_nonneg T X b a j i) _ _)).trans rfl

/-- The reference's result. -/
theorem v381_at (z : S_.Idx) : val_main_v381 (F := Ideal) x0 x1 z
    = Ideal.div (lossS T X 0) (countV T) + Ideal.div (lossS T X 1) (countV T) + Ideal.div (lossS T X 2) (countV T)
      + Ideal.div (lossS T X 3) (countV T) + Ideal.div (lossS T X 4) (countV T) + Ideal.div (lossS T X 5) (countV T) := by
  rw [val_main_v381_apply, val_main_v380_apply, val_main_v379_apply, val_main_v378_apply, val_main_v377_apply, val_main_v336_apply, val_main_v342_apply,
    val_main_v348_apply, val_main_v354_apply, val_main_v360_apply, val_main_v376_apply, v335_at hX hT h01, v341_at hX hT h01, v347_at hX hT h01,
    v353_at hX hT h01, v359_at hX hT h01, v375_at hX hT h01, v330_at hT]
  rfl

end

/-- Division by a positive count goes through the sum of the six losses. -/
theorem div_six (n : ℝ) (hn : 0 < n) (a b c d e f : EReal) :
    Ideal.div a n + Ideal.div b n + Ideal.div c n + Ideal.div d n + Ideal.div e n + Ideal.div f n = Ideal.div (a + b + c + d + e + f) n := by
  have h0 : (0 : EReal) ≤ ((1 / n : ℝ) : EReal) := by exact_mod_cast (one_div_pos.2 hn).le
  have dist : ∀ x y : EReal, x * ((1 / n : ℝ) : EReal) + y * ((1 / n : ℝ) : EReal) = (x + y) * ((1 / n : ℝ) : EReal) := fun x y => by
    rw [mul_comm x, mul_comm y, mul_comm (x + y), EReal.left_distrib_of_nonneg_of_ne_top h0 (EReal.coe_ne_top _)]
  simp only [Ideal.div_coe hn.ne', dist]

open Classical in
/-- With a valid target the count is a positive real. -/
theorem countV_pos (T : Boxes) (b : Fin 16) (h : T b 0 1 ≠ 0) : ∃ n : ℝ, 0 < n ∧ countV T = (n : EReal) := by
  refine ⟨∑ b : Fin 16, ∑ t : Fin 50, if Valid T b t then 1 else 0, ?_, ?_⟩
  · refine Finset.sum_pos' (fun b _ => Finset.sum_nonneg fun t _ => by split_ifs <;> norm_num) ⟨b, Finset.mem_univ _, ?_⟩
    refine Finset.sum_pos' (fun t _ => by split_ifs <;> norm_num) ⟨0, Finset.mem_univ _, ?_⟩
    have hv : Valid T b 0 := fun u hu => by
      have : u = 0 := Fin.le_zero_iff.1 hu
      rwa [this]
    rw [if_pos hv]
    exact one_pos
  · unfold countV
    simp only [coe_sum]
    refine Finset.sum_congr rfl fun b _ => Finset.sum_congr rfl fun t _ => ?_
    split_ifs
    · exact EReal.coe_one.symm
    · exact EReal.coe_zero.symm

end Cert.ReferenceIdeal.Hand

end
-- ==== Proof.Drawn.lean ====
/-
The precondition read: real logits, targets that are reals in [0, 1), and one image whose first target is not empty.
-/
module

public import proofs.«01_k».proof.Proof.Gen.Pre_drawn
public import proofs.«01_k».proof.Proof.KernelIn
public import Idealize.ShloMosaic.Lib.ReduceAll

@[expose] public section

noncomputable section

namespace Cert.Pre_drawn.Hand

open Cert.Pre_drawn Cert.Pre_drawn.Gen
open Cert.KernelIdeal.Hand
open Idealize.ShloMosaic Idealize.ShloMosaic.TcCoe Idealize.ShloMosaic.ValueIdx

theorem and1 (a b : BitVec 1) : IntOp.andi a b = 1#1 ↔ a = 1#1 ∧ b = 1#1 := by
  revert a b
  decide
theorem not1 (a : BitVec 1) : ~~~a = 1#1 ↔ a ≠ 1#1 := by
  revert a
  decide

variable (o : FVec Ideal S16x425x64x64 .f32) (g : FVec Ideal S16x250 .f32)

/-- The predicate taken apart. -/
theorem parts (h : fn (F := Ideal) o g = fun _ => 1#1) :
    (∀ z, max (o z) (-(o z)) < (⊤ : EReal)) ∧ (∀ z, (0 : EReal) ≤ g z ∧ g z < 1) ∧ ∃ b : Fin 16, g (ix2 b 1) ≠ (0 : EReal) := by
  haveI : Subsingleton S_.Idx := ⟨fun a b => funext fun d => d.elim0⟩
  have h0 := congrFun h (Shape.Idx.first h_S_)
  obtain ⟨h12, h3⟩ := (and1 _ _).1 h0
  obtain ⟨h1, h2⟩ := (and1 _ _).1 h12
  refine ⟨fun z => ?_, fun z => ?_, ?_⟩
  · have e := Host.reduce_andi_all _ _ _ _ _ h1 z
    have e' : BitVec.ofBool (decide (max (o z) (-(o z)) < Ideal.ofBits .f32 0x7F800000#32)) = 1 := e
    exact lt_of_lt_of_eq ((ofBool_decide_eq_one _).1 e') lit_top
  · obtain ⟨e1, e2⟩ := (and1 _ _).1 (Host.reduce_andi_all _ _ _ _ _ h2 z)
    have e1' : BitVec.ofBool (decide (Ideal.ofBits .f32 0x00000000#32 ≤ g z)) = 1 := e1
    have e2' : BitVec.ofBool (decide (g z < Ideal.ofBits .f32 0x3F800000#32)) = 1 := e2
    exact ⟨(lit_zero.trans EReal.coe_zero).ge.trans ((ofBool_decide_eq_one _).1 e1'), lt_of_lt_of_eq ((ofBool_decide_eq_one _).1 e2') (lit_one.trans EReal.coe_one)⟩
  · by_contra hn
    push Not at hn
    refine (not1 _).1 h3 (Host.reduce_andi_one _ _ _ _ _ rfl fun z => ?_)
    have hc : shapeCast S16 (extractStridedSlice S16x1 ![0, 1] g slices_S16x250_S16x1_0_1) shapeCasts_S16x1_S16 z = g (ix2 (z 0) 1) := by
      refine (shapeCast_apply _ shapeCasts_S16x1_S16 z (ix2 (z 0) 0) ?_).trans (congrArg g ?_)
      · rw [Shape.rowMajor_val_two, Shape.rowMajor_val_one]
        show (z 0).val * 1 + 0 = (z 0).val
        omega
      · funext d
        refine Fin.ext ?_
        fin_cases d
        · exact Nat.zero_add _
        · rfl
    exact (ofBool_decide_eq_one _).2 ((hc.trans (hn _)).trans (lit_zero.trans EReal.coe_zero).symm)

/-- The real numbers behind the arrays. -/
theorem reals (h : fn (F := Ideal) o g = fun _ => 1#1) :
    ∃ (T : Boxes) (X : Logits), ReadsT g T ∧ ReadsO o X ∧ (∀ b t e, 0 ≤ T b t e ∧ T b t e < 1) ∧ ∃ b, T b 0 1 ≠ 0 := by
  obtain ⟨h1, h2, b, h3⟩ := parts o g h
  have hg : ∀ z, g z = ((g z : EReal).toReal : EReal) := fun z =>
    (EReal.coe_toReal ((h2 z).2.trans (EReal.coe_lt_top 1)).ne (lt_of_lt_of_le (EReal.bot_lt_coe 0) (h2 z).1).ne').symm
  have ho : ∀ z, o z = ((o z : EReal).toReal : EReal) := fun z => by
    refine (EReal.coe_toReal (fun e => ?_) (fun e => ?_)).symm
    · exact absurd ((le_max_left _ _).trans_lt (h1 z)) (by rw [e]; exact lt_irrefl _)
    · refine absurd ((le_max_right _ _).trans_lt (h1 z)) ?_
      rw [e]
      exact lt_irrefl _
  refine ⟨fun b t e => (g (ix2 b ⟨5 * t.val + e.val, by omega⟩) : EReal).toReal, fun b a k j i => (o (ix4 b ⟨85 * a.val + k.val, by omega⟩ j i) : EReal).toReal,
    fun b t e => hg _, fun b a k j i => ho _, fun b t e => ?_, b, fun e => ?_⟩
  · have := h2 (ix2 b ⟨5 * t.val + e.val, by omega⟩)
    rw [hg] at this
    exact ⟨by exact_mod_cast this.1, by exact_mod_cast this.2⟩
  · refine h3 ((hg _).trans ?_)
    exact (congrArg Real.toEReal e).trans EReal.coe_zero

end Cert.Pre_drawn.Hand

end
-- ==== Proof.Twin.lean ====
/- The frame of the program as it is printed at the machine's words. The idealization rewrote nothing, so the two
   printings of the kernel's program are one text under two namespaces: their definitions and their entry points are
   equal by unfolding, and the frame proved of the one, at every interpretation of the floats, is a frame of the other. -/
module

public import proofs.«01_k».proof.Proof.Gen.Kernel
public import proofs.«01_k».proof.Proof.Run

@[expose] public section

set_option maxRecDepth 20000
set_option maxHeartbeats 8000000

noncomputable section

namespace Cert.Proof

open Idealize.ShloMosaic Idealize.SL.Sem

variable {F : FTy → Type} [FloatOps F]

/-- The kernel bodies of the two printings are the same, label by label. -/
theorem bodies_eq : Cert.Kernel.defs₀ (F := F) = Cert.KernelIdeal.defs₀ (F := F) := by
  refine congrArg Defs.onTc (funext fun l => funext fun a => ?_)
  match l, a with
  | ⟨0, _⟩, (t, s) => rfl
  | ⟨n + 1, h⟩, _ => exact absurd h (Nat.not_lt.2 (Nat.le_add_left _ _))

/-- So are the definitions, in which each body stands inside its pipeline. -/
theorem defs_eq : Cert.Kernel.defs (F := F) = Cert.KernelIdeal.defs (F := F) :=
  congrArg (Pipeline.defs Cert.KernelIdeal.pcfgs) bodies_eq

/-- So are the host programs. -/
theorem main_eq : Cert.Kernel.main (F := F) = Cert.KernelIdeal.main (F := F) := rfl

open Cert.KernelIdeal in
/-- The frame, of any definitions and entry point equal to those it was proved of. -/
theorem frame_of_eq (d : Defs nD τ sig (Elt F) _) (hd : d = defs (F := F)) (p) (hp : p = main (F := F))
    (m : (ℓ : Loc nD τ sig) → Buf (Elt F) ℓ) (g : Dev nD → PrngReg) :
    θ_run d (onTc (τ := τ) p) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) := by
  subst hd hp
  exact Hand.frame m g

open Cert.Kernel in
/-- The frame of the program as printed. -/
theorem frame_kernel (m : (ℓ : Loc nD τ sig) → Buf (Elt F) ℓ) (g : Dev nD → PrngReg) :
    θ_run (defs (F := F)) (onTc (τ := τ) (main (F := F))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  frame_of_eq defs defs_eq main main_eq m g

end Cert.Proof

end
-- ==== Proof.lean ====
/- The proof of the certificate's claims: the frames of the two printings of the kernel's program and of the
   reference's, the (empty) ledger of the idealization, and the equality of the two results over the extended reals. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Pre_drawn
public import proofs.«01_k».proof.Proof.KernelSum
public import proofs.«01_k».proof.Proof.RefLoss
public import proofs.«01_k».proof.Proof.Drawn
public import proofs.«01_k».proof.Proof.Twin
public import Idealize.ShloMosaic.Adequacy
public import Idealize.ShloMosaic.Init
public import Idealize.ShloMosaic.Lib.Quiescent

@[expose] public section

noncomputable section

namespace Cert.Proof

open Idealize.ShloMosaic Idealize.SL.Sem
open Cert.KernelIdeal.Hand Cert.ReferenceIdeal.Hand

/-- The reference's frame, read off its run: a host program has no semaphores. -/
theorem frame_reference [hR : Cert.ReferenceIdeal.Facts] : Cert.quiescent_ReferenceIdeal := fun m ρ _ =>
  (θ_run _ _ _).mono (fun r h => ⟨fun c => (h c).2, sem_eq_zero_of_no_sems rfl r.2⟩) (Cert.ReferenceIdeal.Value.run m ρ)

/-- The two programs' results are equal. -/
theorem values : Cert.algebraic_KernelIdeal_ReferenceIdeal_pre_drawn := fun m ρ m' ρ' hpre hargs => by
  refine ⟨fun c => Pipeline.afterTail₀ Cert.KernelIdeal.cfgs (dats m) 0 (Cert.KernelIdeal.Gen.V0 m) [Cert.KernelIdeal.Gen.hostOps1] c Cert.KernelIdeal.main_v26, ?_, ?_⟩
  · refine (θ_run _ _ _).mono (fun r h c => ⟨?_, h.1 c⟩) (θ_run_and (unchanged m ρ) (run_main m ρ))
    exact (h.2 c).2 _ (Pipeline.mem_restRefs_of Cert.KernelIdeal.main_v26 (by decide) (by decide))
  · refine (θ_run _ _ _).mono (fun r h c => ⟨(h c).1.trans ?_, (h c).2⟩) (Cert.ReferenceIdeal.Value.run m' ρ')
    obtain ⟨T, X, hT, hX, h01, b, hb⟩ := Cert.Pre_drawn.Hand.reals _ _ (hpre c)
    obtain ⟨n, hn, hc⟩ := countV_pos T b hb
    have hT' : ReadsT (m' ((c.tc : Thread Cert.ReferenceIdeal.nD Cert.ReferenceIdeal.τ).loc Cert.ReferenceIdeal.main_arg1)) T := by
      rw [(hargs c).2]
      exact hT
    have hX' : ReadsO (m' ((c.tc : Thread Cert.ReferenceIdeal.nD Cert.ReferenceIdeal.τ).loc Cert.ReferenceIdeal.main_arg0)) X := by
      rw [(hargs c).1]
      exact hX
    refine (Cert.ReferenceIdeal.Read.val_main_v381_eq (F := Ideal) (StableHlo.launchContents m' c)).trans ?_
    refine Eq.trans (funext fun z => ?_) (result m c T X hT hX h01).symm
    refine (v381_at hX' hT' h01 z).trans ?_
    rw [hc]
    exact div_six n hn _ _ _ _ _ _

theorem claim : Cert.Claim :=
  ⟨Cert.Kernel.Gen.facts, Cert.KernelIdeal.Gen.facts, Cert.ReferenceIdeal.Gen.facts, Cert.Pre_drawn.Gen.facts,
    fun m ρ _ => frame_kernel m ρ, fun m ρ _ => Cert.KernelIdeal.Hand.frame m ρ, fun m ρ _ => Cert.KernelIdeal.Hand.frame m ρ,
    frame_reference, fun m ρ _ => frame_reference m ρ trivial, trivial, values⟩

end Cert.Proof

end
